-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sortable [hPre_sortable : Cert.Pre_sortable.Facts] (m : (ℓ : Loc Cert.KernelIdeal.nD Cert.KernelIdeal.τ Cert.KernelIdeal.sig) → Buf (Elt Ideal) ℓ) : Prop :=
  ∀ c : Dev Cert.KernelIdeal.nD,
    (Cert.Pre_sortable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_sortable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_sortable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_sortable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sortable [hPre_sortable : Cert.Pre_sortable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sortable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_sortable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_sortable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_sortable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sortable [hKernelIdeal : Cert.KernelIdeal.Facts] [hPre_sortable : Cert.Pre_sortable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sortable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sortable [hReferenceIdeal : Cert.ReferenceIdeal.Facts] [hPre_sortable : Cert.Pre_sortable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sortable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sortable [hKernelIdeal : Cert.KernelIdeal.Facts] [hReferenceIdeal : Cert.ReferenceIdeal.Facts] [hPre_sortable : Cert.Pre_sortable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sortable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_KernelIdeal_ReferenceIdeal_on_settled_pre_bounded [hKernelIdeal : Cert.KernelIdeal.Facts] [hReferenceIdeal : Cert.ReferenceIdeal.Facts] [hPre_bounded : Cert.Pre_bounded.Facts] [hOn_settled : Cert.On_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![16, 2, 1, 128]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v0_0) i = v0 c i)
          ∧ (∀ i : (⟨3, ![16, 256, 2048]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![16, 2, 1, 128]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v50) i = v0 c i)
          ∧ (∀ i : (⟨3, ![16, 256, 2048]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.ReferenceIdeal.nD Cert.ReferenceIdeal.τ).loc Cert.ReferenceIdeal.main_v45) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sortable : Cert.Pre_sortable.Facts) (hPre_bounded : Cert.Pre_bounded.Facts) (hOn_settled : Cert.On_settled.Facts),
    quiescent_Kernel (hKernel := hKernel)
    ∧ quiescent_KernelIdeal (hKernelIdeal := hKernelIdeal)
    ∧ quiescent_KernelIdeal_pre_sortable (hKernelIdeal := hKernelIdeal) (hPre_sortable := hPre_sortable)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_sortable (hReferenceIdeal := hReferenceIdeal) (hPre_sortable := hPre_sortable)
    ∧ quiescent_ReferenceIdeal_pre_bounded (hReferenceIdeal := hReferenceIdeal) (hPre_bounded := hPre_bounded)
    ∧ preserves_Kernel_KernelIdeal
    ∧ algebraic_KernelIdeal_ReferenceIdeal_pre_sortable (hKernelIdeal := hKernelIdeal) (hReferenceIdeal := hReferenceIdeal) (hPre_sortable := hPre_sortable)
    ∧ algebraic_KernelIdeal_ReferenceIdeal_on_settled_pre_bounded (hKernelIdeal := hKernelIdeal) (hReferenceIdeal := hReferenceIdeal) (hPre_bounded := hPre_bounded) (hOn_settled := hOn_settled)
-- ==== On_settled.lean ====
abbrev S16x256x2048 : Shape := ⟨3, ![16, 256, 2048]⟩
abbrev S256x21 : Shape := ⟨2, ![256, 21]⟩
abbrev S16 : Shape := ⟨1, ![16]⟩
abbrev S_ : Shape := ⟨0, ![]⟩
abbrev S16x1x1 : Shape := ⟨3, ![16, 1, 1]⟩
abbrev S16x256x2046 : Shape := ⟨3, ![16, 256, 2046]⟩
abbrev S16x256 : Shape := ⟨2, ![16, 256]⟩
abbrev S16x2x1x128 : Shape := ⟨4, ![16, 2, 1, 128]⟩
abbrev S16x256x1 : Shape := ⟨3, ![16, 256, 1]⟩

class Facts : Prop where
  bcast_S_S16 : S_.BroadcastsInDim S16 (![] : Fin 0 → Fin S16.rank)
  bcast_S16_S16x1x1_0 : S16.BroadcastsInDim S16x1x1 (![0] : Fin 1 → Fin S16x1x1.rank)
  bcast_S16x1x1_S16x256x2048_0_1_2 : S16x1x1.BroadcastsInDim S16x256x2048 (![0, 1, 2] : Fin 3 → Fin S16x256x2048.rank)
  bcast_S_S16x256x2048 : S_.BroadcastsInDim S16x256x2048 (![] : Fin 0 → Fin S16x256x2048.rank)
  slices_S16x256x2048_S16x256x2046_0_0_2 : S16x256x2048.Slices ![0, 0, 2] S16x256x2046
  slices_S16x256x2048_S16x256x2046_0_0_0 : S16x256x2048.Slices ![0, 0, 0] S16x256x2046
  reducesTo_S16x256x2046_S16x256_d2 : S16x256x2046.ReducesTo [2] S16x256
  h_S_ : 0 < S_.numel
  bcast_S_S16x2x1x128 : S_.BroadcastsInDim S16x2x1x128 (![] : Fin 0 → Fin S16x2x1x128.rank)
  bcast_S16x256_S16x256x1_0_1 : S16x256.BroadcastsInDim S16x256x1 (![0, 1] : Fin 2 → Fin S16x256x1.rank)
  bcast_S16x256x1_S16x256x2048_0_1_2 : S16x256x1.BroadcastsInDim S16x256x2048 (![0, 1, 2] : Fin 3 → Fin S16x256x2048.rank)

variable [Facts]

variable {F : FTy → Type} [FloatOps F]
def comparator_f32_d2 : F .f32 → F .f32 → BitVec 1 :=
  fun l r =>
    let cst_4 := FloatOps.ofBits .f32 0x00000000#32
    let v23 := FloatOps.cmpf .oeq l cst_4
    let cst_5 := FloatOps.ofBits .f32 0x00000000#32
    let v24 := Scalar.select v23 cst_5 l
    let v25 := FloatOps.cmpf .une l l
    let cst_6 := FloatOps.ofBits .f32 0x7FC00000#32
    let v26 := Scalar.select v25 cst_6 v24
    let cst_7 := FloatOps.ofBits .f32 0x00000000#32
    let v27 := FloatOps.cmpf .oeq r cst_7
    let cst_8 := FloatOps.ofBits .f32 0x00000000#32
    let v28 := Scalar.select v27 cst_8 r
    let v29 := FloatOps.cmpf .une r r
    let cst_9 := FloatOps.ofBits .f32 0x7FC00000#32
    let v30 := Scalar.select v29 cst_9 v28
    let v31 := FloatOps.cmpfTotal .lt v26 v30
    v31

def fn_where {F : FTy → Type} [FloatOps F] (arg0 : IVec S16x256x2048 1) (arg1 : FVec F S16x256x2048 .f32) (arg2 : FVec F S16x256x2048 .f32) : FVec F S16x256x2048 .f32 :=
  let v0 : FVec F S16x256x2048 .f32 := select arg0 arg1 arg2
  v0

def fn_part1 {F : FTy → Type} [FloatOps F] (main_v10 : IVec S16x256x2048 1) (main_v18 : IVec S16x256 1) : IVec S16x2x1x128 1 × IVec S16x256x2048 1 :=
  let main_c_3 : IVec S_ 1 := constantI S_ 1 1#1
  let main_v19 : IVec S16x2x1x128 1 := broadcastInDim S16x2x1x128 ![] bcast_S_S16x2x1x128 main_c_3
  let main_v20 : IVec S16x256x1 1 := broadcastInDim S16x256x1 ![0, 1] bcast_S16x256_S16x256x1_0_1 main_v18
  let main_v21 : IVec S16x256x2048 1 := broadcastInDim S16x256x2048 ![0, 1, 2] bcast_S16x256x1_S16x256x2048_0_1_2 main_v20
  let main_v22 : IVec S16x256x2048 1 := andi main_v10 main_v21
  (main_v19, main_v22)

def fn {F : FTy → Type} [FloatOps F] (main_arg0 : FVec F S16x256x2048 .f32) (main_arg1 : FVec F S256x21 .f32) (main_arg2 : IVec S16 32) : IVec S16x2x1x128 1 × IVec S16x256x2048 1 :=
  let main_v0 : FVec F S16 .f32 := sitofp .f32 main_arg2
  let main_cst : FVec F S_ .f32 := constant S_ .f32 0x3F800000#32
  let main_v1 : FVec F S16 .f32 := broadcastInDim S16 ![] bcast_S_S16 main_cst
  let main_v2 : FVec F S16 .f32 := subf main_v0 main_v1
  let main_cst_0 : FVec F S_ .f32 := constant S_ .f32 0x3F800000#32
  let main_v3 : FVec F S16 .f32 := broadcastInDim S16 ![] bcast_S_S16 main_cst_0
  let main_v4 : FVec F S16 .f32 := maximumf main_v2 main_v3
  let main_v5 : FVec F S16x256x2048 .f32 := sitofp .f32 (iotaInDim S16x256x2048 32 2)
  let main_v6 : FVec F S16x1x1 .f32 := broadcastInDim S16x1x1 ![0] bcast_S16_S16x1x1_0 main_v4
  let main_v7 : FVec F S16x256x2048 .f32 := broadcastInDim S16x256x2048 ![0, 1, 2] bcast_S16x1x1_S16x256x2048_0_1_2 main_v6
  let main_v8 : FVec F S16x256x2048 .f32 := Host.divf main_v5 main_v7
  let main_cst_1 : FVec F S_ .f32 := constant S_ .f32 0x3F800000#32
  let main_v9 : FVec F S16x256x2048 .f32 := broadcastInDim S16x256x2048 ![] bcast_S_S16x256x2048 main_cst_1
  let main_v10 : IVec S16x256x2048 1 := cmpf .ole main_v8 main_v9
  let main_cst_2 : FVec F S_ .f32 := constant S_ .f32 0x42C80000#32
  let main_v11 : FVec F S16x256x2048 .f32 := broadcastInDim S16x256x2048 ![] bcast_S_S16x256x2048 main_cst_2
  let main_v12 : FVec F S16x256x2048 .f32 := addf main_v5 main_v11
  let main_v13 : FVec F S16x256x2048 .f32 := fn_where (F := F) main_v10 main_arg0 main_v12
  let main_v14 : FVec F S16x256x2048 .f32 := (fun x => Host.sort S16x256x2048 2 comparator_f32_d2 x) main_v13
  let main_v15 : FVec F S16x256x2046 .f32 := (extractStridedSlice S16x256x2046 ![0, 0, 2] · slices_S16x256x2048_S16x256x2046_0_0_2) main_v14
  let main_v16 : FVec F S16x256x2046 .f32 := (extractStridedSlice S16x256x2046 ![0, 0, 0] · slices_S16x256x2048_S16x256x2046_0_0_0) main_v14
  let main_v17 : IVec S16x256x2046 1 := cmpf .une main_v15 main_v16
  let main_c : IVec S_ 1 := constantI S_ 1 1#1
  let main_v18 : IVec S16x256 1 := (fun x v => Host.reduce IntOp.andi x v reducesTo_S16x256x2046_S16x256_d2 h_S_) main_v17 main_c
  fn_part1 (F := F) main_v10 main_v18
-- ==== Pre_bounded.lean ====
abbrev S16x256x2048 : Shape := ⟨3, ![16, 256, 2048]⟩
abbrev S256x21 : Shape := ⟨2, ![256, 21]⟩
abbrev S16 : Shape := ⟨1, ![16]⟩
abbrev S_ : Shape := ⟨0, ![]⟩

class Facts : Prop where
  bcast_S_S16x256x2048 : S_.BroadcastsInDim S16x256x2048 (![] : Fin 0 → Fin S16x256x2048.rank)
  bcast_S_S256x21 : S_.BroadcastsInDim S256x21 (![] : Fin 0 → Fin S256x21.rank)

variable [Facts]

def fn {F : FTy → Type} [FloatOps F] (main_arg0 : FVec F S16x256x2048 .f32) (main_arg1 : FVec F S256x21 .f32) (main_arg2 : IVec S16 32) : IVec S16x256x2048 1 × IVec S256x21 1 :=
  let main_v0 : FVec F S16x256x2048 .f32 := Host.absf main_arg0
  let main_cst : FVec F S_ .f32 := constant S_ .f32 0x41F00000#32
  let main_v1 : FVec F S16x256x2048 .f32 := broadcastInDim S16x256x2048 ![] bcast_S_S16x256x2048 main_cst
  let main_v2 : IVec S16x256x2048 1 := cmpf .ole main_v0 main_v1
  let main_v3 : FVec F S256x21 .f32 := Host.absf main_arg1
  let main_cst_0 : FVec F S_ .f32 := constant S_ .f32 0x7F800000#32
  let main_v4 : FVec F S256x21 .f32 := broadcastInDim S256x21 ![] bcast_S_S256x21 main_cst_0
  let main_v5 : IVec S256x21 1 := cmpf .olt main_v3 main_v4
  (main_v2, main_v5)
-- ==== Pre_sortable.lean ====
abbrev S16x256x2048 : Shape := ⟨3, ![16, 256, 2048]⟩
abbrev S256x21 : Shape := ⟨2, ![256, 21]⟩
abbrev S16 : Shape := ⟨1, ![16]⟩
abbrev S_ : Shape := ⟨0, ![]⟩
abbrev S16x1x1 : Shape := ⟨3, ![16, 1, 1]⟩
abbrev S16x256x2046 : Shape := ⟨3, ![16, 256, 2046]⟩

class Facts : Prop where
  bcast_S_S16 : S_.BroadcastsInDim S16 (![] : Fin 0 → Fin S16.rank)
  bcast_S16_S16x1x1_0 : S16.BroadcastsInDim S16x1x1 (![0] : Fin 1 → Fin S16x1x1.rank)
  bcast_S16x1x1_S16x256x2048_0_1_2 : S16x1x1.BroadcastsInDim S16x256x2048 (![0, 1, 2] : Fin 3 → Fin S16x256x2048.rank)
  bcast_S_S16x256x2048 : S_.BroadcastsInDim S16x256x2048 (![] : Fin 0 → Fin S16x256x2048.rank)
  bcast_S_S256x21 : S_.BroadcastsInDim S256x21 (![] : Fin 0 → Fin S256x21.rank)
  slices_S16x256x2048_S16x256x2046_0_0_2 : S16x256x2048.Slices ![0, 0, 2] S16x256x2046
  slices_S16x256x2048_S16x256x2046_0_0_0 : S16x256x2048.Slices ![0, 0, 0] S16x256x2046

variable [Facts]

variable {F : FTy → Type} [FloatOps F]
def comparator_f32_d2 : F .f32 → F .f32 → BitVec 1 :=
  fun l r =>
    let cst_7 := FloatOps.ofBits .f32 0x00000000#32
    let v31 := FloatOps.cmpf .oeq l cst_7
    let cst_8 := FloatOps.ofBits .f32 0x00000000#32
    let v32 := Scalar.select v31 cst_8 l
    let v33 := FloatOps.cmpf .une l l
    let cst_9 := FloatOps.ofBits .f32 0x7FC00000#32
    let v34 := Scalar.select v33 cst_9 v32
    let cst_10 := FloatOps.ofBits .f32 0x00000000#32
    let v35 := FloatOps.cmpf .oeq r cst_10
    let cst_11 := FloatOps.ofBits .f32 0x00000000#32
    let v36 := Scalar.select v35 cst_11 r
    let v37 := FloatOps.cmpf .une r r
    let cst_12 := FloatOps.ofBits .f32 0x7FC00000#32
    let v38 := Scalar.select v37 cst_12 v36
    let v39 := FloatOps.cmpfTotal .lt v34 v38
    v39

def fn_where {F : FTy → Type} [FloatOps F] (arg0 : IVec S16x256x2048 1) (arg1 : FVec F S16x256x2048 .f32) (arg2 : FVec F S16x256x2048 .f32) : FVec F S16x256x2048 .f32 :=
  let v0 : FVec F S16x256x2048 .f32 := select arg0 arg1 arg2
  v0

def fn_part1 {F : FTy → Type} [FloatOps F] (main_arg0 : FVec F S16x256x2048 .f32) (main_v10 : IVec S16x256x2048 1) (main_v14 : FVec F S16x256x2048 .f32) (main_v17 : IVec S16x256x2048 1) (main_v18 : FVec F S256x21 .f32) : IVec S16x256x2048 1 × IVec S256x21 1 × IVec S16x256x2048 1 × IVec S16x256x2046 1 :=
  let main_cst_4 : FVec F S_ .f32 := constant S_ .f32 0x7F800000#32
  let main_v19 : FVec F S256x21 .f32 := broadcastInDim S256x21 ![] bcast_S_S256x21 main_cst_4
  let main_v20 : IVec S256x21 1 := cmpf .olt main_v18 main_v19
  let main_cst_5 : FVec F S_ .f32 := constant S_ .f32 0x43000000#32
  let main_v21 : FVec F S16x256x2048 .f32 := broadcastInDim S16x256x2048 ![] bcast_S_S16x256x2048 main_cst_5
  let main_v22 : FVec F S16x256x2048 .f32 := mulf main_arg0 main_v21
  let main_v23 : FVec F S16x256x2048 .f32 := Host.floor main_v22
  let main_cst_6 : FVec F S_ .f32 := constant S_ .f32 0x43000000#32
  let main_v24 : FVec F S16x256x2048 .f32 := broadcastInDim S16x256x2048 ![] bcast_S_S16x256x2048 main_cst_6
  let main_v25 : FVec F S16x256x2048 .f32 := mulf main_arg0 main_v24
  let main_v26 : IVec S16x256x2048 1 := cmpf .oeq main_v23 main_v25
  let main_v27 : IVec S16x256x2048 1 := ori main_v10 main_v26
  let main_v28 : FVec F S16x256x2046 .f32 := (extractStridedSlice S16x256x2046 ![0, 0, 2] · slices_S16x256x2048_S16x256x2046_0_0_2) main_v14
  let main_v29 : FVec F S16x256x2046 .f32 := (extractStridedSlice S16x256x2046 ![0, 0, 0] · slices_S16x256x2048_S16x256x2046_0_0_0) main_v14
  let main_v30 : IVec S16x256x2046 1 := cmpf .une main_v28 main_v29
  (main_v17, main_v20, main_v27, main_v30)

def fn {F : FTy → Type} [FloatOps F] (main_arg0 : FVec F S16x256x2048 .f32) (main_arg1 : FVec F S256x21 .f32) (main_arg2 : IVec S16 32) : IVec S16x256x2048 1 × IVec S256x21 1 × IVec S16x256x2048 1 × IVec S16x256x2046 1 :=
  let main_v0 : FVec F S16 .f32 := sitofp .f32 main_arg2
  let main_cst : FVec F S_ .f32 := constant S_ .f32 0x3F800000#32
  let main_v1 : FVec F S16 .f32 := broadcastInDim S16 ![] bcast_S_S16 main_cst
  let main_v2 : FVec F S16 .f32 := subf main_v0 main_v1
  let main_cst_0 : FVec F S_ .f32 := constant S_ .f32 0x3F800000#32
  let main_v3 : FVec F S16 .f32 := broadcastInDim S16 ![] bcast_S_S16 main_cst_0
  let main_v4 : FVec F S16 .f32 := maximumf main_v2 main_v3
  let main_v5 : FVec F S16x256x2048 .f32 := sitofp .f32 (iotaInDim S16x256x2048 32 2)
  let main_v6 : FVec F S16x1x1 .f32 := broadcastInDim S16x1x1 ![0] bcast_S16_S16x1x1_0 main_v4
  let main_v7 : FVec F S16x256x2048 .f32 := broadcastInDim S16x256x2048 ![0, 1, 2] bcast_S16x1x1_S16x256x2048_0_1_2 main_v6
  let main_v8 : FVec F S16x256x2048 .f32 := Host.divf main_v5 main_v7
  let main_cst_1 : FVec F S_ .f32 := constant S_ .f32 0x3F800000#32
  let main_v9 : FVec F S16x256x2048 .f32 := broadcastInDim S16x256x2048 ![] bcast_S_S16x256x2048 main_cst_1
  let main_v10 : IVec S16x256x2048 1 := cmpf .ole main_v8 main_v9
  let main_cst_2 : FVec F S_ .f32 := constant S_ .f32 0x42C80000#32
  let main_v11 : FVec F S16x256x2048 .f32 := broadcastInDim S16x256x2048 ![] bcast_S_S16x256x2048 main_cst_2
  let main_v12 : FVec F S16x256x2048 .f32 := addf main_v5 main_v11
  let main_v13 : FVec F S16x256x2048 .f32 := fn_where (F := F) main_v10 main_arg0 main_v12
  let main_v14 : FVec F S16x256x2048 .f32 := (fun x => Host.sort S16x256x2048 2 comparator_f32_d2 x) main_v13
  let main_v15 : FVec F S16x256x2048 .f32 := Host.absf main_arg0
  let main_cst_3 : FVec F S_ .f32 := constant S_ .f32 0x41F00000#32
  let main_v16 : FVec F S16x256x2048 .f32 := broadcastInDim S16x256x2048 ![] bcast_S_S16x256x2048 main_cst_3
  let main_v17 : IVec S16x256x2048 1 := cmpf .ole main_v15 main_v16
  let main_v18 : FVec F S256x21 .f32 := Host.absf main_arg1
  fn_part1 (F := F) main_arg0 main_v10 main_v14 main_v17 main_v18
-- ==== Kernel.lean ====
abbrev S16x256x2048 : Shape := ⟨3, ![16, 256, 2048]⟩
abbrev S256x21 : Shape := ⟨2, ![256, 21]⟩
abbrev S16 : Shape := ⟨1, ![16]⟩
abbrev S_ : Shape := ⟨0, ![]⟩
abbrev S256x128 : Shape := ⟨2, ![256, 128]⟩
abbrev S1 : Shape := ⟨1, ![1]⟩
abbrev S16x2x1x128 : Shape := ⟨4, ![16, 2, 1, 128]⟩
abbrev S1x128x2048 : Shape := ⟨3, ![1, 128, 2048]⟩
abbrev S128x128 : Shape := ⟨2, ![128, 128]⟩
abbrev S1x1x1x128 : Shape := ⟨4, ![1, 1, 1, 128]⟩
abbrev S2048x128 : Shape := ⟨2, ![2048, 128]⟩
abbrev S64x1 : Shape := ⟨2, ![64, 1]⟩
abbrev S128x2048 : Shape := ⟨2, ![128, 2048]⟩
abbrev S2048x1 : Shape := ⟨2, ![2048, 1]⟩
abbrev S64x128 : Shape := ⟨2, ![64, 128]⟩
abbrev S4x2x8x128 : Shape := ⟨4, ![4, 2, 8, 128]⟩
abbrev S4x1x8x128 : Shape := ⟨4, ![4, 1, 8, 128]⟩
abbrev S2x2x16x128 : Shape := ⟨4, ![2, 2, 16, 128]⟩
abbrev S2x1x16x128 : Shape := ⟨4, ![2, 1, 16, 128]⟩
abbrev S1x2x32x128 : Shape := ⟨4, ![1, 2, 32, 128]⟩
abbrev S1x1x32x128 : Shape := ⟨4, ![1, 1, 32, 128]⟩
abbrev S128 : Shape := ⟨1, ![128]⟩

abbrev nBuf : Space → Nat
  | .hbm => 10
  | .vmem => 10
  | .smem => 1
  | _ => 0

abbrev bufTy : (tb : Table) → Fin (tcTables nBuf tb) → BufTy
  | .hbm, ⟨0, _⟩ => ⟨S16x256x2048, .f32⟩
  | .hbm, ⟨1, _⟩ => ⟨S256x21, .f32⟩
  | .hbm, ⟨2, _⟩ => ⟨S16, .i32⟩
  | .hbm, ⟨3, _⟩ => ⟨S_, .f32⟩
  | .hbm, ⟨4, _⟩ => ⟨S256x128, .f32⟩
  | .hbm, ⟨5, _⟩ => ⟨S_, .i32⟩
  | .hbm, ⟨6, _⟩ => ⟨S1, .i32⟩
  | .hbm, ⟨7, _⟩ => ⟨S256x128, .f32⟩
  | .hbm, ⟨8, _⟩ => ⟨S16x2x1x128, .f32⟩
  | .hbm, ⟨9, _⟩ => ⟨S16x256x2048, .i32⟩
  | .local _ .vmem, ⟨0, _⟩ => ⟨S1x128x2048, .f32⟩
  | .local _ .vmem, ⟨1, _⟩ => ⟨S1x128x2048, .f32⟩
  | .local _ .vmem, ⟨2, _⟩ => ⟨S128x128, .f32⟩
  | .local _ .vmem, ⟨3, _⟩ => ⟨S128x128, .f32⟩
  | .local _ .vmem, ⟨4, _⟩ => ⟨S1x1x1x128, .f32⟩
  | .local _ .vmem, ⟨5, _⟩ => ⟨S1x1x1x128, .f32⟩
  | .local _ .vmem, ⟨6, _⟩ => ⟨S1x128x2048, .i32⟩
  | .local _ .vmem, ⟨7, _⟩ => ⟨S1x128x2048, .i32⟩
  | .local _ .vmem, ⟨8, _⟩ => ⟨S2048x128, .f32⟩
  | .local _ .vmem, ⟨9, _⟩ => ⟨S2048x128, .f32⟩
  | .local _ .smem, ⟨0, _⟩ => ⟨S16, .i32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_v0_0 : Ref sig .tc := ⟨.hbm, 8, rfl⟩
abbrev main_v0_1 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c32_i32 : BitVec 32 := 32#32
  let v39 : BitVec 32 := Scalar.addi c0_i32 c32_i32
  let c1_i32 : BitVec 32 := 1#32
  ⟨c0_i32, v39, c1_i32⟩
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v155 : BitVec 32 := Scalar.muli arg9 c64_i32
  let v156 : Index := Scalar.indexCast v155
  let c0_109 : Index := 0#32
  ![v156.toNat, 0]
@[reducible] def k0_t2_loop : Scf.Loop 32 :=
  let c0_i32_15 : BitVec 32 := 0#32
  let c16_i32 : BitVec 32 := 16#32
  let v40 : BitVec 32 := Scalar.addi c0_i32_15 c16_i32
  let c1_i32_16 : BitVec 32 := 1#32
  ⟨c0_i32_15, v40, c1_i32_16⟩
def k0_off3 (k0_t2 : Fin k0_t2_loop.trips) : Fin 2 → Nat :=
  let c2_i32 : BitVec 32 := 2#32
  let c0_i32_15 : BitVec 32 := 0#32
  let c1_i32_16 : BitVec 32 := 1#32
  let arg9 : BitVec 32 := Scf.iv c0_i32_15 c1_i32_16 k0_t2
  let v155 : BitVec 32 := Scalar.muli c2_i32 arg9
  let c64_i32 : BitVec 32 := 64#32
  let v156 : BitVec 32 := Scalar.muli v155 c64_i32
  let v158 : Index := Scalar.indexCast v156
  let c0_110 : Index := 0#32
  ![v158.toNat, 0]
def k0_off4 (k0_t2 : Fin k0_t2_loop.trips) : Fin 2 → Nat :=
  let c2_i32 : BitVec 32 := 2#32
  let c0_i32_15 : BitVec 32 := 0#32
  let c1_i32_16 : BitVec 32 := 1#32
  let arg9 : BitVec 32 := Scf.iv c0_i32_15 c1_i32_16 k0_t2
  let v155 : BitVec 32 := Scalar.muli c2_i32 arg9
  let c64_i32 : BitVec 32 := 64#32
  let v156 : BitVec 32 := Scalar.muli v155 c64_i32
  let c64_i32_109 : BitVec 32 := 64#32
  let v157 : BitVec 32 := Scalar.addi v156 c64_i32_109
  let v162 : Index := Scalar.indexCast v157
  let c0_112 : Index := 0#32
  ![v162.toNat, 0]
@[reducible] def k0_t3_loop : Scf.Loop 32 :=
  let c0_i32_18 : BitVec 32 := 0#32
  let c16_i32_19 : BitVec 32 := 16#32
  let v41 : BitVec 32 := Scalar.addi c0_i32_18 c16_i32_19
  let c1_i32_20 : BitVec 32 := 1#32
  ⟨c0_i32_18, v41, c1_i32_20⟩
def k0_off5 (k0_t3 : Fin k0_t3_loop.trips) : Fin 2 → Nat :=
  let c0_i32_18 : BitVec 32 := 0#32
  let c1_i32_20 : BitVec 32 := 1#32
  let arg9 : BitVec 32 := Scf.iv c0_i32_18 c1_i32_20 k0_t3
  let c1_i32_109 : BitVec 32 := 1#32
  let v155 : BitVec 32 := Scalar.andi arg9 c1_i32_109
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let v161 : Index := Scalar.indexCast v159
  let c0_110 : Index := 0#32
  ![v161.toNat, 0]
def k0_off6 (k0_t3 : Fin k0_t3_loop.trips) : Fin 2 → Nat :=
  let c0_i32_18 : BitVec 32 := 0#32
  let c1_i32_20 : BitVec 32 := 1#32
  let arg9 : BitVec 32 := Scf.iv c0_i32_18 c1_i32_20 k0_t3
  let c1_i32_109 : BitVec 32 := 1#32
  let v155 : BitVec 32 := Scalar.andi arg9 c1_i32_109
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let c128_i32 : BitVec 32 := 128#32
  let v160 : BitVec 32 := Scalar.addi v159 c128_i32
  let v165 : Index := Scalar.indexCast v160
  let c0_112 : Index := 0#32
  ![v165.toNat, 0]
@[reducible] def k0_t4_loop : Scf.Loop 32 :=
  let c0_i32_22 : BitVec 32 := 0#32
  let c16_i32_23 : BitVec 32 := 16#32
  let v42 : BitVec 32 := Scalar.addi c0_i32_22 c16_i32_23
  let c1_i32_24 : BitVec 32 := 1#32
  ⟨c0_i32_22, v42, c1_i32_24⟩
def k0_off7 (k0_t4 : Fin k0_t4_loop.trips) : Fin 2 → Nat :=
  let c2_i32 : BitVec 32 := 2#32
  let c0_i32_22 : BitVec 32 := 0#32
  let c1_i32_24 : BitVec 32 := 1#32
  let arg9 : BitVec 32 := Scf.iv c0_i32_22 c1_i32_24 k0_t4
  let v155 : BitVec 32 := Scalar.muli c2_i32 arg9
  let c64_i32 : BitVec 32 := 64#32
  let v156 : BitVec 32 := Scalar.muli v155 c64_i32
  let v158 : Index := Scalar.indexCast v156
  let c0_110 : Index := 0#32
  ![v158.toNat, 0]
def k0_off8 (k0_t4 : Fin k0_t4_loop.trips) : Fin 2 → Nat :=
  let c2_i32 : BitVec 32 := 2#32
  let c0_i32_22 : BitVec 32 := 0#32
  let c1_i32_24 : BitVec 32 := 1#32
  let arg9 : BitVec 32 := Scf.iv c0_i32_22 c1_i32_24 k0_t4
  let v155 : BitVec 32 := Scalar.muli c2_i32 arg9
  let c64_i32 : BitVec 32 := 64#32
  let v156 : BitVec 32 := Scalar.muli v155 c64_i32
  let c64_i32_109 : BitVec 32 := 64#32
  let v157 : BitVec 32 := Scalar.addi v156 c64_i32_109
  let v162 : Index := Scalar.indexCast v157
  let c0_112 : Index := 0#32
  ![v162.toNat, 0]
@[reducible] def k0_t5_loop : Scf.Loop 32 :=
  let c0_i32_26 : BitVec 32 := 0#32
  let c16_i32_27 : BitVec 32 := 16#32
  let v43 : BitVec 32 := Scalar.addi c0_i32_26 c16_i32_27
  let c1_i32_28 : BitVec 32 := 1#32
  ⟨c0_i32_26, v43, c1_i32_28⟩
def k0_off9 (k0_t5 : Fin k0_t5_loop.trips) : Fin 2 → Nat :=
  let c0_i32_26 : BitVec 32 := 0#32
  let c1_i32_28 : BitVec 32 := 1#32
  let arg9 : BitVec 32 := Scf.iv c0_i32_26 c1_i32_28 k0_t5
  let c3_i32 : BitVec 32 := 3#32
  let v155 : BitVec 32 := Scalar.andi arg9 c3_i32
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let v161 : Index := Scalar.indexCast v159
  let c0_109 : Index := 0#32
  ![v161.toNat, 0]
def k0_off10 (k0_t5 : Fin k0_t5_loop.trips) : Fin 2 → Nat :=
  let c0_i32_26 : BitVec 32 := 0#32
  let c1_i32_28 : BitVec 32 := 1#32
  let arg9 : BitVec 32 := Scf.iv c0_i32_26 c1_i32_28 k0_t5
  let c3_i32 : BitVec 32 := 3#32
  let v155 : BitVec 32 := Scalar.andi arg9 c3_i32
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let c256_i32 : BitVec 32 := 256#32
  let v160 : BitVec 32 := Scalar.addi v159 c256_i32
  let v165 : Index := Scalar.indexCast v160
  let c0_111 : Index := 0#32
  ![v165.toNat, 0]
@[reducible] def k0_t6_loop : Scf.Loop 32 :=
  let c0_i32_30 : BitVec 32 := 0#32
  let c16_i32_31 : BitVec 32 := 16#32
  let v44 : BitVec 32 := Scalar.addi c0_i32_30 c16_i32_31
  let c1_i32_32 : BitVec 32 := 1#32
  ⟨c0_i32_30, v44, c1_i32_32⟩
def k0_off11 (k0_t6 : Fin k0_t6_loop.trips) : Fin 2 → Nat :=
  let c0_i32_30 : BitVec 32 := 0#32
  let c1_i32_32 : BitVec 32 := 1#32
  let arg9 : BitVec 32 := Scf.iv c0_i32_30 c1_i32_32 k0_t6
  let c1_i32_109 : BitVec 32 := 1#32
  let v155 : BitVec 32 := Scalar.andi arg9 c1_i32_109
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let v161 : Index := Scalar.indexCast v159
  let c0_110 : Index := 0#32
  ![v161.toNat, 0]
def k0_off12 (k0_t6 : Fin k0_t6_loop.trips) : Fin 2 → Nat :=
  let c0_i32_30 : BitVec 32 := 0#32
  let c1_i32_32 : BitVec 32 := 1#32
  let arg9 : BitVec 32 := Scf.iv c0_i32_30 c1_i32_32 k0_t6
  let c1_i32_109 : BitVec 32 := 1#32
  let v155 : BitVec 32 := Scalar.andi arg9 c1_i32_109
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let c128_i32 : BitVec 32 := 128#32
  let v160 : BitVec 32 := Scalar.addi v159 c128_i32
  let v165 : Index := Scalar.indexCast v160
  let c0_112 : Index := 0#32
  ![v165.toNat, 0]
@[reducible] def k0_t7_loop : Scf.Loop 32 :=
  let c0_i32_34 : BitVec 32 := 0#32
  let c16_i32_35 : BitVec 32 := 16#32
  let v45 : BitVec 32 := Scalar.addi c0_i32_34 c16_i32_35
  let c1_i32_36 : BitVec 32 := 1#32
  ⟨c0_i32_34, v45, c1_i32_36⟩
def k0_off13 (k0_t7 : Fin k0_t7_loop.trips) : Fin 2 → Nat :=
  let c2_i32 : BitVec 32 := 2#32
  let c0_i32_34 : BitVec 32 := 0#32
  let c1_i32_36 : BitVec 32 := 1#32
  let arg9 : BitVec 32 := Scf.iv c0_i32_34 c1_i32_36 k0_t7
  let v155 : BitVec 32 := Scalar.muli c2_i32 arg9
  let c64_i32 : BitVec 32 := 64#32
  let v156 : BitVec 32 := Scalar.muli v155 c64_i32
  let v158 : Index := Scalar.indexCast v156
  let c0_110 : Index := 0#32
  ![v158.toNat, 0]
def k0_off14 (k0_t7 : Fin k0_t7_loop.trips) : Fin 2 → Nat :=
  let c2_i32 : BitVec 32 := 2#32
  let c0_i32_34 : BitVec 32 := 0#32
  let c1_i32_36 : BitVec 32 := 1#32
  let arg9 : BitVec 32 := Scf.iv c0_i32_34 c1_i32_36 k0_t7
  let v155 : BitVec 32 := Scalar.muli c2_i32 arg9
  let c64_i32 : BitVec 32 := 64#32
  let v156 : BitVec 32 := Scalar.muli v155 c64_i32
  let c64_i32_109 : BitVec 32 := 64#32
  let v157 : BitVec 32 := Scalar.addi v156 c64_i32_109
  let v162 : Index := Scalar.indexCast v157
  let c0_112 : Index := 0#32
  ![v162.toNat, 0]
@[reducible] def k0_t8_loop : Scf.Loop 32 :=
  let c0_i32_38 : BitVec 32 := 0#32
  let c16_i32_39 : BitVec 32 := 16#32
  let v46 : BitVec 32 := Scalar.addi c0_i32_38 c16_i32_39
  let c1_i32_40 : BitVec 32 := 1#32
  ⟨c0_i32_38, v46, c1_i32_40⟩
def k0_off15 (k0_t8 : Fin k0_t8_loop.trips) : Fin 2 → Nat :=
  let c0_i32_38 : BitVec 32 := 0#32
  let c1_i32_40 : BitVec 32 := 1#32
  let arg9 : BitVec 32 := Scf.iv c0_i32_38 c1_i32_40 k0_t8
  let c7_i32 : BitVec 32 := 7#32
  let v155 : BitVec 32 := Scalar.andi arg9 c7_i32
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let v161 : Index := Scalar.indexCast v159
  let c0_109 : Index := 0#32
  ![v161.toNat, 0]
def k0_off16 (k0_t8 : Fin k0_t8_loop.trips) : Fin 2 → Nat :=
  let c0_i32_38 : BitVec 32 := 0#32
  let c1_i32_40 : BitVec 32 := 1#32
  let arg9 : BitVec 32 := Scf.iv c0_i32_38 c1_i32_40 k0_t8
  let c7_i32 : BitVec 32 := 7#32
  let v155 : BitVec 32 := Scalar.andi arg9 c7_i32
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let c512_i32 : BitVec 32 := 512#32
  let v160 : BitVec 32 := Scalar.addi v159 c512_i32
  let v165 : Index := Scalar.indexCast v160
  let c0_111 : Index := 0#32
  ![v165.toNat, 0]
@[reducible] def k0_t9_loop : Scf.Loop 32 :=
  let c0_i32_42 : BitVec 32 := 0#32
  let c16_i32_43 : BitVec 32 := 16#32
  let v47 : BitVec 32 := Scalar.addi c0_i32_42 c16_i32_43
  let c1_i32_44 : BitVec 32 := 1#32
  ⟨c0_i32_42, v47, c1_i32_44⟩
def k0_off17 (k0_t9 : Fin k0_t9_loop.trips) : Fin 2 → Nat :=
  let c0_i32_42 : BitVec 32 := 0#32
  let c1_i32_44 : BitVec 32 := 1#32
  let arg9 : BitVec 32 := Scf.iv c0_i32_42 c1_i32_44 k0_t9
  let c3_i32 : BitVec 32 := 3#32
  let v155 : BitVec 32 := Scalar.andi arg9 c3_i32
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let v161 : Index := Scalar.indexCast v159
  let c0_109 : Index := 0#32
  ![v161.toNat, 0]
def k0_off18 (k0_t9 : Fin k0_t9_loop.trips) : Fin 2 → Nat :=
  let c0_i32_42 : BitVec 32 := 0#32
  let c1_i32_44 : BitVec 32 := 1#32
  let arg9 : BitVec 32 := Scf.iv c0_i32_42 c1_i32_44 k0_t9
  let c3_i32 : BitVec 32 := 3#32
  let v155 : BitVec 32 := Scalar.andi arg9 c3_i32
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let c256_i32 : BitVec 32 := 256#32
  let v160 : BitVec 32 := Scalar.addi v159 c256_i32
  let v165 : Index := Scalar.indexCast v160
  let c0_111 : Index := 0#32
  ![v165.toNat, 0]
@[reducible] def k0_t10_loop : Scf.Loop 32 :=
  let c0_i32_46 : BitVec 32 := 0#32
  let c16_i32_47 : BitVec 32 := 16#32
  let v48 : BitVec 32 := Scalar.addi c0_i32_46 c16_i32_47
  let c1_i32_48 : BitVec 32 := 1#32
  ⟨c0_i32_46, v48, c1_i32_48⟩
def k0_off19 (k0_t10 : Fin k0_t10_loop.trips) : Fin 2 → Nat :=
  let c0_i32_46 : BitVec 32 := 0#32
  let c1_i32_48 : BitVec 32 := 1#32
  let arg9 : BitVec 32 := Scf.iv c0_i32_46 c1_i32_48 k0_t10
  let c1_i32_109 : BitVec 32 := 1#32
  let v155 : BitVec 32 := Scalar.andi arg9 c1_i32_109
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let v161 : Index := Scalar.indexCast v159
  let c0_110 : Index := 0#32
  ![v161.toNat, 0]
def k0_off20 (k0_t10 : Fin k0_t10_loop.trips) : Fin 2 → Nat :=
  let c0_i32_46 : BitVec 32 := 0#32
  let c1_i32_48 : BitVec 32 := 1#32
  let arg9 : BitVec 32 := Scf.iv c0_i32_46 c1_i32_48 k0_t10
  let c1_i32_109 : BitVec 32 := 1#32
  let v155 : BitVec 32 := Scalar.andi arg9 c1_i32_109
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let c128_i32 : BitVec 32 := 128#32
  let v160 : BitVec 32 := Scalar.addi v159 c128_i32
  let v165 : Index := Scalar.indexCast v160
  let c0_112 : Index := 0#32
  ![v165.toNat, 0]
@[reducible] def k0_t11_loop : Scf.Loop 32 :=
  let c0_i32_50 : BitVec 32 := 0#32
  let c16_i32_51 : BitVec 32 := 16#32
  let v49 : BitVec 32 := Scalar.addi c0_i32_50 c16_i32_51
  let c1_i32_52 : BitVec 32 := 1#32
  ⟨c0_i32_50, v49, c1_i32_52⟩
def k0_off21 (k0_t11 : Fin k0_t11_loop.trips) : Fin 2 → Nat :=
  let c2_i32 : BitVec 32 := 2#32
  let c0_i32_50 : BitVec 32 := 0#32
  let c1_i32_52 : BitVec 32 := 1#32
  let arg9 : BitVec 32 := Scf.iv c0_i32_50 c1_i32_52 k0_t11
  let v155 : BitVec 32 := Scalar.muli c2_i32 arg9
  let c64_i32 : BitVec 32 := 64#32
  let v156 : BitVec 32 := Scalar.muli v155 c64_i32
  let v158 : Index := Scalar.indexCast v156
  let c0_110 : Index := 0#32
  ![v158.toNat, 0]
def k0_off22 (k0_t11 : Fin k0_t11_loop.trips) : Fin 2 → Nat :=
  let c2_i32 : BitVec 32 := 2#32
  let c0_i32_50 : BitVec 32 := 0#32
  let c1_i32_52 : BitVec 32 := 1#32
  let arg9 : BitVec 32 := Scf.iv c0_i32_50 c1_i32_52 k0_t11
  let v155 : BitVec 32 := Scalar.muli c2_i32 arg9
  let c64_i32 : BitVec 32 := 64#32
  let v156 : BitVec 32 := Scalar.muli v155 c64_i32
  let c64_i32_109 : BitVec 32 := 64#32
  let v157 : BitVec 32 := Scalar.addi v156 c64_i32_109
  let v162 : Index := Scalar.indexCast v157
  let c0_112 : Index := 0#32
  ![v162.toNat, 0]
@[reducible] def k0_t12_loop : Scf.Loop 32 :=
  let c0_i32_54 : BitVec 32 := 0#32
  let c16_i32_55 : BitVec 32 := 16#32
  let v50 : BitVec 32 := Scalar.addi c0_i32_54 c16_i32_55
  let c1_i32_56 : BitVec 32 := 1#32
  ⟨c0_i32_54, v50, c1_i32_56⟩
def k0_off23 (k0_t12 : Fin k0_t12_loop.trips) : Fin 2 → Nat :=
  let c0_i32_54 : BitVec 32 := 0#32
  let c1_i32_56 : BitVec 32 := 1#32
  let arg9 : BitVec 32 := Scf.iv c0_i32_54 c1_i32_56 k0_t12
  let c15_i32 : BitVec 32 := 15#32
  let v155 : BitVec 32 := Scalar.andi arg9 c15_i32
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let v161 : Index := Scalar.indexCast v159
  let c0_109 : Index := 0#32
  ![v161.toNat, 0]
def k0_off24 (k0_t12 : Fin k0_t12_loop.trips) : Fin 2 → Nat :=
  let c0_i32_54 : BitVec 32 := 0#32
  let c1_i32_56 : BitVec 32 := 1#32
  let arg9 : BitVec 32 := Scf.iv c0_i32_54 c1_i32_56 k0_t12
  let c15_i32 : BitVec 32 := 15#32
  let v155 : BitVec 32 := Scalar.andi arg9 c15_i32
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let c1024_i32 : BitVec 32 := 1024#32
  let v160 : BitVec 32 := Scalar.addi v159 c1024_i32
  let v165 : Index := Scalar.indexCast v160
  let c0_111 : Index := 0#32
  ![v165.toNat, 0]
@[reducible] def k0_t13_loop : Scf.Loop 32 :=
  let c0_i32_58 : BitVec 32 := 0#32
  let c16_i32_59 : BitVec 32 := 16#32
  let v51 : BitVec 32 := Scalar.addi c0_i32_58 c16_i32_59
  let c1_i32_60 : BitVec 32 := 1#32
  ⟨c0_i32_58, v51, c1_i32_60⟩
def k0_off25 (k0_t13 : Fin k0_t13_loop.trips) : Fin 2 → Nat :=
  let c0_i32_58 : BitVec 32 := 0#32
  let c1_i32_60 : BitVec 32 := 1#32
  let arg9 : BitVec 32 := Scf.iv c0_i32_58 c1_i32_60 k0_t13
  let c7_i32 : BitVec 32 := 7#32
  let v155 : BitVec 32 := Scalar.andi arg9 c7_i32
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let v161 : Index := Scalar.indexCast v159
  let c0_109 : Index := 0#32
  ![v161.toNat, 0]
def k0_off26 (k0_t13 : Fin k0_t13_loop.trips) : Fin 2 → Nat :=
  let c0_i32_58 : BitVec 32 := 0#32
  let c1_i32_60 : BitVec 32 := 1#32
  let arg9 : BitVec 32 := Scf.iv c0_i32_58 c1_i32_60 k0_t13
  let c7_i32 : BitVec 32 := 7#32
  let v155 : BitVec 32 := Scalar.andi arg9 c7_i32
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let c512_i32 : BitVec 32 := 512#32
  let v160 : BitVec 32 := Scalar.addi v159 c512_i32
  let v165 : Index := Scalar.indexCast v160
  let c0_111 : Index := 0#32
  ![v165.toNat, 0]
@[reducible] def k0_t14_loop : Scf.Loop 32 :=
  let c0_i32_62 : BitVec 32 := 0#32
  let c16_i32_63 : BitVec 32 := 16#32
  let v52 : BitVec 32 := Scalar.addi c0_i32_62 c16_i32_63
  let c1_i32_64 : BitVec 32 := 1#32
  ⟨c0_i32_62, v52, c1_i32_64⟩
def k0_off27 (k0_t14 : Fin k0_t14_loop.trips) : Fin 2 → Nat :=
  let c0_i32_62 : BitVec 32 := 0#32
  let c1_i32_64 : BitVec 32 := 1#32
  let arg9 : BitVec 32 := Scf.iv c0_i32_62 c1_i32_64 k0_t14
  let c3_i32 : BitVec 32 := 3#32
  let v155 : BitVec 32 := Scalar.andi arg9 c3_i32
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let v161 : Index := Scalar.indexCast v159
  let c0_109 : Index := 0#32
  ![v161.toNat, 0]
def k0_off28 (k0_t14 : Fin k0_t14_loop.trips) : Fin 2 → Nat :=
  let c0_i32_62 : BitVec 32 := 0#32
  let c1_i32_64 : BitVec 32 := 1#32
  let arg9 : BitVec 32 := Scf.iv c0_i32_62 c1_i32_64 k0_t14
  let c3_i32 : BitVec 32 := 3#32
  let v155 : BitVec 32 := Scalar.andi arg9 c3_i32
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let c256_i32 : BitVec 32 := 256#32
  let v160 : BitVec 32 := Scalar.addi v159 c256_i32
  let v165 : Index := Scalar.indexCast v160
  let c0_111 : Index := 0#32
  ![v165.toNat, 0]
@[reducible] def k0_t15_loop : Scf.Loop 32 :=
  let c0_i32_66 : BitVec 32 := 0#32
  let c16_i32_67 : BitVec 32 := 16#32
  let v53 : BitVec 32 := Scalar.addi c0_i32_66 c16_i32_67
  let c1_i32_68 : BitVec 32 := 1#32
  ⟨c0_i32_66, v53, c1_i32_68⟩
def k0_off29 (k0_t15 : Fin k0_t15_loop.trips) : Fin 2 → Nat :=
  let c0_i32_66 : BitVec 32 := 0#32
  let c1_i32_68 : BitVec 32 := 1#32
  let arg9 : BitVec 32 := Scf.iv c0_i32_66 c1_i32_68 k0_t15
  let c1_i32_109 : BitVec 32 := 1#32
  let v155 : BitVec 32 := Scalar.andi arg9 c1_i32_109
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let v161 : Index := Scalar.indexCast v159
  let c0_110 : Index := 0#32
  ![v161.toNat, 0]
def k0_off30 (k0_t15 : Fin k0_t15_loop.trips) : Fin 2 → Nat :=
  let c0_i32_66 : BitVec 32 := 0#32
  let c1_i32_68 : BitVec 32 := 1#32
  let arg9 : BitVec 32 := Scf.iv c0_i32_66 c1_i32_68 k0_t15
  let c1_i32_109 : BitVec 32 := 1#32
  let v155 : BitVec 32 := Scalar.andi arg9 c1_i32_109
  let v156 : BitVec 32 := Scalar.subi arg9 v155
  let c2_i32 : BitVec 32 := 2#32
  let v157 : BitVec 32 := Scalar.muli v156 c2_i32
  let v158 : BitVec 32 := Scalar.addi v157 v155
  let c64_i32 : BitVec 32 := 64#32
  let v159 : BitVec 32 := Scalar.muli v158 c64_i32
  let c128_i32 : BitVec 32 := 128#32
  let v160 : BitVec 32 := Scalar.addi v159 c128_i32
  let v165 : Index := Scalar.indexCast v160
  let c0_112 : Index := 0#32
  ![v165.toNat, 0]
@[reducible] def k0_t16_loop : Scf.Loop 32 :=
  let c0_i32_70 : BitVec 32 := 0#32
  let c16_i32_71 : BitVec 32 := 16#32
  let v54 : BitVec 32 := Scalar.addi c0_i32_70 c16_i32_71
  let c1_i32_72 : BitVec 32 := 1#32
  ⟨c0_i32_70, v54, c1_i32_72⟩
def k0_off31 (k0_t16 : Fin k0_t16_loop.trips) : Fin 2 → Nat :=
  let c2_i32 : BitVec 32 := 2#32
  let c0_i32_70 : BitVec 32 := 0#32
  let c1_i32_72 : BitVec 32 := 1#32
  let arg9 : BitVec 32 := Scf.iv c0_i32_70 c1_i32_72 k0_t16
  let v155 : BitVec 32 := Scalar.muli c2_i32 arg9
  let c64_i32 : BitVec 32 := 64#32
  let v156 : BitVec 32 := Scalar.muli v155 c64_i32
  let v158 : Index := Scalar.indexCast v156
  let c0_110 : Index := 0#32
  ![v158.toNat, 0]
def k0_off32 (k0_t16 : Fin k0_t16_loop.trips) : Fin 2 → Nat :=
  let c2_i32 : BitVec 32 := 2#32
  let c0_i32_70 : BitVec 32 := 0#32
  let c1_i32_72 : BitVec 32 := 1#32
  let arg9 : BitVec 32 := Scf.iv c0_i32_70 c1_i32_72 k0_t16
  let v155 : BitVec 32 := Scalar.muli c2_i32 arg9
  let c64_i32 : BitVec 32 := 64#32
  let v156 : BitVec 32 := Scalar.muli v155 c64_i32
  let c64_i32_109 : BitVec 32 := 64#32
  let v157 : BitVec 32 := Scalar.addi v156 c64_i32_109
  let v162 : Index := Scalar.indexCast v157
  let c0_112 : Index := 0#32
  ![v162.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x256x2048 : Shape := ⟨3, ![16, 256, 2048]⟩
abbrev S256x21 : Shape := ⟨2, ![256, 21]⟩
abbrev S16 : Shape := ⟨1, ![16]⟩
abbrev S_ : Shape := ⟨0, ![]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S16x1x2048 : Shape := ⟨3, ![16, 1, 2048]⟩
abbrev S1x256x21 : Shape := ⟨3, ![1, 256, 21]⟩
abbrev S16x256x21 : Shape := ⟨3, ![16, 256, 21]⟩
abbrev S16x256x2048x1 : Shape := ⟨4, ![16, 256, 2048, 1]⟩
abbrev S1 : Shape := ⟨1, ![1]⟩
abbrev S1x1x1x1 : Shape := ⟨4, ![1, 1, 1, 1]⟩
abbrev S16x256 : Shape := ⟨2, ![16, 256]⟩
abbrev S16x2x1x128 : Shape := ⟨4, ![16, 2, 1, 128]⟩

abbrev nBuf : Space → Nat
  | .hbm => 130
  | .vmem => 0
  | .smem => 0
  | _ => 0

abbrev hbmTy0_0 (i : Nat) : BufTy := match i % 128 with
  | 0 => ⟨S16x256x2048, .f32⟩
  | 1 => ⟨S256x21, .f32⟩
  | 2 => ⟨S16, .i32⟩
  | 3 => ⟨S16, .f32⟩
  | 4 => ⟨S_, .f32⟩
  | 5 => ⟨S16, .f32⟩
  | 6 => ⟨S16, .f32⟩
  | 7 => ⟨S_, .f32⟩
  | 8 => ⟨S16, .f32⟩
  | 9 => ⟨S16, .f32⟩
  | 10 => ⟨S2048, .f32⟩
  | 11 => ⟨S1x2048, .f32⟩
  | 12 => ⟨S16x1, .f32⟩
  | 13 => ⟨S16x2048, .f32⟩
  | 14 => ⟨S16x2048, .f32⟩
  | 15 => ⟨S16x2048, .f32⟩
  | 16 => ⟨S_, .f32⟩
  | 17 => ⟨S16x2048, .f32⟩
  | 18 => ⟨S16x2048, .i1⟩
  | 19 => ⟨S16x2048, .f32⟩
  | 20 => ⟨S16x1x2048, .f32⟩
  | 21 => ⟨S_, .f32⟩
  | 22 => ⟨S16x2048, .f32⟩
  | 23 => ⟨S16x2048, .f32⟩
  | 24 => ⟨S16x256x2048, .f32⟩
  | 25 => ⟨S1x256x21, .f32⟩
  | 26 => ⟨S16x256x21, .f32⟩
  | 27 => ⟨S_, .f32⟩
  | 28 => ⟨S16x2048, .f32⟩
  | 29 => ⟨S16x2048, .f32⟩
  | 30 => ⟨S16x1x2048, .f32⟩
  | 31 => ⟨S16x256x2048, .f32⟩
  | 32 => ⟨S16x256x2048, .f32⟩
  | 33 => ⟨S16x256x2048, .i32⟩
  | 34 => ⟨S16x256x2048, .f32⟩
  | 35 => ⟨S16x256x2048, .f32⟩
  | 36 => ⟨S_, .i32⟩
  | 37 => ⟨S16x256x2048, .i32⟩
  | 38 => ⟨S16x256x2048, .i1⟩
  | 39 => ⟨S_, .i32⟩
  | 40 => ⟨S16x256x2048, .i32⟩
  | 41 => ⟨S16x256x2048, .i32⟩
  | 42 => ⟨S16x256x2048, .i32⟩
  | 43 => ⟨S16x256x2048x1, .i32⟩
  | 44 => ⟨S1, .i32⟩
  | 45 => ⟨S_, .i32⟩
  | 46 => ⟨S16x256x2048x1, .i32⟩
  | 47 => ⟨S16x256x2048x1, .i1⟩
  | 48 => ⟨S1x1x1x1, .i32⟩
  | 49 => ⟨S16x256x2048x1, .i32⟩
  | 50 => ⟨S16x256x2048x1, .i1⟩
  | 51 => ⟨S16x256x2048x1, .i1⟩
  | 52 => ⟨S_, .i1⟩
  | 53 => ⟨S16x256x2048, .i1⟩
  | 54 => ⟨S16x256x2048, .f32⟩
  | 55 => ⟨S_, .f32⟩
  | 56 => ⟨S16x256x2048, .f32⟩
  | 57 => ⟨S16x256x2048, .f32⟩
  | 58 => ⟨S_, .i32⟩
  | 59 => ⟨S16x256x2048, .i32⟩
  | 60 => ⟨S16x256x2048, .i32⟩
  | 61 => ⟨S_, .i32⟩
  | 62 => ⟨S16x256x2048, .i32⟩
  | 63 => ⟨S16x256x2048, .i32⟩
  | 64 => ⟨S_, .i32⟩
  | 65 => ⟨S16x256x2048, .i32⟩
  | 66 => ⟨S16x256x2048, .i1⟩
  | 67 => ⟨S_, .i32⟩
  | 68 => ⟨S16x256x2048, .i32⟩
  | 69 => ⟨S16x256x2048, .i32⟩
  | 70 => ⟨S16x256x2048, .i32⟩
  | 71 => ⟨S16x256x2048x1, .i32⟩
  | 72 => ⟨S1, .i32⟩
  | 73 => ⟨S_, .i32⟩
  | 74 => ⟨S16x256x2048x1, .i32⟩
  | 75 => ⟨S16x256x2048x1, .i1⟩
  | 76 => ⟨S1x1x1x1, .i32⟩
  | 77 => ⟨S16x256x2048x1, .i32⟩
  | 78 => ⟨S16x256x2048x1, .i1⟩
  | 79 => ⟨S16x256x2048x1, .i1⟩
  | 80 => ⟨S_, .i1⟩
  | 81 => ⟨S16x256x2048, .i1⟩
  | 82 => ⟨S16x256x2048, .f32⟩
  | 83 => ⟨S_, .f32⟩
  | 84 => ⟨S16x256x2048, .f32⟩
  | 85 => ⟨S16x256x2048, .f32⟩
  | 86 => ⟨S_, .f32⟩
  | 87 => ⟨S16x256x2048, .f32⟩
  | 88 => ⟨S16x256x2048, .f32⟩
  | 89 => ⟨S16x256x2048, .f32⟩
  | 90 => ⟨S16x256x2048, .f32⟩
  | 91 => ⟨S16x256x2048, .f32⟩
  | 92 => ⟨S_, .f32⟩
  | 93 => ⟨S16x256x2048, .f32⟩
  | 94 => ⟨S16x256x2048, .f32⟩
  | 95 => ⟨S_, .f32⟩
  | 96 => ⟨S16x256x2048, .f32⟩
  | 97 => ⟨S16x256x2048, .f32⟩
  | 98 => ⟨S16x256x2048, .f32⟩
  | 99 => ⟨S16x256x2048, .f32⟩
  | 100 => ⟨S16x256x2048, .i32⟩
  | 101 => ⟨S16x256x2048, .f32⟩
  | 102 => ⟨S16x256x2048, .i32⟩
  | 103 => ⟨S_, .i32⟩
  | 104 => ⟨S16x256x2048, .i32⟩
  | 105 => ⟨S16x256x2048, .i1⟩
  | 106 => ⟨S_, .i32⟩
  | 107 => ⟨S16x256x2048, .i32⟩
  | 108 => ⟨S16x256x2048, .i32⟩
  | 109 => ⟨S16x256x2048, .i32⟩
  | 110 => ⟨S16x256x2048x1, .i32⟩
  | 111 => ⟨S1, .i32⟩
  | 112 => ⟨S_, .i32⟩
  | 113 => ⟨S16x256x2048x1, .i32⟩
  | 114 => ⟨S16x256x2048x1, .i1⟩
  | 115 => ⟨S1x1x1x1, .i32⟩
  | 116 => ⟨S16x256x2048x1, .i32⟩
  | 117 => ⟨S16x256x2048x1, .i1⟩
  | 118 => ⟨S16x256x2048x1, .i1⟩
  | 119 => ⟨S_, .i1⟩
  | 120 => ⟨S16x256x2048, .i1⟩
  | 121 => ⟨S16x256x2048, .f32⟩
  | 122 => ⟨S_, .f32⟩
  | 123 => ⟨S16x256x2048, .f32⟩
  | 124 => ⟨S16x256x2048, .f32⟩
  | 125 => ⟨S16x256x2048, .f32⟩
  | 126 => ⟨S16x256x2048, .f32⟩
  | 127 => ⟨S_, .f32⟩
  | _ => ⟨S16x256x2048, .f32⟩

abbrev hbmTy0_1 (i : Nat) : BufTy := match i % 128 with
  | 0 => ⟨S16x256, .f32⟩
  | 1 => ⟨S16x2x1x128, .f32⟩
  | _ => ⟨S16x256x2048, .f32⟩

abbrev hbmTy (i : Nat) : BufTy := match i / 128 with
  | 0 => hbmTy0_0 i
  | 1 => hbmTy0_1 i
  | _ => ⟨S16x256x2048, .f32⟩

abbrev bufTy : (tb : Table) → Fin (tcTables nBuf tb) → BufTy
  | .hbm, ⟨i, _⟩ => hbmTy i
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_cst : Ref sig .tc := ⟨.hbm, 55, rfl⟩
abbrev main_call0_v14 : Ref sig .tc := ⟨.hbm, 56, rfl⟩
abbrev main_v28 : Ref sig .tc := ⟨.hbm, 57, rfl⟩
abbrev main_c : Ref sig .tc := ⟨.hbm, 58, rfl⟩
abbrev main_v29 : Ref sig .tc := ⟨.hbm, 59, rfl⟩
abbrev main_v30 : Ref sig .tc := ⟨.hbm, 60, rfl⟩
abbrev main_c_4 : Ref sig .tc := ⟨.hbm, 61, rfl⟩
abbrev main_v31 : Ref sig .tc := ⟨.hbm, 62, rfl⟩
abbrev main_v32 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_cst : Ref sig .tc := ⟨.hbm, 83, rfl⟩
abbrev main_call1_v14 : Ref sig .tc := ⟨.hbm, 84, rfl⟩
abbrev main_v33 : Ref sig .tc := ⟨.hbm, 85, rfl⟩
abbrev main_cst_5 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_cst_6 : Ref sig .tc := ⟨.hbm, 92, rfl⟩
abbrev main_v39 : Ref sig .tc := ⟨.hbm, 93, rfl⟩
abbrev main_v40 : Ref sig .tc := ⟨.hbm, 94, rfl⟩
abbrev main_cst_7 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_call2_v0 : Ref sig .tc := ⟨.hbm, 100, rfl⟩
abbrev main_call2_v1_0 : Ref sig .tc := ⟨.hbm, 101, rfl⟩
abbrev main_v45 : Ref sig .tc := ⟨.hbm, 102, rfl⟩
abbrev main_call3_c : Ref sig .tc := ⟨.hbm, 103, rfl⟩
abbrev main_call3_v0 : Ref sig .tc := ⟨.hbm, 104, rfl⟩
abbrev main_call3_v1 : Ref sig .tc := ⟨.hbm, 105, rfl⟩
abbrev main_call3_c_0 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_c_1 : Ref sig .tc := ⟨.hbm, 111, rfl⟩
abbrev main_call3_c_2 : Ref sig .tc := ⟨.hbm, 112, rfl⟩
abbrev main_call3_v6 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_c_3 : Ref sig .tc := ⟨.hbm, 119, rfl⟩
abbrev main_call3_v12 : Ref sig .tc := ⟨.hbm, 120, rfl⟩
abbrev main_call3_v13 : Ref sig .tc := ⟨.hbm, 121, rfl⟩
abbrev main_call3_cst : Ref sig .tc := ⟨.hbm, 122, rfl⟩
abbrev main_call3_v14 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_cst_8 : Ref sig .tc := ⟨.hbm, 127, rfl⟩
abbrev main_v49 : Ref sig .tc := ⟨.hbm, 128, rfl⟩
abbrev main_v50 : Ref sig .tc := ⟨.hbm, 129, rfl⟩

abbrev nD : Nat := 1
abbrev τ : Topo := Topo.v7x

variable {F : FTy → Type} [FloatOps F]
-- ==== Proof.Pad.lean ====
/- The weights as the kernel is given them: each row of 21 followed by zeros up to 128. -/
module

public import proofs.«01_k».proof.Proof.Gen.KernelIdeal.Value
public import Idealize.ShloMosaic.Lib.Routing.OpsSet
public import Idealize.ShloMosaic.Lib.Pointwise
public import Idealize.ShloMosaic.Lib.Claim
public import Idealize.ShloMosaic.Lib.StableHlo.Run

@[expose] public section

noncomputable section

namespace Cert.KernelIdeal.Pad

open Idealize.ShloMosaic Idealize.ShloMosaic.TcCoe Idealize.SL.Sem Cert.KernelIdeal Cert.KernelIdeal.Gen Idealize.ShloMosaic.Routing

variable (w : Vec Ideal S256x21 .f32)

/-- The padded weights. -/
def padded : Vec Ideal S256x128 .f32 :=
  Host.scatter scatter_S256x128_S1_S256x21_01_n_1_0 (fun _ b => b) (broadcastInDim S256x128 ![] bcast_S_S256x128 (constant (F := Ideal) S_ .f32 0x00000000#32))
    (broadcastInDim S1 ![] bcast_S_S1 (constantI S_ 32 0#32)) w

/-- The padded weights as the kernel finds them. -/
theorem entry_eq (m : (ℓ : Loc nD τ sig) → Buf (Elt Ideal) ℓ) (c : Dev nD) :
    V m c main_call0_v2 = padded (m ((c : Thread nD τ).loc main_arg1)) := by
  show StableHlo.after hostOps0 (fun b => m (c, b)) main_call0_v2 = _
  entry_read
  simp only [StableHlo.TRef.ofBuf_toBuf]
  simp only [StableHlo.TRef.toBuf, StableHlo.TRef.ofBuf, cast_eq]
  rfl

/-- Where an update lands: its own row, its own column. -/
theorem lands (k : S256x21.Idx) (idx : IVec S1 32) (h : ∀ i, idx i = 0#32) (r : Fin 256) (c : Fin 128) :
    (scatter_S256x128_S1_S256x21_01_n_1_0).resultIdx? k idx = some (ix2 r c) ↔ (k 0).val = r.val ∧ (k 1).val = c.val := by
  refine (resultIdx?_ix2 _ k idx r c).trans ?_
  have s0 : (scatter_S256x128_S1_S256x21_01_n_1_0).start k idx 0 = 0 := rfl
  have s1 : (scatter_S256x128_S1_S256x21_01_n_1_0).start k idx 1 = 0 := by
    show (if _ : _ then (idx _).toInt else 0) = 0
    split
    · rw [h]; rfl
    · rfl
  have w0 : (scatter_S256x128_S1_S256x21_01_n_1_0).window k 0 = (k 0).val := rfl
  have w1 : (scatter_S256x128_S1_S256x21_01_n_1_0).window k 1 = (k 1).val := rfl
  rw [s0, s1, w0, w1]
  omega

/-- The first 21 columns are the weights. -/
theorem padded_hit (r : Fin 256) (j : Fin 21) : padded w (ix2 r ⟨j.val, by omega⟩) = w (ix2 r j) := by
  refine scatter_set_hit _ _ _ _ _ _ (fun k hk => ?_) (ix2 r j) ((lands _ _ (fun _ => rfl) _ _).mpr ⟨rfl, rfl⟩)
  obtain ⟨h0, h1⟩ := (lands k _ (fun _ => rfl) _ _).mp hk
  refine congrArg w (funext fun a => ?_)
  match a with
  | ⟨0, _⟩ => exact Fin.ext h0
  | ⟨1, _⟩ => exact Fin.ext h1

/-- The other columns are zero. -/
theorem padded_miss (r : Fin 256) (j : Fin 128) (h : 21 ≤ j.val) : padded w (ix2 r j) = ((0 : ℝ) : EReal) := by
  refine (scatter_set_miss _ _ _ _ _ (fun k hk => ?_)).trans ?_
  · obtain ⟨h0, h1⟩ := (lands k _ (fun _ => rfl) _ _).mp hk
    have : (k 1).val < 21 := (k 1).isLt
    omega
  · pointwise
    rfl

end Cert.KernelIdeal.Pad

end
-- ==== Proof.Kern.lean ====
/- The kernel's results, read at an entry: each is what the body leaves in the block of its batch and its half of the channels. -/
module

public import proofs.«01_k».proof.Proof.Pad
public import proofs.«01_k».proof.Proof.Gen.KernelIdeal.Value
public import Idealize.ShloMosaic.Lib.Pipeline.ValueKit
public import Idealize.ShloMosaic.Lib.Pointwise

@[expose] public section

noncomputable section

namespace Cert.KernelIdeal.Whole

open Idealize.ShloMosaic Idealize.ShloMosaic.TcCoe Idealize.SL.Sem Cert.KernelIdeal Cert.KernelIdeal.Gen

variable (m : (ℓ : Loc nD τ sig) → Buf (Elt Ideal) ℓ) (c : Dev nD)

/-- The grid point of a batch and a half of the channels. -/
theorem point_exists : ∀ b : Fin 16, ∀ h : Fin 2, ∃ t : Fin cfg0.N, ((grid0.coords t) 0).val = b.val ∧ ((grid0.coords t) 1).val = h.val :=
  (by decide +kernel : ∀ b : Fin 16, ∀ h : Fin 2, ∃ t : Fin grid0.N, ((grid0.coords t) 0).val = b.val ∧ ((grid0.coords t) 1).val = h.val)

/-- The counts: one block for every step. -/
theorem at0 : ∀ t : Fin cfg0.N, win0_0.index t = ![0] := (by decide +kernel : ∀ t : Fin grid0.N, win0_0.index t = ![0])
/-- The entries: the block of the batch and the half of the channels. -/
theorem at1 : ∀ t : Fin cfg0.N, win0_1.index t = ![((grid0.coords t) 0).val, ((grid0.coords t) 1).val, 0] :=
  (by decide +kernel : ∀ t : Fin grid0.N, win0_1.index t = ![((grid0.coords t) 0).val, ((grid0.coords t) 1).val, 0])
/-- The weights: the block of the half of the channels. -/
theorem at2 : ∀ t : Fin cfg0.N, win0_2.index t = ![((grid0.coords t) 1).val, 0] :=
  (by decide +kernel : ∀ t : Fin grid0.N, win0_2.index t = ![((grid0.coords t) 1).val, 0])
/-- The pooled sums: the block of the batch and the half. -/
theorem at3 : ∀ t : Fin cfg0.N, win0_3.index t = ![((grid0.coords t) 0).val, ((grid0.coords t) 1).val, 0, 0] :=
  (by decide +kernel : ∀ t : Fin grid0.N, win0_3.index t = ![((grid0.coords t) 0).val, ((grid0.coords t) 1).val, 0, 0])
/-- The permutation: the block of the batch and the half. -/
theorem at4 : ∀ t : Fin cfg0.N, win0_4.index t = ![((grid0.coords t) 0).val, ((grid0.coords t) 1).val, 0] :=
  (by decide +kernel : ∀ t : Fin grid0.N, win0_4.index t = ![((grid0.coords t) 0).val, ((grid0.coords t) 1).val, 0])

variable (t : Fin cfg0.N) (b : Fin 16) (h : Fin 2) (hb : ((grid0.coords t) 0).val = b.val) (hh : ((grid0.coords t) 1).val = h.val)

/-- The counts at a point. -/
theorem counts_at (j : Fin 16) : (iblk m c 0 t : Vec Ideal S16 .i32) (ix1 j) = m ((c : Thread nD τ).loc main_arg2) (ix1 j) := by
  rw [← V_main_arg2 m c]
  unfold iblk
  show V m c main_arg2 _ = V m c main_arg2 _
  congr 1
  funext a
  apply Fin.ext
  match a with
  | ⟨0, _⟩ =>
    blk_simp [at0]

include hb hh in
/-- The entries at a point. -/
theorem block_at (l : Fin 128) (s : Fin 2048) :
    (iblk m c 1 t : Vec Ideal S1x128x2048 .f32) (ix3 0 l s) = m ((c : Thread nD τ).loc main_arg0) (ix3 b ⟨h.val * 128 + l.val, by omega⟩ s) := by
  rw [← V_main_arg0 m c]
  unfold iblk
  show V m c main_arg0 _ = V m c main_arg0 _
  congr 1
  funext a
  apply Fin.ext
  match a with
  | ⟨0, _⟩ =>
    blk_simp [at1]
    rw [hb]; rfl
  | ⟨1, _⟩ =>
    blk_simp [at1]
    rw [hh]
  | ⟨2, _⟩ =>
    blk_simp [at1]

include hh in
/-- The padded weights at a point. -/
theorem weights_at (l j : Fin 128) :
    (iblk m c 2 t : Vec Ideal S128x128 .f32) (ix2 l j) = Pad.padded (m ((c : Thread nD τ).loc main_arg1)) (ix2 ⟨h.val * 128 + l.val, by omega⟩ j) := by
  rw [← Pad.entry_eq m c]
  unfold iblk
  show V m c main_call0_v2 _ = V m c main_call0_v2 _
  congr 1
  funext a
  apply Fin.ext
  match a with
  | ⟨0, _⟩ =>
    blk_simp [at2]
    rw [hh]
  | ⟨1, _⟩ =>
    blk_simp [at2]

include hb hh in
/-- The first result at an entry. -/
theorem first_at (l : Fin 128) :
    ((dats m 0 c).arrAt 3 cfg0.N : Vec Ideal S16x2x1x128 .f32) (ix4 b h 0 l) = out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (ix4 0 0 0 l) := by
  have e := congrFun ((Value.blocks3 m c t (flush0_3 t)).trans (Value.flushed3_A m c t)) (ix4 0 0 0 l)
  refine Eq.trans ?_ (e.trans ?_)
  · show (dats m 0 c).arrAt 3 cfg0.N _ = (dats m 0 c).arrAt 3 cfg0.N _
    congr 1
    funext a
    apply Fin.ext
    match a with
    | ⟨0, _⟩ =>
      blk_simp [at3]
      rw [hb]; rfl
    | ⟨1, _⟩ =>
      blk_simp [at3]
      rw [hh]; rfl
    | ⟨2, _⟩ =>
      blk_simp [at3]
    | ⟨3, _⟩ =>
      blk_simp [at3]
  · rfl

include hb hh in
/-- The second result at an entry. -/
theorem second_at (l : Fin 128) (s : Fin 2048) :
    ((dats m 0 c).arrAt 4 cfg0.N : Vec Ideal S16x256x2048 .i32) (ix3 b ⟨h.val * 128 + l.val, by omega⟩ s) = out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (ix3 0 l s) := by
  have e := congrFun ((Value.blocks4 m c t (flush0_4 t)).trans (Value.flushed4_A m c t)) (ix3 0 l s)
  refine Eq.trans ?_ (e.trans ?_)
  · show (dats m 0 c).arrAt 4 cfg0.N _ = (dats m 0 c).arrAt 4 cfg0.N _
    congr 1
    funext a
    apply Fin.ext
    match a with
    | ⟨0, _⟩ =>
      blk_simp [at4]
      rw [hb]; rfl
    | ⟨1, _⟩ =>
      blk_simp [at4]
      rw [hh]
    | ⟨2, _⟩ =>
      blk_simp [at4]
  · rfl

end Cert.KernelIdeal.Whole

end
-- ==== Proof.Take.lean ====
/- What the reference's host code reads of a table at places along the last axis: where every place is inside the table, the
   table's entry there. -/
module

public import proofs.«01_k».proof.Proof.Gen.ReferenceIdeal
public import Idealize.ShloMosaic.Lib.Pointwise
public import Idealize.ShloMosaic.Lib.IdealHost
public import Idealize.ShloMosaic.Lib.ValueIdxCore
public import Idealize.ShloMosaic.Lib.ReduceAll

@[expose] public section

noncomputable section

namespace Cert.ReferenceIdeal.Read

open Idealize.ShloMosaic Idealize.ShloMosaic.TcCoe Cert.ReferenceIdeal.Gen

/-- The dimension numbers of a read along the last of three axes. -/
abbrev lastDims (N : ℕ) (wf : GatherDims.WF ⟨3, ![16, 256, N]⟩ S16x256x2048x1 S16x256x2048 [] [2] [0, 1] [2] [0, 1] 3 ![1, 1, 1]) :
    GatherDims ⟨3, ![16, 256, N]⟩ S16x256x2048x1 S16x256x2048 where
  offsetDims := []
  collapsedSliceDims := [2]
  operandBatchingDims := [0, 1]
  startIndicesBatchingDims := [0, 1]
  startIndexMap := [2]
  indexVectorDim := 3
  sliceSizes := ![1, 1, 1]
  wf := wf

/-- A gather along the last axis reads the place, kept inside the table. -/
theorem gather_last (N : ℕ) (hN : 0 < N)
    (wf : GatherDims.WF ⟨3, ![16, 256, N]⟩ S16x256x2048x1 S16x256x2048 [] [2] [0, 1] [2] [0, 1] 3 ![1, 1, 1])
    (x : (⟨3, ![16, 256, N]⟩ : Shape).Idx → EReal) (idx : IVec S16x256x2048x1 32) (b : Fin 16) (ch : Fin 256) (k : Fin 2048) :
    Host.gather (lastDims N wf) x idx (ix3 b ch k) =
      x (ix3 b ch ⟨min (idx (ix4 b ch k 0)).toInt.toNat (N - 1), by omega⟩) := by
  unfold Host.gather
  congr 1
  funext a
  refine Fin.ext ?_
  show (lastDims N wf).start (ix3 b ch k) idx a + (lastDims N wf).batchCoord (ix3 b ch k) a + (lastDims N wf).offCoord (ix3 b ch k) a = _
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.start_batching _ _ _ _ (show (0 : Fin 3) ∈ [0, 1] by decide),
      GatherDims.offCoord_eq_zero _ _ _ (fun h => ((GatherDims.mem_sKept _ _).mp h).2 (show (0 : Fin 3) ∈ [0, 1] by decide))]
    simp only [Nat.zero_add, Nat.add_zero]
    unfold GatherDims.batchCoord
    rw [dif_pos (show (0 : Fin 3) ∈ [0, 1] by decide)]
    rfl
  · rw [GatherDims.start_batching _ _ _ _ (show (1 : Fin 3) ∈ [0, 1] by decide),
      GatherDims.offCoord_eq_zero _ _ _ (fun h => ((GatherDims.mem_sKept _ _).mp h).2 (show (1 : Fin 3) ∈ [0, 1] by decide))]
    simp only [Nat.zero_add, Nat.add_zero]
    unfold GatherDims.batchCoord
    rw [dif_pos (show (1 : Fin 3) ∈ [0, 1] by decide)]
    rfl
  · rw [GatherDims.batchCoord_eq_zero _ _ _ (show (2 : Fin 3) ∉ [0, 1] by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastDims N wf).startIndexMap from List.mem_singleton.mpr rfl)]
    have hsi : (lastDims N wf).siIdx (ix3 b ch k) ⟨List.idxOf (2 : Fin 3) (lastDims N wf).startIndexMap,
        List.idxOf_lt_length_iff.2 (List.mem_singleton.mpr rfl)⟩ = ix4 b ch k 0 := by
      funext z; refine Fin.ext ?_
      match z with
      | ⟨0, _⟩ => rfl
      | ⟨1, _⟩ => rfl
      | ⟨2, _⟩ => rfl
      | ⟨3, _⟩ => rfl
    rw [hsi]
    rfl

/-- The places, a negative one counted from the end, as the host code reads them. -/
def places (size : BitVec 32) (idx : IVec S16x256x2048 32) : IVec S16x256x2048x1 32 :=
  shapeCast S16x256x2048x1 (select (cmpi .slt idx (broadcastInDim S16x256x2048 ![] bcast_S_S16x256x2048 (constantI S_ 32 0#32)))
    (addi idx (broadcastInDim S16x256x2048 ![] bcast_S_S16x256x2048 (constantI S_ 32 size))) idx) shapeCasts_S16x256x2048_S16x256x2048x1

/-- Whether a place is inside the table. -/
def inside (size top : BitVec 32) (idx : IVec S16x256x2048 32) : IVec S16x256x2048 1 :=
  Host.reduce IntOp.andi
    (andi (cmpi .sge (places size idx) (broadcastInDim S16x256x2048x1 ![] bcast_S_S16x256x2048x1 (constantI S_ 32 0#32)))
      (cmpi .sle (places size idx) (broadcastInDim S16x256x2048x1 ![0, 1, 2, 3] bcast_S1x1x1x1_S16x256x2048x1_0_1_2_3
        (broadcastInDim S1x1x1x1 ![3] bcast_S1_S1x1x1x1_3 (constantI S1 32 top)))))
    (constantI S_ 1 1#1) reducesTo_S16x256x2048x1_S16x256x2048_d3 h_S_

/-- The host code's read along the last axis. -/
def take (N : ℕ) (wf : GatherDims.WF ⟨3, ![16, 256, N]⟩ S16x256x2048x1 S16x256x2048 [] [2] [0, 1] [2] [0, 1] 3 ![1, 1, 1])
    (size top : BitVec 32) (x : FVec Ideal ⟨3, ![16, 256, N]⟩ .f32) (idx : IVec S16x256x2048 32) : FVec Ideal S16x256x2048 .f32 :=
  select (inside size top idx) (Host.gather (lastDims N wf) x (places size idx))
    (broadcastInDim S16x256x2048 ![] bcast_S_S16x256x2048 (constant S_ .f32 0x7FC00000#32))

/-- A small number, read from its word. -/
theorem toInt_small (v : ℕ) (hv : v < 2048) : (BitVec.ofNat 32 v).toInt = v := by
  have h : (BitVec.ofNat 32 v).toNat = v := by rw [BitVec.toNat_ofNat]; omega
  rw [BitVec.toInt_eq_toNat_of_lt (by omega), h]

/-- A place that is not negative is read as it is. -/
theorem places_at (size : BitVec 32) (idx : IVec S16x256x2048 32) (v : ℕ) (hv : v < 2048) (b : Fin 16) (ch : Fin 256) (k : Fin 2048) (z : Fin 1)
    (h : idx (ix3 b ch k) = BitVec.ofNat 32 v) : places size idx (ix4 b ch k z) = BitVec.ofNat 32 v := by
  have h0 : ¬ (BitVec.ofNat 32 v).toInt < (0#32).toInt := by
    rw [toInt_small v hv]; simp
  pointwise [places]
  simp only [h]
  have hc : IntOp.cmpi .slt (BitVec.ofNat 32 v) 0#32 = 0#1 := by
    simp only [IntOp.cmpi, BitVec.slt, decide_eq_false h0]; rfl
  rw [hc]
  rfl

/-- A conjunction of set bits is set. -/
theorem foldl_ones {α : Type} (l : List α) (f : α → BitVec 1) (hf : ∀ a, f a = 1#1) :
    l.foldl (fun r a => IntOp.andi r (f a)) 1#1 = 1#1 := by
  induction l with
  | nil => rfl
  | cons a l ih => rw [List.foldl_cons, hf a]; exact ih

/-- Places inside the table are found to be so. -/
theorem inside_at (size top : BitVec 32) (idx : IVec S16x256x2048 32) (n : ℕ) (hn : n < 2048) (ht : top = BitVec.ofNat 32 n)
    (h : ∀ j, ∃ v ≤ n, idx j = BitVec.ofNat 32 v) (j : S16x256x2048.Idx) : inside size top idx j = 1#1 := by
  refine Host.reduce_andi_one _ _ _ _ _ rfl fun i => ?_
  obtain ⟨b, ch, k, z, rfl⟩ : ∃ (b : Fin 16) (ch : Fin 256) (k : Fin 2048) (z : Fin 1), i = ix4 b ch k z := ⟨i 0, i 1, i 2, i 3, by
    funext a
    match a with
    | ⟨0, _⟩ => rfl
    | ⟨1, _⟩ => rfl
    | ⟨2, _⟩ => rfl
    | ⟨3, _⟩ => rfl⟩
  obtain ⟨v, hv, h⟩ := h (ix3 b ch k)
  have hp := places_at size idx v (by omega) b ch k z h
  pointwise
  simp only [hp, ht]
  have hc : IntOp.cmpi .sge (BitVec.ofNat 32 v) 0#32 = 1#1 := by
    have h0 : (0#32).toInt ≤ (BitVec.ofNat 32 v).toInt := by rw [toInt_small v (by omega)]; simp
    simp only [IntOp.cmpi, BitVec.sle, decide_eq_true h0]; rfl
  have hd : IntOp.cmpi .sle (BitVec.ofNat 32 v) (BitVec.ofNat 32 n) = 1#1 := by
    have h0 : (BitVec.ofNat 32 v).toInt ≤ (BitVec.ofNat 32 n).toInt := by rw [toInt_small v (by omega), toInt_small n hn]; omega
    simp only [IntOp.cmpi, BitVec.sle, decide_eq_true h0]; rfl
  rw [hc, hd]
  rfl

/-- A read along the last axis at a known place. -/
theorem take_at (N : ℕ) (hN : 0 < N) (hN' : N ≤ 2048) (wf : GatherDims.WF ⟨3, ![16, 256, N]⟩ S16x256x2048x1 S16x256x2048 [] [2] [0, 1] [2] [0, 1] 3 ![1, 1, 1])
    (size top : BitVec 32) (ht : top = BitVec.ofNat 32 (N - 1)) (x : FVec Ideal ⟨3, ![16, 256, N]⟩ .f32) (idx : IVec S16x256x2048 32)
    (h : ∀ j, ∃ v : Fin N, idx j = BitVec.ofNat 32 v) (b : Fin 16) (ch : Fin 256) (k : Fin 2048) (v : Fin N)
    (hv : idx (ix3 b ch k) = BitVec.ofNat 32 v) : take N wf size top x idx (ix3 b ch k) = x (ix3 b ch v) := by
  have hin := inside_at size top idx (N - 1) (by omega) ht (fun j => by obtain ⟨w, hw⟩ := h j; exact ⟨w, by omega, hw⟩) (ix3 b ch k)
  unfold take
  rw [Idealize.ShloMosaic.ValueIdx.select_apply, hin, gather_last N hN, Scalar.select, if_pos (show (1#1 : BitVec 1) = 1 from rfl)]
  refine congrArg (fun w => x (ix3 b ch w)) (Fin.ext ?_)
  show min (places size idx (ix4 b ch k 0)).toInt.toNat (N - 1) = v
  rw [places_at size idx v (by omega) b ch k 0 hv, toInt_small v (by omega)]
  have := v.isLt
  simp
  omega

end Cert.ReferenceIdeal.Read

end
-- ==== Proof.Plain.lean ====
/- The numbers both programs compute for one row of entries, as real numbers, and the readings of the operations that give them. -/
module

public import proofs.«01_k».proof.Proof.Take

@[expose] public section

noncomputable section

namespace Cert.Proof.Plain

open Idealize.ShloMosaic

/-- The divisor: the count less one, at least one. -/
def den (k : BitVec 32) : ℝ := max ((k.toInt : ℝ) - 1) 1

/-- The divisor is positive. -/
theorem den_pos (k : BitVec 32) : 0 < den k := lt_of_lt_of_le one_pos (le_max_right _ _)

/-- A place over the divisor. -/
def quot (k : BitVec 32) (s : Fin 2048) : ℝ := (s.val : ℝ) / den k

/-- A place is within the count. -/
def Valid (k : BitVec 32) (s : Fin 2048) : Prop := quot k s ≤ 1

/-- The quotient grows with the place. -/
theorem quot_mono (k : BitVec 32) {s t : Fin 2048} (h : s ≤ t) : quot k s ≤ quot k t :=
  div_le_div_of_nonneg_right (by exact_mod_cast h) (den_pos k).le

/-- The places within the count are the first ones. -/
theorem Valid.of_le {k : BitVec 32} {s t : Fin 2048} (h : s ≤ t) (ht : Valid k t) : Valid k s := (quot_mono k h).trans ht

/-- The quotient is not negative. -/
theorem quot_nonneg (k : BitVec 32) (s : Fin 2048) : 0 ≤ quot k s := div_nonneg (Nat.cast_nonneg _) (den_pos k).le

/-- Where a place falls on the table's axis, between 0 and 20. -/
def pos (k : BitVec 32) (s : Fin 2048) : ℝ := 20 * min (quot k s) 1

/-- The position among the weights is not negative. -/
theorem pos_nonneg (k : BitVec 32) (s : Fin 2048) : 0 ≤ pos k s := mul_nonneg (by norm_num) (le_min (quot_nonneg k s) zero_le_one)

/-- The position among the weights is at most 20. -/
theorem pos_le (k : BitVec 32) (s : Fin 2048) : pos k s ≤ 20 := by
  unfold pos
  have := min_le_right (quot k s) 1
  linarith

/-- The table's entry at or before it. -/
def lo (k : BitVec 32) (s : Fin 2048) : Fin 21 := ⟨⌊pos k s⌋₊, by
  have : ⌊pos k s⌋₊ ≤ 20 := Nat.floor_le_of_le (by simpa using pos_le k s)
  omega⟩

/-- The next one, the last having none. -/
def hi (k : BitVec 32) (s : Fin 2048) : Fin 21 := ⟨min ((lo k s).val + 1) 20, by omega⟩

/-- How far between the two. -/
def fr (k : BitVec 32) (s : Fin 2048) : ℝ := pos k s - ((lo k s).val : ℝ)

/-- The whole part of the position. -/
theorem floor_pos (k : BitVec 32) (s : Fin 2048) : ⌊pos k s⌋ = ((lo k s).val : ℤ) :=
  (Int.natCast_floor_eq_floor (pos_nonneg k s)).symm

/-- The interpolated table entry. -/
def wv (W : Fin 21 → ℝ) (k : BitVec 32) (s : Fin 2048) : ℝ := (1 - fr k s) * W (lo k s) + fr k s * W (hi k s)

open Classical in
/-- An entry, lowered beyond the count. -/
def low (X : Fin 2048 → ℝ) (k : BitVec 32) (s : Fin 2048) : ℝ := if Valid k s then X s else X s - 99999

/-- A quotient of reals. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The larger of two reals. -/
theorem coe_max (a b : ℝ) : max (a : EReal) (b : EReal) = ((max a b : ℝ) : EReal) := (EReal.coe_strictMono.monotone.map_max).symm

/-- The smaller of two reals. -/
theorem coe_min (a b : ℝ) : min (a : EReal) (b : EReal) = ((min a b : ℝ) : EReal) := (EReal.coe_strictMono.monotone.map_min).symm

/-- An integer as a real. -/
theorem sitofp_real (k : BitVec 32) : (FloatOps.sitofp .f32 k : Ideal .f32) = ((k.toInt : ℝ) : EReal) := rfl

/-- A place as a real. -/
theorem sitofp_place (s : ℕ) (h : s < 2048) : (FloatOps.sitofp .f32 (BitVec.ofNat 32 s) : Ideal .f32) = ((s : ℝ) : EReal) := by
  rw [sitofp_real, Cert.ReferenceIdeal.Read.toInt_small s h]
  simp

/-- The quotient of a place and the divisor, over the reals. -/
theorem quot_real (k : BitVec 32) (s : Fin 2048) :
    Ideal.div (FloatOps.sitofp .f32 (BitVec.ofNat 32 s.val) : Ideal .f32) (max ((FloatOps.sitofp .f32 k : Ideal .f32) - 1 : EReal) 1) = ((quot k s : ℝ) : EReal) := by
  rw [sitofp_place _ s.isLt, sitofp_real, ← EReal.coe_one, ← EReal.coe_sub, coe_max]
  exact div_real _ _ (den_pos k).ne'

/-- The literal 20. -/
theorem twenty : Ideal.ofBits .f32 0x41A00000#32 = ((20 : ℝ) : EReal) := by
  simp [Ideal.ofBits, Ideal.ieee, -EReal.coe_mul] <;> norm_num

/-- The literal -99999. -/
theorem lowering : Ideal.ofBits .f32 0xC7C34F80#32 = ((-99999 : ℝ) : EReal) := by
  simp [Ideal.ofBits, Ideal.ieee, -EReal.coe_mul] <;> norm_num

/-- The literal 99999. -/
theorem drop : Ideal.ofBits .f32 0x47C34F80#32 = ((99999 : ℝ) : EReal) := by
  simp [Ideal.ofBits, Ideal.ieee, -EReal.coe_mul] <;> norm_num

/-- The literal 128. -/
theorem grid : Ideal.ofBits .f32 0x43000000#32 = ((128 : ℝ) : EReal) := by
  simp [Ideal.ofBits, Ideal.ieee, -EReal.coe_mul] <;> norm_num

/-- The literal 12795904. -/
theorem shift : Ideal.ofBits .f32 0x4B434000#32 = ((12795904 : ℝ) : EReal) := by
  simp [Ideal.ofBits, Ideal.ieee, -EReal.coe_mul] <;> norm_num

/-- The literal 2048. -/
theorem width : Ideal.ofBits .f32 0x45000000#32 = ((2048 : ℝ) : EReal) := by
  simp [Ideal.ofBits, Ideal.ieee, -EReal.coe_mul] <;> norm_num

/-- The position among the weights, over the reals. -/
theorem pos_real (k : BitVec 32) (s : Fin 2048) :
    Ideal.ofBits .f32 0x41A00000#32 * min ((quot k s : ℝ) : EReal) 1 = ((pos k s : ℝ) : EReal) := by
  rw [twenty, ← EReal.coe_one, coe_min, ← EReal.coe_mul]
  rfl

/-- The whole part of the position, over the reals. -/
theorem floor_real (k : BitVec 32) (s : Fin 2048) : Ideal.liftRound Int.floor ((pos k s : ℝ) : EReal) = (((lo k s).val : ℝ) : EReal) := by
  show (((⌊pos k s⌋ : ℤ) : ℝ) : EReal) = _
  rw [floor_pos]
  simp

/-- A small natural number converts to itself. -/
theorem fptosi_nat (v : ℕ) (h : v < 2048) : FloatOps.fptosi (F := Ideal) 32 (φ := .f32) ((v : ℝ) : EReal) = BitVec.ofNat 32 v := by
  show BitVec.ofInt 32 (max _ (min _ (if (0 : ℝ) ≤ (v : ℝ) then ⌊(v : ℝ)⌋ else ⌈(v : ℝ)⌉))) = _
  rw [if_pos (Nat.cast_nonneg v), Int.floor_natCast, min_eq_right (by norm_num; omega), max_eq_right (by norm_num)]
  exact BitVec.ofInt_natCast 32 v

/-- The bit of the comparison with 1 is set within the count. -/
theorem le_one_bit (k : BitVec 32) (s : Fin 2048) :
    BitVec.ofBool (decide (((quot k s : ℝ) : EReal) ≤ 1)) = 1#1 ↔ Valid k s := by
  have e : ((quot k s : ℝ) : EReal) ≤ 1 ↔ Valid k s := by
    rw [← EReal.coe_one, EReal.coe_le_coe_iff]
    rfl
  by_cases h : Valid k s
  · rw [decide_eq_true (e.mpr h)]; exact ⟨fun _ => h, fun _ => rfl⟩
  · rw [decide_eq_false (fun c => h (e.mp c))]; exact ⟨fun c => absurd c (by decide), fun c => absurd c h⟩

end Cert.Proof.Plain

end
-- ==== Proof.Net.lean ====
/- What a row's sort does, apart from any printed program: the exchanges of Batcher's network carry the keys and the places alike,
   the network leaves the keys ascending, and two rounds of exchanges between equal neighbours put the places of equal keys in
   order, if no key occurs three times. A rearrangement that ascends in (key, place) is the only one. -/
module

public import Idealize.ShloMosaic.Lib.SortNet.Sorts
public import Mathlib.Data.Prod.Lex
public import Mathlib.Order.Fin.Basic

@[expose] public section

namespace Cert.Proof.Net

open Idealize.ShloMosaic.SortNet

section moves

variable {α β : Type} [LinearOrder α]

/-- `K'` and `I'` are `K` and `I` rearranged alike, and `K'` is what the network `N` makes of `K`. -/
def Moves (N : Network (2 ^ 11)) (K : Fin (2 ^ 11) → α) (I : Fin (2 ^ 11) → β) (K' : Fin (2 ^ 11) → α) (I' : Fin (2 ^ 11) → β) :
    Prop :=
  (∃ π : Equiv.Perm (Fin (2 ^ 11)), (∀ i, K' i = K (π i)) ∧ ∀ i, I' i = I (π i)) ∧ K' = Network.apply N K

/-- Two movements one after the other. -/
theorem Moves.trans {N M : Network (2 ^ 11)} {K K' K'' : Fin (2 ^ 11) → α} {I I' I'' : Fin (2 ^ 11) → β}
    (h : Moves N K I K' I') (h' : Moves M K' I' K'' I'') : Moves (N ++ M) K I K'' I'' := by
  obtain ⟨⟨π, hK, hI⟩, hN⟩ := h
  obtain ⟨⟨ρ, hK', hI'⟩, hM⟩ := h'
  refine ⟨⟨ρ.trans π, fun i => ?_, fun i => ?_⟩, ?_⟩
  · rw [hK', hK]; rfl
  · rw [hI', hI]; rfl
  · rw [Network.apply_append, ← hN, hM]

/-- The exchanges at distance `2 ^ s` in the level that sorts blocks of `2 ^ (l + 1)`. -/
def exch (l s : ℕ) : Network (2 ^ 11) := stage 11 s fun i => decide (i.val &&& 2 ^ (l + 1) = 0) == false

/-- A place and its partner differ in the stride's bit. -/
theorem testBit_partner_self {s : ℕ} (hs : s < 11) (i : Fin (2 ^ 11)) : (partner 11 s i).val.testBit s = !i.val.testBit s := by
  rw [partner_val hs, Nat.testBit_xor, Nat.testBit_two_pow_self]; simp

/-- A place and its partner agree in the other bits. -/
theorem testBit_partner_ne {s t : ℕ} (hs : s < 11) (hst : s ≠ t) (i : Fin (2 ^ 11)) :
    (partner 11 s i).val.testBit t = i.val.testBit t := by
  rw [partner_val hs, Nat.testBit_xor, Nat.testBit_two_pow_of_ne hst]; simp

/-- ONE STAGE: if every place takes its partner's entry where `c` says so, both members of a pair agree on `c`, and where their keys
    differ `c` at the lower member says that they stand against the block's direction, the stage's exchanges are made. -/
theorem Moves.stage {l s : ℕ} (hs : s ≤ l) (hl : l < 11) {K K' : Fin (2 ^ 11) → α} {I I' : Fin (2 ^ 11) → β} (c : Fin (2 ^ 11) → Bool)
    (hc : ∀ i, c (partner 11 s i) = c i) (hK : ∀ i, K' i = if c i then K (partner 11 s i) else K i)
    (hI : ∀ i, I' i = if c i then I (partner 11 s i) else I i)
    (hlow : ∀ i : Fin (2 ^ 11), i.val.testBit s = false → K (partner 11 s i) ≠ K i →
      c i = (decide (K (partner 11 s i) < K i) != i.val.testBit (l + 1))) :
    Moves (exch l s) K I K' I' := by
  have hs' : s < 11 := by omega
  have hinv : Function.Involutive fun i => if c i then partner 11 s i else i := by
    intro i
    by_cases h : c i = true
    · have h' : c (partner 11 s i) = true := (hc i).trans h
      simp only [h, h', if_true, partner_partner hs']
    · simp only [h, if_false, Bool.false_eq_true]
  refine ⟨⟨hinv.toPerm, fun i => ?_, fun i => ?_⟩, ?_⟩
  · show K' i = K (if c i then partner 11 s i else i)
    rw [hK, apply_ite K]
  · show I' i = I (if c i then partner 11 s i else i)
    rw [hI, apply_ite I]
  · have hw : exch l s = Idealize.ShloMosaic.SortNet.stage 11 s fun i => i.val.testBit (l + 1) != i.val.testBit s := by
      refine stage_congr fun i hi => ?_
      have h0 : i.val.testBit s = false := (and_two_pow_eq_zero_iff_testBit _ _).mp hi
      rw [h0]
      cases hb : i.val.testBit (l + 1)
      · rw [decide_eq_true ((and_two_pow_eq_zero_iff_testBit _ _).mpr hb)]; rfl
      · rw [decide_eq_false (fun h => by rw [(and_two_pow_eq_zero_iff_testBit _ _).mp h] at hb; exact Bool.noConfusion hb)]; rfl
    rw [hw]
    funext i
    rw [apply_stage_select hs' (fun i => i.val.testBit (l + 1) != i.val.testBit s) (fun j => by
      show ((partner 11 s j).val.testBit (l + 1) != (partner 11 s j).val.testBit s) = !(j.val.testBit (l + 1) != j.val.testBit s)
      rw [testBit_partner_self hs', testBit_partner_ne hs' (by omega)]
      cases j.val.testBit (l + 1) <;> cases j.val.testBit s <;> rfl), hK]
    rcases eq_or_ne (K (partner 11 s i)) (K i) with he | hne
    · rw [he, ite_self, ite_self]
    · cases hb : i.val.testBit s
      · rw [hlow i hb hne]
        generalize decide (K (partner 11 s i) < K i) = d
        generalize i.val.testBit (l + 1) = e
        cases d <;> cases e <;> rfl
      · have hb' : (partner 11 s i).val.testBit s = false := by rw [testBit_partner_self hs', hb]; rfl
        have h1 := hlow (partner 11 s i) hb' (by rw [partner_partner hs']; exact hne.symm)
        rw [partner_partner hs', hc, testBit_partner_ne hs' (by omega)] at h1
        have h2 : decide (K i < K (partner 11 s i)) = !decide (K (partner 11 s i) < K i) := by
          rcases lt_or_gt_of_ne hne with h | h
          · rw [decide_eq_true h, decide_eq_false (not_lt.mpr h.le)]; rfl
          · rw [decide_eq_true h, decide_eq_false (not_lt.mpr h.le)]; rfl
        rw [h1, h2]
        generalize decide (K (partner 11 s i) < K i) = d
        generalize i.val.testBit (l + 1) = e
        cases d <;> cases e <;> rfl

/-- The exchanges of one level from distance `2 ^ t` downwards. -/
def lower (l : ℕ) : ℕ → Network (2 ^ 11)
  | 0 => exch l 0
  | t + 1 => exch l (t + 1) ++ lower l t

/-- The levels up to blocks of 64. -/
def small : Network (2 ^ 11) := lower 0 0 ++ lower 1 1 ++ lower 2 2 ++ lower 3 3 ++ lower 4 4 ++ lower 5 5

/-- The levels up to blocks of 2048: the whole sort. -/
def whole : Network (2 ^ 11) := small ++ lower 6 6 ++ lower 7 7 ++ lower 8 8 ++ lower 9 9 ++ lower 10 10

/-- The exchanges of a level from a stride downwards, as a list. -/
theorem lower_eq (l : ℕ) : ∀ t, lower l t = (List.range (t + 1)).reverse.flatMap fun s => exch l s
  | 0 => by simp [lower]
  | t + 1 => by rw [List.range_succ, List.reverse_append, List.flatMap_append, lower, lower_eq l t]; simp

/-- The levels together are Batcher's network. -/
theorem whole_eq : whole = sortNet 11 false := by
  have h : sortNet 11 false = (List.range 11).flatMap fun l => lower l l := by
    unfold sortNet
    congr 1
    funext l
    rw [lower_eq]
    rfl
  rw [h]
  show whole = ([0, 1, 2, 3, 4, 5, 6, 7, 8, 9, 10] : List ℕ).flatMap fun l => lower l l
  simp only [whole, small, List.flatMap_cons, List.flatMap_nil, List.append_nil, List.append_assoc]

/-- The whole sort leaves the keys ascending, and each place with the key it came with. -/
theorem Moves.sorted {K K' : Fin (2 ^ 11) → α} {I I' : Fin (2 ^ 11) → β} (h : Moves whole K I K' I') :
    ∃ π : Equiv.Perm (Fin (2 ^ 11)), (∀ i, K' i = K (π i)) ∧ (∀ i, I' i = I (π i)) ∧ Monotone K' := by
  obtain ⟨⟨π, hK, hI⟩, hN⟩ := h
  refine ⟨π, hK, hI, ?_⟩
  rw [hN, whole_eq]
  exact sortNet_apply_monotone 11 K

end moves

section order

variable {α : Type} [LinearOrder α] {n : ℕ}

/-- A rearrangement ascending in (key, place) is determined by the order of the keys. -/
theorem perm_unique {γ : Type} [LinearOrder γ] (K : Fin n → α) (R : Fin n → γ)
    (hord : ∀ i j, toLex (K i, i) < toLex (K j, j) → toLex (R i, i) < toLex (R j, j))
    (σ τ : Equiv.Perm (Fin n)) (hσ : StrictMono fun i => toLex (K (σ i), σ i)) (hτ : StrictMono fun i => toLex (R (τ i), τ i)) :
    σ = τ := by
  have h1 : StrictMono fun i => toLex (R (σ i), σ i) := fun i j h => hord _ _ (hσ h)
  have h2 : (fun i => toLex (R (σ i), σ i)) = fun i => toLex (R (τ i), τ i) := by
    have hs : Set.range (fun i => toLex (R (σ i), σ i)) = Set.range fun i => toLex (R (τ i), τ i) := by
      ext x
      constructor
      · rintro ⟨i, rfl⟩; exact ⟨τ.symm (σ i), by simp⟩
      · rintro ⟨i, rfl⟩; exact ⟨σ.symm (τ i), by simp⟩
    exact (StrictMono.range_inj h1 hτ).mp hs
  refine Equiv.ext fun i => ?_
  have h3 : toLex (R (σ i), σ i) = toLex (R (τ i), τ i) := congrFun h2 i
  exact (Prod.ext_iff.mp (toLex.injective h3)).2

/-- Two sets of places closed downwards and of one size are equal: a rearrangement under which the chosen places come first
    chooses the first places. -/
theorem chosen_first (V : Fin n → Prop) (hV : ∀ i j, i ≤ j → V j → V i) (σ : Equiv.Perm (Fin n))
    (hσ : ∀ i j, i ≤ j → V (σ j) → V (σ i)) (i : Fin n) : V (σ i) ↔ V i := by
  classical
  have hcard : (Finset.univ.filter fun i => V (σ i)).card = (Finset.univ.filter V).card := by
    refine Finset.card_bij (fun i _ => σ i) (fun i hi => ?_) (fun _ _ _ _ h => σ.injective h) (fun j hj => ?_)
    · simpa using hi
    · exact ⟨σ.symm j, by simpa using hj, by simp⟩
  have key : ∀ (A B : Fin n → Prop), (∀ i j, i ≤ j → A j → A i) → (∀ i j, i ≤ j → B j → B i) →
      (Finset.univ.filter A).card = (Finset.univ.filter B).card → ∀ i, A i → B i := by
    intro A B hA hB hc i hi
    by_contra hb
    have hsub : Finset.univ.filter B ⊂ Finset.univ.filter A := by
      refine Finset.ssubset_iff_subset_ne.mpr ⟨fun j hj => ?_, fun he => ?_⟩
      · rw [Finset.mem_filter] at hj ⊢
        refine ⟨hj.1, ?_⟩
        rcases le_total i j with h | h
        · exact absurd (hB i j h hj.2) hb
        · exact hA j i h hi
      · have : i ∈ Finset.univ.filter B := by rw [he]; simpa using hi
        exact hb (by simpa using this)
    have := Finset.card_lt_card hsub
    omega
  exact ⟨key _ _ hσ hV hcard i, key _ _ hV hσ hcard.symm i⟩

/-- Two rearrangements that keep the chosen places first, and put their values in ascending order, put the same value at each of them. -/
theorem first_unique (V : Fin n → Prop) (hV : ∀ i j, i ≤ j → V j → V i) (f : Fin n → α) (σ τ : Equiv.Perm (Fin n))
    (vσ : ∀ s, V (σ s) ↔ V s) (vτ : ∀ s, V (τ s) ↔ V s) (hσ : ∀ s t, s ≤ t → V t → f (σ s) ≤ f (σ t)) (hτ : ∀ s t, s ≤ t → V t → f (τ s) ≤ f (τ t))
    (s : Fin n) (hs : V s) : f (σ s) = f (τ s) := by
  have key : ∀ c, V s ∧ f (σ s) ≤ c ↔ V s ∧ f (τ s) ≤ c := by
    intro c
    have e : ∀ i, τ ((σ.trans τ.symm) i) = σ i := fun i => τ.apply_symm_apply (σ i)
    have v : ∀ i, V ((σ.trans τ.symm) i) ↔ V i := fun i => by rw [← vτ, e, vσ]
    have h := chosen_first (fun i => V i ∧ f (τ i) ≤ c) (fun i j hij hj => ⟨hV i j hij hj.1, (hτ i j hij hj.1).trans hj.2⟩) (σ.trans τ.symm)
      (fun i j hij hj => by
        have vj := (v j).mp hj.1
        rw [e] at hj ⊢
        exact ⟨(v i).mpr (hV i j hij vj), (hσ i j hij vj).trans hj.2⟩) s
    rw [e, v] at h
    exact h
  exact le_antisymm ((key (f (τ s))).mpr ⟨hs, le_rfl⟩).2 ((key (f (σ s))).mp ⟨hs, le_rfl⟩).2

end order

section fix

variable {α : Type} [LinearOrder α]

/-- The neighbour on the right of an even place and on the left of an odd one. -/
def nextEven (i : Fin 2048) : Fin 2048 := if i.val % 2 = 1 then ⟨i.val - 1, by omega⟩ else ⟨(i.val + 1) % 2048, Nat.mod_lt _ (by omega)⟩

/-- The neighbour on the right of an odd place and on the left of an even one; the first and the last place have none. -/
def nextOdd (i : Fin 2048) : Fin 2048 :=
  if i.val = 0 ∨ i.val = 2047 then i else if i.val % 2 = 1 then ⟨(i.val + 1) % 2048, Nat.mod_lt _ (by omega)⟩ else ⟨i.val - 1, by omega⟩

/-- Neighbours of the first round come in pairs. -/
theorem nextEven_involutive : Function.Involutive nextEven := by
  intro i
  apply Fin.ext
  unfold nextEven
  have := i.isLt
  split <;> split <;> simp_all <;> omega

/-- The neighbour in the second round, as a number. -/
theorem nextOdd_val (i : Fin 2048) :
    (nextOdd i).val = if i.val = 0 ∨ i.val = 2047 then i.val else if i.val % 2 = 1 then (i.val + 1) % 2048 else i.val - 1 := by
  unfold nextOdd
  split
  · rfl
  · split <;> rfl

/-- Neighbours of the second round come in pairs. -/
theorem nextOdd_involutive : Function.Involutive nextOdd := by
  intro i
  apply Fin.ext
  have := i.isLt
  rw [nextOdd_val, nextOdd_val]
  split_ifs <;> omega

/-- Exchange between equal neighbours: a pair with equal keys is exchanged where its places stand in the wrong order. -/
def swapIf (nx : Fin 2048 → Fin 2048) (K : Fin 2048 → α) (P : Fin 2048 → Fin 2048) (i : Fin 2048) : Fin 2048 :=
  if K (nx i) = K i ∧ ((i < nx i ∧ P (nx i) < P i) ∨ (nx i < i ∧ P i < P (nx i))) then nx i else i

/-- A round of exchanges, made twice, changes nothing. -/
theorem swapIf_involutive {nx : Fin 2048 → Fin 2048} (h : Function.Involutive nx) (K : Fin 2048 → α) (P : Fin 2048 → Fin 2048) :
    Function.Involutive (swapIf nx K P) := by
  intro i
  by_cases hc : K (nx i) = K i ∧ ((i < nx i ∧ P (nx i) < P i) ∨ (nx i < i ∧ P i < P (nx i)))
  · have e : swapIf nx K P i = nx i := if_pos hc
    have e' : swapIf nx K P (nx i) = nx (nx i) := by
      refine if_pos ?_
      rw [h i]
      exact ⟨hc.1.symm, hc.2.symm.imp (fun x => x) (fun x => x)⟩
    rw [e, e', h i]
  · have e : swapIf nx K P i = i := if_neg hc
    rw [e, e]

/-- A round of exchanges leaves the keys as they are. -/
theorem key_swapIf (nx : Fin 2048 → Fin 2048) (K : Fin 2048 → α) (P : Fin 2048 → Fin 2048) (i : Fin 2048) :
    K (swapIf nx K P i) = K i := by
  unfold swapIf
  split
  · rename_i h; exact h.1
  · rfl

/-- After the exchanges a pair with equal keys has its places in order. -/
theorem swapIf_ordered {nx : Fin 2048 → Fin 2048} (h : Function.Involutive nx) (K : Fin 2048 → α) (P : Fin 2048 → Fin 2048)
    (hP : Function.Injective P) (i j : Fin 2048) (hij : i < j) (hn : nx i = j) (hk : K j = K i) :
    P (swapIf nx K P i) < P (swapIf nx K P j) := by
  have hn' : nx j = i := by rw [← hn, h i]
  have hne : P i ≠ P j := fun e => absurd (hP e) (ne_of_lt hij)
  unfold swapIf
  rw [hn, hn']
  rcases lt_or_gt_of_ne hne with hlt | hgt
  · rw [if_neg, if_neg]
    · exact hlt
    · rintro ⟨_, h1 | h1⟩
      · exact absurd h1.1 (not_lt.mpr hij.le)
      · exact absurd h1.2 (not_lt.mpr hlt.le)
    · rintro ⟨_, h1 | h1⟩
      · exact absurd h1.2 (not_lt.mpr hlt.le)
      · exact absurd h1.1 (not_lt.mpr hij.le)
  · rw [if_pos ⟨hk, Or.inl ⟨hij, hgt⟩⟩, if_pos ⟨hk.symm, Or.inr ⟨hij, hgt⟩⟩]
    exact hgt

/-- A place stays if its neighbour has another key. -/
theorem swapIf_of_ne {nx : Fin 2048 → Fin 2048} (K : Fin 2048 → α) (P : Fin 2048 → Fin 2048) (i : Fin 2048) (hk : K (nx i) ≠ K i) :
    swapIf nx K P i = i := if_neg fun h => hk h.1

/-- A place without a neighbour stays. -/
theorem swapIf_of_self {nx : Fin 2048 → Fin 2048} (K : Fin 2048 → α) (P : Fin 2048 → Fin 2048) (i : Fin 2048) (hk : nx i = i) :
    swapIf nx K P i = i := by
  unfold swapIf; rw [hk]; split <;> rfl

/-- The two rounds: first the pairs that begin at an even place, then those that begin at an odd one. -/
def fixed (K : Fin 2048 → α) (P : Fin 2048 → Fin 2048) (i : Fin 2048) : Fin 2048 :=
  swapIf nextEven K P (swapIf nextOdd K (fun j => P (swapIf nextEven K P j)) i)

/-- The two rounds leave the keys as they are. -/
theorem key_fixed (K : Fin 2048 → α) (P : Fin 2048 → Fin 2048) (i : Fin 2048) : K (fixed K P i) = K i :=
  (key_swapIf nextEven K P _).trans (key_swapIf nextOdd K _ i)

/-- The two rounds rearrange the places. -/
theorem fixed_bijective (K : Fin 2048 → α) (P : Fin 2048 → Fin 2048) : Function.Bijective (fixed K P) :=
  (swapIf_involutive nextEven_involutive K P).bijective.comp (swapIf_involutive nextOdd_involutive K _).bijective

/-- With ascending keys the two rounds leave (key, place) strictly ascending as far as the keys do not exceed a bound, if up to that
    bound none occurs three times in a row. -/
theorem fixed_ascending (K : Fin 2048 → α) (hK : Monotone K) (P : Fin 2048 → Fin 2048) (hP : Function.Injective P) (B : α)
    (h3 : ∀ i j k : Fin 2048, i.val + 1 = j.val → j.val + 1 = k.val → K j ≤ B → K i = K j → K j = K k → False) (i j : Fin 2048) (hij : i < j)
    (hB : K j ≤ B) : toLex (K i, P (fixed K P i)) < toLex (K j, P (fixed K P j)) := by
  have hE := nextEven_involutive
  have hO := nextOdd_involutive
  have step : ∀ i j : Fin 2048, i.val + 1 = j.val → K j ≤ B → toLex (K i, P (fixed K P i)) < toLex (K j, P (fixed K P j)) := by
    intro i j hij hB
    have hi := i.isLt
    have hj := j.isLt
    have hlt : i < j := Fin.lt_def.mpr (by omega)
    rcases lt_or_eq_of_le (hK hlt.le) with h | h
    · exact Prod.Lex.toLex_lt_toLex.mpr (Or.inl h)
    · refine Prod.Lex.toLex_lt_toLex.mpr (Or.inr ⟨h, ?_⟩)
      show P (fixed K P i) < P (fixed K P j)
      by_cases hodd : i.val % 2 = 1
      · have hn : nextOdd i = j := by
          apply Fin.ext; unfold nextOdd
          rw [if_neg (by omega), if_pos hodd]; show (i.val + 1) % 2048 = j.val; omega
        have hinj : Function.Injective fun a => P (swapIf nextEven K P a) := hP.comp (swapIf_involutive hE K P).injective
        exact swapIf_ordered hO K (fun a => P (swapIf nextEven K P a)) hinj i j hlt hn h.symm
      · have hn : nextEven i = j := by
          apply Fin.ext; unfold nextEven
          rw [if_neg hodd]; show (i.val + 1) % 2048 = j.val; omega
        have ei : swapIf nextOdd K (fun a => P (swapIf nextEven K P a)) i = i := by
          by_cases h0 : i.val = 0
          · exact swapIf_of_self _ _ _ (by unfold nextOdd; rw [if_pos (Or.inl h0)])
          · refine swapIf_of_ne _ _ _ fun e => ?_
            have hv : (nextOdd i).val + 1 = i.val := by
              unfold nextOdd; rw [if_neg (by omega), if_neg hodd]; show i.val - 1 + 1 = i.val; omega
            exact h3 _ i j hv hij (h.le.trans hB) e h
        have ej : swapIf nextOdd K (fun a => P (swapIf nextEven K P a)) j = j := by
          by_cases h0 : j.val = 2047
          · exact swapIf_of_self _ _ _ (by unfold nextOdd; rw [if_pos (Or.inr h0)])
          · refine swapIf_of_ne _ _ _ fun e => ?_
            have hv : j.val + 1 = (nextOdd j).val := by
              unfold nextOdd; rw [if_neg (by omega), if_pos (by omega)]; show j.val + 1 = (j.val + 1) % 2048; omega
            exact h3 i j _ hij hv hB h e.symm
        unfold fixed
        rw [ei, ej]
        exact swapIf_ordered hE K P hP i j hlt hn h.symm
  have : ∀ (d : ℕ) (i j : Fin 2048), i.val + d + 1 = j.val → K j ≤ B → toLex (K i, P (fixed K P i)) < toLex (K j, P (fixed K P j)) := by
    intro d
    induction d with
    | zero => intro i j h hB; exact step i j (by omega) hB
    | succ d ih =>
      intro i j h hB
      have hj := j.isLt
      have hle : (⟨i.val + d + 1, by omega⟩ : Fin 2048) ≤ j := Fin.le_def.mpr (by show i.val + d + 1 ≤ j.val; omega)
      exact (ih i ⟨i.val + d + 1, by omega⟩ rfl ((hK hle).trans hB)).trans (step _ j (by show i.val + d + 1 + 1 = j.val; omega) hB)
  have h : i.val < j.val := hij
  exact this (j.val - i.val - 1) i j (by omega) hB

end fix

end Cert.Proof.Net
-- ==== Proof.Stable.lean ====
/- A stable sort by a key, ties left in their order, is the sort by the pair (key, place). -/
module

public import proofs.«01_k».proof.Proof.Net
public import Idealize.ShloMosaic.Lib.SortFacts

@[expose] public section

noncomputable section

namespace Cert.Proof.Net

open Idealize.ShloMosaic

/-- A sort keeps the members of a list. -/
theorem mem_stableSort {ι : Type} (R : ι → ι → Bool) (a : ι) (l : List ι) : a ∈ stableSort R l ↔ a ∈ l :=
  (perm_stableSort R l).mem_iff

/-- On a list whose places ascend, sorting by the key is sorting by the key and the place. -/
theorem stableSort_lex {n : ℕ} {α : Type} [LinearOrder α] (K : Fin n → α) (l : List (Fin n)) (hl : l.Pairwise (· < ·)) :
    stableSort (fun a b => decide (K a < K b)) l = stableSort (fun a b => decide (toLex (K a, a) < toLex (K b, b))) l := by
  induction l with
  | nil => rfl
  | cons a l ih =>
    rw [List.pairwise_cons] at hl
    show insertBefore _ a (stableSort _ l) = insertBefore _ a (stableSort _ l)
    rw [ih hl.2]
    refine insertBefore_congr _ _ a _ fun b hb => ?_
    have hab := hl.1 b ((mem_stableSort _ b l).mp hb)
    refine decide_eq_decide.mpr ?_
    rw [Prod.Lex.toLex_lt_toLex]
    constructor
    · intro h; exact .inl h
    · rintro (h | ⟨_, h⟩)
      · exact h
      · exact absurd h (not_lt.mpr hab.le)

/-- The order a stable sort by a key gives is strictly ascending in (key, place). -/
theorem sortedFrom_strictMono {n : ℕ} {α : Type} [LinearOrder α] (K : Fin n → α) (before : Fin n → Fin n → Bool)
    (hb : ∀ a b, before a b = decide (K a < K b)) :
    StrictMono fun i => toLex (K (sortedFrom before i), sortedFrom before i) := by
  obtain rfl : before = fun a b => decide (K a < K b) := by funext a b; exact hb a b
  have he : sortPositions n (fun a b => decide (K a < K b)) = sortPositions n (fun a b => decide (toLex (K a, a) < toLex (K b, b))) :=
    stableSort_lex K _ (List.pairwise_lt_finRange n)
  have hf : sortedFrom (fun a b => decide (K a < K b)) = sortedFrom (fun a b : Fin n => decide (toLex (K a, a) < toLex (K b, b))) := by
    funext i
    unfold sortedFrom
    simp only [List.get_eq_getElem, he]
    rfl
  rw [hf]
  intro i j hij
  have h := sortedFrom_noInversion (fun a b : Fin n => decide (toLex (K a, a) < toLex (K b, b)))
    (fun a b : Fin n => decide (toLex (K a, a) < toLex (K b, b)))
    (fun a b h => by simpa using (of_decide_eq_true h).le) (fun _ _ h => h)
    (fun a b c h1 h2 => by
      have h1 := of_decide_eq_false h1
      have h2 := of_decide_eq_false h2
      exact decide_eq_false (not_lt.mpr ((not_lt.mp h2).trans (not_lt.mp h1)))) i j hij
  have h := not_lt.mp (of_decide_eq_false h)
  refine lt_of_le_of_ne h fun e => ?_
  have e2 : sortedFrom (fun a b : Fin n => decide (toLex (K a, a) < toLex (K b, b))) i = sortedFrom (fun a b : Fin n => decide (toLex (K a, a) < toLex (K b, b))) j := by
    have := congrArg (fun z => (ofLex z).2) e
    exact this
  exact hij.ne (sortedFrom_injective _ e2)

/-- The order of a sort is a rearrangement. -/
theorem sortedFrom_perm {n : ℕ} (before : Fin n → Fin n → Bool) : ∃ σ : Equiv.Perm (Fin n), ⇑σ = sortedFrom before :=
  ⟨Equiv.ofBijective (sortedFrom before) ⟨sortedFrom_injective before, sortedFrom_surjective before⟩, rfl⟩

end Cert.Proof.Net

end
-- ==== Proof.Pre.lean ====
/- What the precondition says of the arguments, entry by entry. -/
module

public import proofs.«01_k».proof.Pre_sortable
public import proofs.«01_k».proof.Proof.Plain
public import proofs.«01_k».proof.Proof.Stable

@[expose] public section

noncomputable section

namespace Cert.Pre_sortable

open Idealize.ShloMosaic Idealize.ShloMosaic.TcCoe Cert.Proof.Net Cert.Proof.Plain

/-- The side conditions of the condition. -/
theorem facts : Facts where
  bcast_S_S16 := by decide
  bcast_S16_S16x1x1_0 := by decide
  bcast_S16x1x1_S16x256x2048_0_1_2 := by decide
  bcast_S_S16x256x2048 := by decide
  bcast_S_S256x21 := by decide
  slices_S16x256x2048_S16x256x2046_0_0_2 := by decide
  slices_S16x256x2048_S16x256x2046_0_0_0 := by decide

instance : Facts := facts

open Facts

variable (x : FVec Ideal S16x256x2048 .f32) (w : FVec Ideal S256x21 .f32) (n : IVec S16 32)

/-- Where a place is within the count. -/
def within : IVec S16x256x2048 1 :=
  cmpf .ole (Host.divf (sitofp .f32 (iotaInDim S16x256x2048 32 2))
    (broadcastInDim S16x256x2048 ![0, 1, 2] bcast_S16x1x1_S16x256x2048_0_1_2 (broadcastInDim S16x1x1 ![0] bcast_S16_S16x1x1_0
      (maximumf (subf (sitofp .f32 n) (broadcastInDim S16 ![] bcast_S_S16 (constant S_ .f32 0x3F800000#32))) (broadcastInDim S16 ![] bcast_S_S16 (constant S_ .f32 0x3F800000#32))))))
    (broadcastInDim S16x256x2048 ![] bcast_S_S16x256x2048 (constant (F := Ideal) S_ .f32 0x3F800000#32))

/-- The entries within the count, and beyond it numbers larger than any of them. -/
def entries : FVec Ideal S16x256x2048 .f32 :=
  select (within n) x (addf (sitofp .f32 (iotaInDim S16x256x2048 32 2)) (broadcastInDim S16x256x2048 ![] bcast_S_S16x256x2048 (constant S_ .f32 0x42C80000#32)))

/-- The entries, sorted along each row. -/
def sorted : FVec Ideal S16x256x2048 .f32 := Host.sort S16x256x2048 2 comparator_f32_d2 (entries x n)

/-- The first part: entries are at most 30 in size. -/
theorem first_eq : (fn (F := Ideal) x w n).1 = cmpf .ole (Host.absf x) (broadcastInDim S16x256x2048 ![] bcast_S_S16x256x2048 (constant S_ .f32 0x41F00000#32)) := rfl

/-- The second part: weights are finite. -/
theorem second_eq : (fn (F := Ideal) x w n).2.1 = cmpf .olt (Host.absf w) (broadcastInDim S256x21 ![] bcast_S_S256x21 (constant S_ .f32 0x7F800000#32)) := rfl

/-- The third part: entries beyond the count are multiples of 1/128. -/
theorem third_eq : (fn (F := Ideal) x w n).2.2.1 = ori (within n) (cmpf .oeq (Host.floor (mulf x (broadcastInDim S16x256x2048 ![] bcast_S_S16x256x2048 (constant S_ .f32 0x43000000#32))))
    (mulf x (broadcastInDim S16x256x2048 ![] bcast_S_S16x256x2048 (constant S_ .f32 0x43000000#32)))) := rfl

/-- The fourth part: no sorted entry is the one two places before it. -/
theorem fourth_eq : (fn (F := Ideal) x w n).2.2.2 = cmpf .une (extractStridedSlice S16x256x2046 ![0, 0, 2] (sorted x n) slices_S16x256x2048_S16x256x2046_0_0_2)
    (extractStridedSlice S16x256x2046 ![0, 0, 0] (sorted x n) slices_S16x256x2048_S16x256x2046_0_0_0) := rfl

/-- The mark of the places within the count. -/
theorem within_at (b : Fin 16) (ch : Fin 256) (s : Fin 2048) : within n (ix3 b ch s) = 1#1 ↔ Valid (n (ix1 b)) s := by
  have hq : Ideal.div (FloatOps.sitofp FTy.f32 (BitVec.ofNat 32 s.val) : Ideal .f32) (max ((FloatOps.sitofp .f32 (n (ix1 b)) : Ideal .f32) - 1 : EReal) 1) = ((quot (n (ix1 b)) s : ℝ) : EReal) := quot_real (n (ix1 b)) s
  have e : within n (ix3 b ch s) = BitVec.ofBool (decide (((quot (n (ix1 b)) s : ℝ) : EReal) ≤ 1)) := by
    pointwise [within]
    rw [hq]
  rw [e]
  exact le_one_bit _ _

/-- The literal 30. -/
theorem thirty : Ideal.ofBits .f32 0x41F00000#32 = ((30 : ℝ) : EReal) := by
  simp [Ideal.ofBits, Ideal.ieee, -EReal.coe_mul] <;> norm_num

/-- The literal 100. -/
theorem hundred : Ideal.ofBits .f32 0x42C80000#32 = ((100 : ℝ) : EReal) := by
  simp [Ideal.ofBits, Ideal.ieee, -EReal.coe_mul] <;> norm_num

/-- The literal for infinity. -/
theorem infinite : Ideal.ofBits .f32 0x7F800000#32 = (⊤ : EReal) := by
  simp [Ideal.ofBits, Ideal.ieee, -EReal.coe_mul]

/-- A set bit of a decision decides it. -/
theorem bit_of {p : Prop} [Decidable p] (h : BitVec.ofBool (decide p) = 1#1) : p := by
  by_contra hp
  rw [decide_eq_false hp] at h
  exact absurd h (by decide)

/-- A number of size at most 30 is real. -/
theorem real_le (e : EReal) (h : max e (-e) ≤ ((30 : ℝ) : EReal)) : ∃ r : ℝ, e = ((r : ℝ) : EReal) ∧ |r| ≤ 30 := by
  induction e with
  | bot => simp at h
  | top => simp at h
  | coe r =>
    refine ⟨r, rfl, ?_⟩
    rw [← EReal.coe_neg, coe_max, EReal.coe_le_coe_iff] at h
    exact h

/-- A number of finite size is real. -/
theorem real_lt (e : EReal) (h : max e (-e) < ⊤) : ∃ r : ℝ, e = ((r : ℝ) : EReal) := by
  induction e with
  | bot => simp at h
  | top => simp at h
  | coe r => exact ⟨r, rfl⟩

/-- Entries are reals of size at most 30. -/
theorem bounded (h : (fn (F := Ideal) x w n).1 = fun _ => 1#1) (b : Fin 16) (ch : Fin 256) (s : Fin 2048) : ∃ r : ℝ, x (ix3 b ch s) = ((r : ℝ) : EReal) ∧ |r| ≤ 30 := by
  have e : (fn (F := Ideal) x w n).1 (ix3 b ch s) = BitVec.ofBool (decide ((max (x (ix3 b ch s)) (-x (ix3 b ch s)) : EReal) ≤ ((30 : ℝ) : EReal))) := by
    rw [first_eq]
    pointwise
    rw [thirty]
    rfl
  rw [h] at e
  exact real_le _ (bit_of e.symm)

/-- Weights are reals. -/
theorem finite (h : (fn (F := Ideal) x w n).2.1 = fun _ => 1#1) (ch : Fin 256) (v : Fin 21) : ∃ r : ℝ, w (ix2 ch v) = ((r : ℝ) : EReal) := by
  have e : (fn (F := Ideal) x w n).2.1 (ix2 ch v) = BitVec.ofBool (decide ((max (w (ix2 ch v)) (-w (ix2 ch v)) : EReal) < (⊤ : EReal))) := by
    rw [second_eq]
    pointwise
    rw [infinite]
    rfl
  rw [h] at e
  exact real_lt _ (bit_of e.symm)

/-- Entries beyond the count are multiples of 1/128. -/
theorem whole128 (h : (fn (F := Ideal) x w n).2.2.1 = fun _ => 1#1) (b : Fin 16) (ch : Fin 256) (s : Fin 2048) (r : ℝ) (hr : x (ix3 b ch s) = ((r : ℝ) : EReal))
    (hv : ¬ Valid (n (ix1 b)) s) : ((⌊r * 128⌋ : ℤ) : ℝ) = r * 128 := by
  have e : (fn (F := Ideal) x w n).2.2.1 (ix3 b ch s) = IntOp.ori (within n (ix3 b ch s))
      (BitVec.ofBool (decide ((((⌊r * 128⌋ : ℤ) : ℝ) : EReal) = ((r * 128 : ℝ) : EReal)))) := by
    rw [third_eq]
    pointwise
    rw [hr, grid, ← EReal.coe_mul]
    rfl
  rw [h] at e
  have hz : within n (ix3 b ch s) = 0#1 := by
    rcases BitVec.eq_zero_or_eq_one (within n (ix3 b ch s)) with z | z
    · exact z
    · exact absurd ((within_at n b ch s).mp z) hv
  rw [hz] at e
  have z : ∀ c : BitVec 1, IntOp.ori 0#1 c = c := by decide
  rw [z] at e
  exact EReal.coe_eq_coe_iff.mp (bit_of e.symm)

open Classical in
/-- The entries of a row, and beyond the count numbers larger than any of them. -/
def entry (X : Fin 2048 → ℝ) (k : BitVec 32) (s : Fin 2048) : ℝ := if Valid k s then X s else (s.val : ℝ) + 100

/-- The entries of a row, as reals. -/
theorem entries_at (b : Fin 16) (ch : Fin 256) (X : Fin 2048 → ℝ) (hX : ∀ s, x (ix3 b ch s) = ((X s : ℝ) : EReal)) (s : Fin 2048) :
    entries x n (ix3 b ch s) = ((entry X (n (ix1 b)) s : ℝ) : EReal) := by
  pointwise [entries]
  rw [hX, hundred, sitofp_place _ s.isLt, ← EReal.coe_add]
  unfold entry
  by_cases h : Valid (n (ix1 b)) s
  · rw [if_pos h]; exact if_pos ((within_at n b ch s).mpr h)
  · rw [if_neg h]; exact if_neg (fun e => h ((within_at n b ch s).mp e))

/-- The sort's comparison of two reals. -/
theorem comparator_real (a b : ℝ) :
    (comparator_f32_d2 (F := Ideal) ((a : ℝ) : EReal) ((b : ℝ) : EReal) == 1#1) = decide (a < b) := by
  have z : Ideal.ofBits .f32 0x00000000#32 = ((0 : ℝ) : EReal) := by rw [Ideal.ofBits_zero_f32]; rfl
  have can : ∀ c : ℝ, Scalar.select (FloatOps.cmpf (F := Ideal) (φ := .f32) .une ((c : ℝ) : EReal) ((c : ℝ) : EReal)) (FloatOps.ofBits (F := Ideal) .f32 0x7FC00000#32)
      (Scalar.select (FloatOps.cmpf (F := Ideal) (φ := .f32) .oeq ((c : ℝ) : EReal) (FloatOps.ofBits (F := Ideal) .f32 0x00000000#32)) (FloatOps.ofBits (F := Ideal) .f32 0x00000000#32) ((c : ℝ) : EReal)) = ((c : ℝ) : EReal) := by
    intro c
    have h1 : FloatOps.cmpf (F := Ideal) (φ := .f32) .une ((c : ℝ) : EReal) ((c : ℝ) : EReal) = 0#1 := by
      show BitVec.ofBool (decide (((c : ℝ) : EReal) ≠ ((c : ℝ) : EReal))) = 0#1
      simp
    rw [h1]
    show Scalar.select (BitVec.ofBool (decide (((c : ℝ) : EReal) = Ideal.ofBits .f32 0x00000000#32))) (Ideal.ofBits .f32 0x00000000#32) ((c : ℝ) : EReal) = _
    rw [z]
    by_cases h : c = 0
    · subst h; simp [Scalar.select]
    · have : ¬ ((c : ℝ) : EReal) = ((0 : ℝ) : EReal) := by rw [EReal.coe_eq_coe_iff]; exact h
      rw [decide_eq_false this]; rfl
  unfold comparator_f32_d2
  simp only [can]
  show (BitVec.ofBool (decide (((a : ℝ) : EReal) < ((b : ℝ) : EReal))) == 1#1) = _
  by_cases h : a < b
  · rw [decide_eq_true h, decide_eq_true (EReal.coe_lt_coe_iff.mpr h)]; rfl
  · rw [decide_eq_false h, decide_eq_false (fun e => h (EReal.coe_lt_coe_iff.mp e))]; rfl

/-- The sorted entries of a row. -/
theorem sorted_at (b : Fin 16) (ch : Fin 256) (X : Fin 2048 → ℝ) (hX : ∀ s, x (ix3 b ch s) = ((X s : ℝ) : EReal)) :
    ∃ σ : Equiv.Perm (Fin 2048), (∀ k, sorted x n (ix3 b ch k) = ((entry X (n (ix1 b)) (σ k) : ℝ) : EReal)) ∧
      Monotone fun k => entry X (n (ix1 b)) (σ k) := by
  obtain ⟨before, hdef⟩ : ∃ before : Fin 2048 → Fin 2048 → Bool, before = fun s t =>
    comparator_f32_d2 (F := Ideal) (entries x n (ix3 b ch s)) (entries x n (ix3 b ch t)) == 1#1 := ⟨_, rfl⟩
  have hb : ∀ s t, before s t = decide (entry X (n (ix1 b)) s < entry X (n (ix1 b)) t) := by
    intro s t
    rw [hdef]
    show (comparator_f32_d2 (F := Ideal) _ _ == 1#1) = _
    rw [entries_at x n b ch X hX, entries_at x n b ch X hX]
    exact comparator_real _ _
  have hm := sortedFrom_strictMono (fun s => entry X (n (ix1 b)) s) before hb
  have al : ∀ k s : Fin 2048, Shape.Idx.along (s := S16x256x2048) (ix3 b ch k) 2 s = ix3 b ch s := by
    intro k s
    funext a
    match a with
    | ⟨0, _⟩ => rfl
    | ⟨1, _⟩ => rfl
    | ⟨2, _⟩ => rfl
  obtain ⟨σ, hσ⟩ : ∃ σ : Equiv.Perm (Fin 2048), ⇑σ = sortedFrom before := sortedFrom_perm before
  rw [← hσ] at hm
  refine ⟨σ, fun k => ?_, fun i j hij => ?_⟩
  · rw [hσ]
    obtain ⟨before', hdef'⟩ : ∃ before' : Fin 2048 → Fin 2048 → Bool, before' = fun s t =>
        comparator_f32_d2 (F := Ideal) (entries x n (Shape.Idx.along (s := S16x256x2048) (ix3 b ch k) 2 s)) (entries x n (Shape.Idx.along (s := S16x256x2048) (ix3 b ch k) 2 t)) == 1#1 := ⟨_, rfl⟩
    have hbe : before' = before := by
      funext s t
      rw [hdef, hdef']
      show (comparator_f32_d2 (F := Ideal) (entries x n (Shape.Idx.along (s := S16x256x2048) (ix3 b ch k) 2 s)) (entries x n (Shape.Idx.along (s := S16x256x2048) (ix3 b ch k) 2 t)) == 1#1) = _
      rw [al, al]
    obtain ⟨v, hv⟩ : ∃ v : Fin 2048, v = sortedFrom before' k := ⟨_, rfl⟩
    have e : sorted x n (ix3 b ch k) = entries x n (Shape.Idx.along (s := S16x256x2048) (ix3 b ch k) 2 v) := by
      rw [hv, hdef']
      rfl
    rw [e, al, entries_at x n b ch X hX, hv, hbe]
  · rcases hij.eq_or_lt with rfl | h
    · exact le_rfl
    · have := hm h
      rw [Prod.Lex.toLex_lt_toLex] at this
      rcases this with h | ⟨h, _⟩
      · exact h.le
      · exact h.le

/-- No three entries of a row are equal if no sorted entry is the one two places before it. -/
theorem no_three_of (b : Fin 16) (ch : Fin 256) (X : Fin 2048 → ℝ) (hX : ∀ s, x (ix3 b ch s) = ((X s : ℝ) : EReal))
    (h : ∀ k : Fin 2046, BitVec.ofBool (decide ((sorted x n (ix3 b ch ⟨2 + k.val, by omega⟩) : EReal) ≠ sorted x n (ix3 b ch ⟨k.val, by omega⟩))) = 1#1)
    (p q r : Fin 2048) (hpq : p ≠ q) (hqr : q ≠ r) (hpr : p ≠ r)
    (e1 : entry X (n (ix1 b)) p = entry X (n (ix1 b)) q) (e2 : entry X (n (ix1 b)) q = entry X (n (ix1 b)) r) : False := by
  obtain ⟨σ, hs, hm⟩ := sorted_at x n b ch X hX
  have hd : ∀ k : Fin 2046, entry X (n (ix1 b)) (σ ⟨2 + k.val, by omega⟩) ≠ entry X (n (ix1 b)) (σ ⟨k.val, by omega⟩) := by
    intro k c
    have e := bit_of (h k)
    rw [hs, hs] at e
    exact e (congrArg _ c)
  have hno : ∀ a b' c : Fin 2048, a < b' → b' < c → entry X (n (ix1 b)) (σ a) = entry X (n (ix1 b)) (σ c) → False := by
    intro a b' c hab hbc he
    have ha := hd ⟨a.val, by have := c.isLt; have : a.val < b'.val := hab; have : b'.val < c.val := hbc; omega⟩
    refine ha (le_antisymm ?_ (hm (show a.val ≤ 2 + a.val by omega)))
    refine (hm (show 2 + a.val ≤ c.val by have : a.val < b'.val := hab; have : b'.val < c.val := hbc; omega)).trans he.symm.le
  obtain ⟨p, rfl⟩ := σ.surjective p
  obtain ⟨q, rfl⟩ := σ.surjective q
  obtain ⟨r, rfl⟩ := σ.surjective r
  have hpq : p ≠ q := fun e => hpq (congrArg σ e)
  have hqr : q ≠ r := fun e => hqr (congrArg σ e)
  have hpr : p ≠ r := fun e => hpr (congrArg σ e)
  rcases lt_or_gt_of_ne hpq with h1 | h1 <;> rcases lt_or_gt_of_ne hqr with h2 | h2 <;> rcases lt_or_gt_of_ne hpr with h3 | h3
  · exact hno p q r h1 h2 (e1.trans e2)
  · exact absurd (h1.trans h2) (not_lt.mpr h3.le)
  · exact hno p r q h3 h2 e1
  · exact hno r p q h3 h1 e2.symm
  · exact hno q p r h1 h3 e2
  · exact hno q r p h2 h3 e1.symm
  · exact absurd (h2.trans h1) (not_lt.mpr h3.le)
  · exact hno r q p h2 h1 (e1.trans e2).symm

/-- No three entries of a row are equal. -/
theorem no_three (h : (fn (F := Ideal) x w n).2.2.2 = fun _ => 1#1) (b : Fin 16) (ch : Fin 256) (X : Fin 2048 → ℝ)
    (hX : ∀ s, x (ix3 b ch s) = ((X s : ℝ) : EReal)) (p q r : Fin 2048) (hpq : p ≠ q) (hqr : q ≠ r) (hpr : p ≠ r)
    (e1 : entry X (n (ix1 b)) p = entry X (n (ix1 b)) q) (e2 : entry X (n (ix1 b)) q = entry X (n (ix1 b)) r) : False := by
  refine no_three_of x n b ch X hX (fun k => ?_) p q r hpq hqr hpr e1 e2
  have e : (fn (F := Ideal) x w n).2.2.2 (ix3 b ch k) = BitVec.ofBool (decide ((sorted x n (ix3 b ch ⟨2 + k.val, by omega⟩) : EReal) ≠ sorted x n (ix3 b ch ⟨k.val, by omega⟩))) := by
    rw [fourth_eq]
    pointwise
  rw [← e, h]

end Cert.Pre_sortable

end
-- ==== Proof.Stage.lean ====
/- The exchanges of a tile of 64 places, as the program writes them: the partner's value by a rotation or by swapping halves,
   the choice between the two by comparing the keys, and the keys and the places chosen alike. -/
module

public import proofs.«01_k».proof.Proof.Gen.KernelIdeal.Skeleton

@[expose] public section

noncomputable section

namespace Cert.KernelIdeal.Tile

open Idealize.ShloMosaic Idealize.SL.Sem Cert.KernelIdeal.Gen

variable {F : FTy → Type} [FloatOps F]

/-- A tile of values. -/
abbrev Tl (F : FTy → Type) : Type := FVec F S64x128 .f32

/-- The bit `j` of each place of the tile is clear. -/
def clear (v5 : IVec S64x1 32) (j : BitVec 32) : IVec S64x1 1 := cmpi .eq (andi v5 (broadcast S64x1 j)) (broadcast S64x1 0#32)

/-- A column of bits at every lane. -/
def wide (b : IVec S64x1 1) : IVec S64x128 1 := broadcastTo S64x128 (shapeCast S64x1 b shapeCasts_S64x1_S64x1) broadcasts_S64x1_S64x128

/-- The partner's value at distance `j` by rotations, down where the bit is clear and up where it is set; `j'` is `64 - j`. -/
def byRoll (v5 : IVec S64x1 32) (j j' : BitVec 32) (x : Tl F) : Tl F :=
  select (wide (clear v5 j)) (dynamicRotate 0 j' none x rotates_S64x128_d0) (dynamicRotate 0 j none x rotates_S64x128_d0)

/-- The partner's value at distance 8, swapping the halves of every 16 places. -/
def by8 (x : Tl F) : Tl F :=
  shapeCast S64x128 (concatenate S4x2x8x128 1
    [⟨S4x1x8x128, extractStridedSlice S4x1x8x128 ![0, 1, 0, 0] (shapeCast S4x2x8x128 x shapeCasts_S64x128_S4x2x8x128) slices_S4x2x8x128_o0_1_0_0_S4x1x8x128⟩,
     ⟨S4x1x8x128, extractStridedSlice S4x1x8x128 ![0, 0, 0, 0] (shapeCast S4x2x8x128 x shapeCasts_S64x128_S4x2x8x128) slices_S4x2x8x128_o0_0_0_0_S4x1x8x128⟩]
    concatenates_S4x1x8x128_S4x1x8x128_S4x2x8x128_d1) shapeCasts_S4x2x8x128_S64x128

/-- The partner's value at distance 16, swapping the halves of every 32 places. -/
def by16 (x : Tl F) : Tl F :=
  shapeCast S64x128 (concatenate S2x2x16x128 1
    [⟨S2x1x16x128, extractStridedSlice S2x1x16x128 ![0, 1, 0, 0] (shapeCast S2x2x16x128 x shapeCasts_S64x128_S2x2x16x128) slices_S2x2x16x128_o0_1_0_0_S2x1x16x128⟩,
     ⟨S2x1x16x128, extractStridedSlice S2x1x16x128 ![0, 0, 0, 0] (shapeCast S2x2x16x128 x shapeCasts_S64x128_S2x2x16x128) slices_S2x2x16x128_o0_0_0_0_S2x1x16x128⟩]
    concatenates_S2x1x16x128_S2x1x16x128_S2x2x16x128_d1) shapeCasts_S2x2x16x128_S64x128

/-- The partner's value at distance 32, swapping the halves of the tile. -/
def by32 (x : Tl F) : Tl F :=
  shapeCast S64x128 (concatenate S1x2x32x128 1
    [⟨S1x1x32x128, extractStridedSlice S1x1x32x128 ![0, 1, 0, 0] (shapeCast S1x2x32x128 x shapeCasts_S64x128_S1x2x32x128) slices_S1x2x32x128_o0_1_0_0_S1x1x32x128⟩,
     ⟨S1x1x32x128, extractStridedSlice S1x1x32x128 ![0, 0, 0, 0] (shapeCast S1x2x32x128 x shapeCasts_S64x128_S1x2x32x128) slices_S1x2x32x128_o0_0_0_0_S1x1x32x128⟩]
    concatenates_S1x1x32x128_S1x1x32x128_S1x2x32x128_d1) shapeCasts_S1x2x32x128_S64x128

/-- The choice: where the partner's key stands on the wrong side and differs. -/
def take (tm : IVec S64x1 1) (kp k : Tl F) : IVec S64x128 1 :=
  andi (xori (cmpf .olt kp k) (broadcastTo S64x128 (broadcastTo S64x128 tm broadcasts_S64x1_S64x128) broadcasts_S64x128_S64x128)) (cmpf .one kp k)

/-- One stage on the keys and the places of a tile. -/
def step (p : Tl F → Tl F) (tm : IVec S64x1 1) (s : Tl F × Tl F) : Tl F × Tl F :=
  (select (take tm (p s.1) s.1) (p s.1) s.1, select (take tm (p s.1) s.1) (p s.2) s.2)

/-- The direction of blocks that lie inside the tile. -/
def tmIn (v5 : IVec S64x1 32) (k j : BitVec 32) : IVec S64x1 1 := xori (clear v5 k) (clear v5 j)

/-- The direction of blocks no smaller than the tile, whose first place is `base`. -/
def tmOut (v5 : IVec S64x1 32) (base k j : BitVec 32) : IVec S64x1 1 :=
  xori (xori (clear v5 j) (broadcastTo S64x1 (broadcast S64x1 (Scalar.cmpi .ne (Scalar.andi base k) 0#32)) broadcasts_S64x1_S64x1))
    (constantI S64x1 1 1#1)

/-- The stages at distances 32 to 1 in a block no smaller than the tile. -/
def tail (v5 : IVec S64x1 32) (base k : BitVec 32) (s : Tl F × Tl F) : Tl F × Tl F :=
  step (byRoll v5 1#32 63#32) (tmOut v5 base k 1#32) <| step (byRoll v5 2#32 62#32) (tmOut v5 base k 2#32) <|
  step (byRoll v5 4#32 60#32) (tmOut v5 base k 4#32) <| step by8 (tmOut v5 base k 8#32) <|
  step by16 (tmOut v5 base k 16#32) <| step by32 (tmOut v5 base k 32#32) s

/-- The stages of blocks up to 32. -/
def inner (v5 : IVec S64x1 32) (s : Tl F × Tl F) : Tl F × Tl F :=
  step (byRoll v5 1#32 63#32) (tmIn v5 32#32 1#32) <| step (byRoll v5 2#32 62#32) (tmIn v5 32#32 2#32) <|
  step (byRoll v5 4#32 60#32) (tmIn v5 32#32 4#32) <| step by8 (tmIn v5 32#32 8#32) <| step by16 (tmIn v5 32#32 16#32) <|
  step (byRoll v5 1#32 63#32) (tmIn v5 16#32 1#32) <| step (byRoll v5 2#32 62#32) (tmIn v5 16#32 2#32) <|
  step (byRoll v5 4#32 60#32) (tmIn v5 16#32 4#32) <| step by8 (tmIn v5 16#32 8#32) <|
  step (byRoll v5 1#32 63#32) (tmIn v5 8#32 1#32) <| step (byRoll v5 2#32 62#32) (tmIn v5 8#32 2#32) <|
  step (byRoll v5 4#32 60#32) (tmIn v5 8#32 4#32) <|
  step (byRoll v5 1#32 63#32) (tmIn v5 4#32 1#32) <| step (byRoll v5 2#32 62#32) (tmIn v5 4#32 2#32) <|
  step (byRoll v5 1#32 63#32) (tmIn v5 2#32 1#32) s

/-- The choice between two tiles: `b0` is the first place of the lower one. -/
def cross (b0 k : BitVec 32) (ka kb : Tl F) : IVec S64x128 1 :=
  xori (cmpf .olt kb ka) (broadcastTo S64x128 (broadcast S64x128 (Scalar.cmpi .ne (Scalar.andi b0 k) 0#32)) broadcasts_S64x128_S64x128)

/-- The lower tile after the exchange with the upper one. -/
def lo (b0 k : BitVec 32) (a b : Tl F × Tl F) : Tl F × Tl F := (select (cross b0 k a.1 b.1) b.1 a.1, select (cross b0 k a.1 b.1) b.2 a.2)

/-- The upper tile after the exchange with the lower one. -/
def hi (b0 k : BitVec 32) (a b : Tl F × Tl F) : Tl F × Tl F := (select (cross b0 k a.1 b.1) a.1 b.1, select (cross b0 k a.1 b.1) a.2 b.2)

/-- A tile as it is stored. -/
def keep (x : Tl F) : Tl F := shapeCast S64x128 x shapeCasts_S64x128_S64x128

end Cert.KernelIdeal.Tile

end
-- ==== Proof.Reads.lean ====
/- The exchanges of `Stage` read at a place, at the ideal values: each is one stage of the network on all 2048 places of a lane. -/
module

public import Idealize.ShloMosaic.Lib.Pointwise
public import proofs.«01_k».proof.Proof.Net
public import proofs.«01_k».proof.Proof.Stage

@[expose] public section

noncomputable section

namespace Cert.KernelIdeal.Tile

open Idealize.ShloMosaic Idealize.SL.Sem Cert.KernelIdeal.Gen Idealize.ShloMosaic.SortNet Cert.Proof.Net

/-- The place at distance `2 ^ s` of a tile. -/
def mate (s : Fin 6) (r : Fin 64) : Fin 64 := ⟨(r.val ^^^ 2 ^ s.val) % 64, Nat.mod_lt _ (by omega)⟩

/-- A truth value as a bit. -/
def bit (b : Bool) : BitVec 1 := BitVec.ofBool b

/-! ### The partner's value -/

/-- `p` fetches the value at distance `2 ^ s`. -/
def Fetches (p : Tl Ideal → Tl Ideal) (s : Fin 6) : Prop := ∀ x r l, p x (ix2 r l) = x (ix2 (mate s r) l)

/-- The swap of 8 rows fetches the partner of stride 8. -/
theorem fetch8 : Fetches by8 3 := by
  intro x r l
  have h : ∀ r : Fin 64, (if r.val / 8 % 2 < 1 then r.val / 16 * 16 + (1 + r.val / 8 % 2) * 8 + r.val % 8
      else r.val / 16 * 16 + (r.val / 8 % 2 - 1) * 8 + r.val % 8) = (mate 3 r).val := by decide +kernel
  have h := h r
  pointwise [by8]
  split at h <;> rename_i hc
  · rw [dif_pos hc]; congr 2; exact Fin.ext h
  · rw [dif_neg hc]; congr 2; exact Fin.ext h

/-- The swap of 16 rows fetches the partner of stride 16. -/
theorem fetch16 : Fetches by16 4 := by
  intro x r l
  have h : ∀ r : Fin 64, (if r.val / 16 % 2 < 1 then r.val / 32 * 32 + (1 + r.val / 16 % 2) * 16 + r.val % 16
      else r.val / 32 * 32 + (r.val / 16 % 2 - 1) * 16 + r.val % 16) = (mate 4 r).val := by decide +kernel
  have h := h r
  pointwise [by16]
  split at h <;> rename_i hc
  · rw [dif_pos hc]; congr 2; exact Fin.ext h
  · rw [dif_neg hc]; congr 2; exact Fin.ext h

/-- The swap of 32 rows fetches the partner of stride 32. -/
theorem fetch32 : Fetches by32 5 := by
  intro x r l
  have h : ∀ r : Fin 64, (if r.val / 32 < 1 then (1 + r.val / 32) * 32 + r.val % 32
      else (r.val / 32 - 1) * 32 + r.val % 32) = (mate 5 r).val := by decide +kernel
  have h := h r
  pointwise [by32]
  split at h <;> rename_i hc
  · rw [dif_pos hc]; congr 2; exact Fin.ext h
  · rw [dif_neg hc]; congr 2; exact Fin.ext h

section

variable (v5 : IVec S64x1 32) (hv : ∀ r : Fin 64, v5 (ix2 r 0) = BitVec.ofNat 32 r.val)

include hv

/-- A choice between two rolls fetches the partner. -/
theorem fetch_roll (s : Fin 6) (j j' : ℕ) (hj : ∀ r : Fin 64, IntOp.cmpi .eq (IntOp.andi (BitVec.ofNat 32 r.val) (BitVec.ofNat 32 j)) 0#32 = bit !r.val.testBit s.val)
    (hd : ∀ r : Fin 64, (if r.val.testBit s.val then (r.val + 64 - (BitVec.ofNat 32 j).toNat % 64) % 64
      else (r.val + 64 - (BitVec.ofNat 32 j').toNat % 64) % 64) = (mate s r).val) :
    Fetches (byRoll v5 (BitVec.ofNat 32 j) (BitVec.ofNat 32 j')) s := by
  intro x r l
  have h := hd r
  pointwise [byRoll, wide, clear]
  rw [hv, hj]
  split at h <;> rename_i hc
  · rw [hc]
    show x (ix2 _ l) = _
    congr 2; exact Fin.ext h
  · rw [Bool.not_eq_true] at hc
    rw [hc]
    show x (ix2 _ l) = _
    congr 2; exact Fin.ext h

/-- The direction mark that is one for a tile, at a row. -/
theorem tmOut_apply (base k : BitVec 32) (d : Bool) (hd : Scalar.cmpi .ne (Scalar.andi base k) 0#32 = bit d) (s : Fin 6) (j : BitVec 32)
    (hj : ∀ r : Fin 64, IntOp.cmpi .eq (IntOp.andi (BitVec.ofNat 32 r.val) j) 0#32 = bit !r.val.testBit s.val) (r : Fin 64)  :
    tmOut v5 base k j (ix2 r 0) = bit (r.val.testBit s.val != d) := by
  pointwise [tmOut, wide, clear]
  rw [hv, hj, hd]
  cases r.val.testBit s.val <;> cases d <;> rfl

/-- The direction mark that varies within a tile, at a row. -/
theorem tmIn_apply (k j : BitVec 32) (s e : Fin 6)
    (hk : ∀ r : Fin 64, IntOp.cmpi .eq (IntOp.andi (BitVec.ofNat 32 r.val) k) 0#32 = bit !r.val.testBit e.val)
    (hj : ∀ r : Fin 64, IntOp.cmpi .eq (IntOp.andi (BitVec.ofNat 32 r.val) j) 0#32 = bit !r.val.testBit s.val) (r : Fin 64)  :
    tmIn v5 k j (ix2 r 0) = bit (r.val.testBit s.val != r.val.testBit e.val) := by
  pointwise [tmIn, wide, clear]
  rw [hv, hj, hk]
  cases r.val.testBit s.val <;> cases r.val.testBit e.val <;> rfl

end

/-- The kept value of an exchange, by one direction bit. -/
theorem pick {α : Type} (a b c : Bool) (x y : α) :
    Scalar.select (IntOp.andi (IntOp.xori (BitVec.ofBool a) (bit b)) (BitVec.ofBool c)) x y = if (a != b && c) = true then x else y := by
  cases a <;> cases b <;> cases c <;> rfl

/-- The kept value of an exchange of two tiles. -/
theorem pick2 {α : Type} (a b : Bool) (x y : α) :
    Scalar.select (IntOp.xori (BitVec.ofBool a) (bit b)) x y = if (a != b) = true then x else y := by
  cases a <;> cases b <;> rfl

/-! ### One stage on all the tiles -/

/-- The tiles of the keys and of the places. -/
abbrev St : Type := Fin 32 → Tl Ideal × Tl Ideal

/-- The tile of a place, and its row there. -/
def tileOf (i : Fin (2 ^ 11)) : Fin 32 := ⟨i.val / 64, by have := i.isLt; omega⟩
/-- The row of a place within its tile. -/
def rowOf (i : Fin (2 ^ 11)) : Fin 64 := ⟨i.val % 64, Nat.mod_lt _ (by omega)⟩

/-- The keys and the places of a lane. -/
def keyAt (S : St) (l : Fin 128) (i : Fin (2 ^ 11)) : EReal := (S (tileOf i)).1 (ix2 (rowOf i) l)
/-- The place stored at a place of a lane. -/
def idxAt (S : St) (l : Fin 128) (i : Fin (2 ^ 11)) : EReal := (S (tileOf i)).2 (ix2 (rowOf i) l)

/-- Partners of a short stride lie in one tile. -/
theorem near : ∀ (s : Fin 6) (i : Fin (2 ^ 11)), tileOf (partner 11 s.val i) = tileOf i ∧ rowOf (partner 11 s.val i) = mate s (rowOf i) := by
  decide +kernel

/-- The low bits of a place are those of its row. -/
theorem testBit_rowOf (s : Fin 6) (i : Fin (2 ^ 11)) : (rowOf i).val.testBit s.val = i.val.testBit s.val := by
  show (i.val % 2 ^ 6).testBit s.val = _
  rw [Nat.testBit_mod_two_pow]; simp

/-- An exchange within the tiles moves keys and places as the network does. -/
theorem step_moves (lev : ℕ) (s : Fin 6) (hs : s.val ≤ lev) (hl : lev < 11) (p : Tl Ideal → Tl Ideal) (hp : Fetches p s)
    (tm : Fin 32 → IVec S64x1 1)
    (htm : ∀ i : Fin (2 ^ 11), tm (tileOf i) (ix2 (rowOf i) 0) = bit (i.val.testBit s.val != i.val.testBit (lev + 1))) (S : St) (l : Fin 128) :
    Moves (exch lev s.val) (keyAt S l) (idxAt S l) (keyAt (fun t => step p (tm t) (S t)) l) (idxAt (fun t => step p (tm t) (S t)) l) := by
  have hs' : s.val < 11 := by omega
  have hkp : ∀ i, p (S (tileOf i)).1 (ix2 (rowOf i) l) = keyAt S l (partner 11 s.val i) := fun i => by
    rw [hp, keyAt, (near s i).1, (near s i).2]
  have hip : ∀ i, p (S (tileOf i)).2 (ix2 (rowOf i) l) = idxAt S l (partner 11 s.val i) := fun i => by
    rw [hp, idxAt, (near s i).1, (near s i).2]
  refine Moves.stage hs hl (fun i => (decide (keyAt S l (partner 11 s.val i) < keyAt S l i) != (i.val.testBit s.val != i.val.testBit (lev + 1))) &&
    decide (keyAt S l (partner 11 s.val i) ≠ keyAt S l i)) (fun i => ?_) (fun i => ?_) (fun i => ?_) (fun i hi hne => ?_)
  · rw [partner_partner hs', testBit_partner_self hs', testBit_partner_ne hs' (by omega : s.val ≠ lev + 1)]
    rcases lt_trichotomy (keyAt S l (partner 11 s.val i)) (keyAt S l i) with h | h | h
    · simp [h, h.ne, h.ne', h.not_gt]
    · simp [h]
    · simp [h, h.ne, h.ne', h.not_gt]
  · rw [← hkp]
    show (step p (tm (tileOf i)) (S (tileOf i))).1 (ix2 (rowOf i) l) = if _ then _ else (S (tileOf i)).1 (ix2 (rowOf i) l)
    pointwise [step, take]
    rw [htm]
    exact pick _ _ _ _ _
  · rw [← hkp, ← hip]
    show (step p (tm (tileOf i)) (S (tileOf i))).2 (ix2 (rowOf i) l) = if _ then _ else (S (tileOf i)).2 (ix2 (rowOf i) l)
    pointwise [step, take]
    rw [htm]
    exact pick _ _ _ _ _
  · simp [hi, hne]

/-- The tile `2 ^ u` tiles away. -/
def mateT (u : Fin 5) (t : Fin 32) : Fin 32 := ⟨(t.val ^^^ 2 ^ u.val) % 32, Nat.mod_lt _ (by omega)⟩

/-- Partners of a long stride lie in two tiles, at one row. -/
theorem far : ∀ (u : Fin 5) (i : Fin (2 ^ 11)), tileOf (partner 11 (u.val + 6) i) = mateT u (tileOf i) ∧ rowOf (partner 11 (u.val + 6) i) = rowOf i := by
  decide +kernel

/-- The high bits of a place are those of its tile. -/
theorem testBit_tileOf (u : ℕ) (i : Fin (2 ^ 11)) : (tileOf i).val.testBit u = i.val.testBit (u + 6) := by
  show (i.val / 2 ^ 6).testBit u = _
  rw [Nat.testBit_div_two_pow]

/-- A tile and its mate differ in the stride's bit. -/
theorem mateT_self (u : Fin 5) (t : Fin 32) : (mateT u t).val.testBit u.val = !t.val.testBit u.val := by
  revert u t; decide +kernel

/-- A tile is its mate's mate. -/
theorem mateT_mateT (u : Fin 5) (t : Fin 32) : mateT u (mateT u t) = t := by
  revert u t; decide +kernel

/-- The exchange of tiles `2 ^ u` apart is a stage of the network. -/
theorem cross_moves (lev : ℕ) (u : Fin 5) (hs : u.val + 6 ≤ lev) (hl : lev < 11) (b0 : Fin 32 → BitVec 32) (k : BitVec 32)
    (hb : ∀ t : Fin 32, t.val.testBit u.val = false → Scalar.cmpi .ne (Scalar.andi (b0 t) k) 0#32 = bit (t.val.testBit (lev - 5)))
    (S S' : St) (hS : ∀ t : Fin 32, t.val.testBit u.val = false →
      S' t = lo (b0 t) k (S t) (S (mateT u t)) ∧ S' (mateT u t) = hi (b0 t) k (S t) (S (mateT u t))) (l : Fin 128) :
    Moves (exch lev (u.val + 6)) (keyAt S l) (idxAt S l) (keyAt S' l) (idxAt S' l) := by
  have hs' : u.val + 6 < 11 := by omega
  have hdir : ∀ i : Fin (2 ^ 11), (tileOf i).val.testBit (lev - 5) = i.val.testBit (lev + 1) := fun i => by
    rw [testBit_tileOf]; congr 1; omega
  have hk : ∀ i, keyAt S l (partner 11 (u.val + 6) i) = (S (mateT u (tileOf i))).1 (ix2 (rowOf i) l) := fun i => by
    rw [keyAt, (far u i).1, (far u i).2]
  have hi : ∀ i, idxAt S l (partner 11 (u.val + 6) i) = (S (mateT u (tileOf i))).2 (ix2 (rowOf i) l) := fun i => by
    rw [idxAt, (far u i).1, (far u i).2]
  let K := keyAt S l
  let c : Fin (2 ^ 11) → Bool := fun i => if i.val.testBit (u.val + 6) = false then
      decide (K (partner 11 (u.val + 6) i) < K i) != i.val.testBit (lev + 1)
    else decide (K i < K (partner 11 (u.val + 6) i)) != i.val.testBit (lev + 1)
  have both : ∀ i, keyAt S' l i = (if c i then keyAt S l (partner 11 (u.val + 6) i) else keyAt S l i) ∧
      idxAt S' l i = if c i then idxAt S l (partner 11 (u.val + 6) i) else idxAt S l i := by
    intro i
    rw [hk, hi]
    by_cases hbit : i.val.testBit (u.val + 6) = false
    · have hc : c i = (decide (K (partner 11 (u.val + 6) i) < K i) != i.val.testBit (lev + 1)) := if_pos hbit
      have ht : (tileOf i).val.testBit u.val = false := by rw [testBit_tileOf]; exact hbit
      rw [hc, show K (partner 11 (u.val + 6) i) = _ from hk i]
      have e := (hS _ ht).1
      constructor
      · rw [keyAt, e]
        pointwise [lo, cross]
        rw [hb _ ht, hdir]
        exact pick2 _ _ _ _
      · rw [idxAt, e]
        pointwise [lo, cross]
        rw [hb _ ht, hdir]
        exact pick2 _ _ _ _
    · have hc : c i = (decide (K i < K (partner 11 (u.val + 6) i)) != i.val.testBit (lev + 1)) := if_neg hbit
      rw [Bool.not_eq_false] at hbit
      have ht : (mateT u (tileOf i)).val.testBit u.val = false := by rw [mateT_self, testBit_tileOf, hbit]; rfl
      have e := (hS _ ht).2
      rw [mateT_mateT] at e
      have hd : (mateT u (tileOf i)).val.testBit (lev - 5) = i.val.testBit (lev + 1) := by
        rw [← (far u i).1, hdir, testBit_partner_ne hs' (by omega)]
      rw [hc, show K (partner 11 (u.val + 6) i) = _ from hk i]
      constructor
      · rw [keyAt, e]
        pointwise [Tile.hi, cross]
        rw [hb _ ht, hd]
        exact pick2 _ _ _ _
      · rw [idxAt, e]
        pointwise [Tile.hi, cross]
        rw [hb _ ht, hd]
        exact pick2 _ _ _ _
  refine Moves.stage hs hl c (fun i => ?_) (fun i => (both i).1) (fun i => (both i).2) (fun i hi hne => if_pos hi)
  show (if _ then _ else _) = (if _ then _ else _)
  rw [partner_partner hs', testBit_partner_self hs', testBit_partner_ne hs' (by omega : u.val + 6 ≠ lev + 1)]
  cases i.val.testBit (u.val + 6) <;> simp

/-! ### The stages inside a tile -/

section

variable (v5 : IVec S64x1 32) (hv : ∀ r : Fin 64, v5 (ix2 r 0) = BitVec.ofNat 32 r.val)

/-- Bit 0 of a row. -/
theorem bit0 : ∀ r : Fin 64, IntOp.cmpi .eq (IntOp.andi (BitVec.ofNat 32 r.val) 1#32) 0#32 = bit !r.val.testBit 0 := by decide +kernel
/-- Bit 1 of a row. -/
theorem bit1 : ∀ r : Fin 64, IntOp.cmpi .eq (IntOp.andi (BitVec.ofNat 32 r.val) 2#32) 0#32 = bit !r.val.testBit 1 := by decide +kernel
/-- Bit 2 of a row. -/
theorem bit2 : ∀ r : Fin 64, IntOp.cmpi .eq (IntOp.andi (BitVec.ofNat 32 r.val) 4#32) 0#32 = bit !r.val.testBit 2 := by decide +kernel
/-- Bit 3 of a row. -/
theorem bit3 : ∀ r : Fin 64, IntOp.cmpi .eq (IntOp.andi (BitVec.ofNat 32 r.val) 8#32) 0#32 = bit !r.val.testBit 3 := by decide +kernel
/-- Bit 4 of a row. -/
theorem bit4 : ∀ r : Fin 64, IntOp.cmpi .eq (IntOp.andi (BitVec.ofNat 32 r.val) 16#32) 0#32 = bit !r.val.testBit 4 := by decide +kernel
/-- Bit 5 of a row. -/
theorem bit5 : ∀ r : Fin 64, IntOp.cmpi .eq (IntOp.andi (BitVec.ofNat 32 r.val) 32#32) 0#32 = bit !r.val.testBit 5 := by decide +kernel

include hv

/-- The rolls by 1 fetch the partner of stride 1. -/
theorem fetch1 : Fetches (byRoll v5 1#32 63#32) 0 := fetch_roll v5 hv 0 1 63 bit0 (by decide +kernel)
/-- The rolls by 2 fetch the partner of stride 2. -/
theorem fetch2 : Fetches (byRoll v5 2#32 62#32) 1 := fetch_roll v5 hv 1 2 62 bit1 (by decide +kernel)
/-- The rolls by 4 fetch the partner of stride 4. -/
theorem fetch4 : Fetches (byRoll v5 4#32 60#32) 2 := fetch_roll v5 hv 2 4 60 bit2 (by decide +kernel)

/-- The stages at distances 32 to 1 of a level of blocks no smaller than the tile. -/
theorem tail_moves (lev : ℕ) (h5 : 5 ≤ lev) (hl : lev < 11) (base : Fin 32 → BitVec 32) (k : BitVec 32)
    (hb : ∀ t : Fin 32, Scalar.cmpi .ne (Scalar.andi (base t) k) 0#32 = bit (t.val.testBit (lev - 5))) (S : St) (l : Fin 128) :
    Moves (lower lev 5) (keyAt S l) (idxAt S l) (keyAt (fun t => tail v5 (base t) k (S t)) l) (idxAt (fun t => tail v5 (base t) k (S t)) l) := by
  have htm : ∀ (s : Fin 6) (j : BitVec 32)
      (_ : ∀ r : Fin 64, IntOp.cmpi .eq (IntOp.andi (BitVec.ofNat 32 r.val) j) 0#32 = bit !r.val.testBit s.val) (i : Fin (2 ^ 11)),
      tmOut v5 (base (tileOf i)) k j (ix2 (rowOf i) 0) = bit (i.val.testBit s.val != i.val.testBit (lev + 1)) := by
    intro s j hj i
    rw [tmOut_apply v5 hv _ k _ (hb (tileOf i)) s j hj, testBit_rowOf, testBit_tileOf, show lev - 5 + 6 = lev + 1 by omega]
  have m5 := step_moves lev 5 h5 hl by32 fetch32 (fun t => tmOut v5 (base t) k 32#32) (htm 5 _ bit5) S l
  have m4 := m5.trans (step_moves lev 4 (le_trans (by decide) h5) hl by16 fetch16 (fun t => tmOut v5 (base t) k 16#32) (htm 4 _ bit4) _ l)
  have m3 := m4.trans (step_moves lev 3 (le_trans (by decide) h5) hl by8 fetch8 (fun t => tmOut v5 (base t) k 8#32) (htm 3 _ bit3) _ l)
  have m2 := m3.trans (step_moves lev 2 (le_trans (by decide) h5) hl _ (fetch4 v5 hv) (fun t => tmOut v5 (base t) k 4#32) (htm 2 _ bit2) _ l)
  have m1 := m2.trans (step_moves lev 1 (le_trans (by decide) h5) hl _ (fetch2 v5 hv) (fun t => tmOut v5 (base t) k 2#32) (htm 1 _ bit1) _ l)
  have m0 := m1.trans (step_moves lev 0 (le_trans (by decide) h5) hl _ (fetch1 v5 hv) (fun t => tmOut v5 (base t) k 1#32) (htm 0 _ bit0) _ l)
  have e : lower lev 5 = exch lev 5 ++ exch lev 4 ++ exch lev 3 ++ exch lev 2 ++ exch lev 1 ++ exch lev 0 := by
    simp only [lower, List.append_assoc]
  rw [e]
  exact m0

/-- The levels up to blocks of 32. -/
theorem inner_moves (S : St) (l : Fin 128) :
    Moves (lower 0 0 ++ lower 1 1 ++ lower 2 2 ++ lower 3 3 ++ lower 4 4) (keyAt S l) (idxAt S l) (keyAt (fun t => inner v5 (S t)) l)
      (idxAt (fun t => inner v5 (S t)) l) := by
  have go : ∀ (s e : Fin 6) (j k : BitVec 32) (p : Tl Ideal → Tl Ideal)
      (_ : ∀ r : Fin 64, IntOp.cmpi .eq (IntOp.andi (BitVec.ofNat 32 r.val) k) 0#32 = bit !r.val.testBit e.val)
      (_ : ∀ r : Fin 64, IntOp.cmpi .eq (IntOp.andi (BitVec.ofNat 32 r.val) j) 0#32 = bit !r.val.testBit s.val) (_ : Fetches p s)
      (lev : ℕ) (_ : e.val = lev + 1) (_ : s.val ≤ lev) (S : St),
      Moves (exch lev s.val) (keyAt S l) (idxAt S l) (keyAt (fun t => step p (tmIn v5 k j) (S t)) l)
        (idxAt (fun t => step p (tmIn v5 k j) (S t)) l) := by
    intro s e j k p hk hj hp lev he hs S
    refine step_moves lev s hs (by have := e.isLt; omega) p hp (fun _ => tmIn v5 k j) (fun i => ?_) S l
    rw [tmIn_apply v5 hv k j s e hk hj, testBit_rowOf, testBit_rowOf, he]
  have f1 := fetch1 v5 hv
  have f2 := fetch2 v5 hv
  have f4 := fetch4 v5 hv
  have m := go 0 1 _ _ _ bit1 bit0 f1 0 rfl (by decide) S
  have m := m.trans (go 1 2 _ _ _ bit2 bit1 f2 1 rfl (by decide) _)
  have m := m.trans (go 0 2 _ _ _ bit2 bit0 f1 1 rfl (by decide) _)
  have m := m.trans (go 2 3 _ _ _ bit3 bit2 f4 2 rfl (by decide) _)
  have m := m.trans (go 1 3 _ _ _ bit3 bit1 f2 2 rfl (by decide) _)
  have m := m.trans (go 0 3 _ _ _ bit3 bit0 f1 2 rfl (by decide) _)
  have m := m.trans (go 3 4 _ _ _ bit4 bit3 fetch8 3 rfl (by decide) _)
  have m := m.trans (go 2 4 _ _ _ bit4 bit2 f4 3 rfl (by decide) _)
  have m := m.trans (go 1 4 _ _ _ bit4 bit1 f2 3 rfl (by decide) _)
  have m := m.trans (go 0 4 _ _ _ bit4 bit0 f1 3 rfl (by decide) _)
  have m := m.trans (go 4 5 _ _ _ bit5 bit4 fetch16 4 rfl (by decide) _)
  have m := m.trans (go 3 5 _ _ _ bit5 bit3 fetch8 4 rfl (by decide) _)
  have m := m.trans (go 2 5 _ _ _ bit5 bit2 f4 4 rfl (by decide) _)
  have m := m.trans (go 1 5 _ _ _ bit5 bit1 f2 4 rfl (by decide) _)
  have m := m.trans (go 0 5 _ _ _ bit5 bit0 f1 4 rfl (by decide) _)
  have e : lower 0 0 ++ lower 1 1 ++ lower 2 2 ++ lower 3 3 ++ lower 4 4 = exch 0 0 ++ exch 1 1 ++ exch 1 0 ++ exch 2 2 ++ exch 2 1 ++ exch 2 0 ++
      exch 3 3 ++ exch 3 2 ++ exch 3 1 ++ exch 3 0 ++ exch 4 4 ++ exch 4 3 ++ exch 4 2 ++ exch 4 1 ++ exch 4 0 := by
    simp only [lower, List.append_assoc]
  rw [e]
  exact m

end

end Cert.KernelIdeal.Tile

end
-- ==== Proof.Trips.lean ====
/- What one trip of each of the sixteen loops leaves in the two arrays, in the words of `Stage`: the first loop sorts a tile by
   itself, the others exchange two tiles and, in the last loop of a level, go on inside each. -/
module

public import proofs.«01_k».proof.Proof.Gen.KernelIdeal.Loops
public import proofs.«01_k».proof.Proof.Stage

@[expose] public section

set_option maxRecDepth 8192

noncomputable section

namespace Cert.KernelIdeal.Tile

open Idealize.ShloMosaic Idealize.ShloMosaic.TcCoe Idealize.SL.Sem Cert.KernelIdeal.Gen

variable {F : FTy → Type} [FloatOps F]

/-- What a trip finds of the keys and of the places at the tile that begins at `off`. -/
abbrev found (arg7 arg8 : Memref sig .tc .vmem S2048x128 .f32) (off : Fin 2 → ℕ) (h : ∀ a, off a + S64x128.size a ≤ S2048x128.size a)
    (f7 : BufTy.Contents (Elt F) arg7.view.ty) (f8 : BufTy.Contents (Elt F) arg8.view.ty) : Tl F × Tl F :=
  (View.readAt (Elt F) arg7.view (Rect.unit (s := S2048x128) off S64x128.size h).toLoadRect f7,
   View.readAt (Elt F) arg8.view (Rect.unit (s := S2048x128) off S64x128.size h).toLoadRect f8)

/-- The pieces of an array of 2048 rows. -/
abbrev Ps (F : FTy → Type) : Type := List (View.Piece (Elt F) S2048x128 .f32)

/-- The pieces a trip leaves that writes one tile. -/
abbrev pieces (off : Fin 2 → ℕ) (h : ∀ a, off a + S64x128.size a ≤ S2048x128.size a) (s : Tl F × Tl F) : Ps F × Ps F :=
  ([⟨Rect.unit (s := S2048x128) off S64x128.size h, keep s.1⟩], [⟨Rect.unit (s := S2048x128) off S64x128.size h, keep s.2⟩])

/-- The pieces a trip leaves that writes two tiles, the upper one last. -/
abbrev pieces2 (off : Fin 2 → ℕ) (h : ∀ a, off a + S64x128.size a ≤ S2048x128.size a) (off' : Fin 2 → ℕ)
    (h' : ∀ a, off' a + S64x128.size a ≤ S2048x128.size a) (s s' : Tl F × Tl F) : Ps F × Ps F :=
  ([⟨Rect.unit (s := S2048x128) off' S64x128.size h', keep s'.1⟩, ⟨Rect.unit (s := S2048x128) off S64x128.size h, keep s.1⟩],
   [⟨Rect.unit (s := S2048x128) off' S64x128.size h', keep s'.2⟩, ⟨Rect.unit (s := S2048x128) off S64x128.size h, keep s.2⟩])

/-- The first place of the lower tile of a trip that exchanges tiles `m + 1` apart. -/
def farBase (m : BitVec 32) (k : ℕ) : BitVec 32 :=
  Scalar.muli (Scalar.addi (Scalar.muli (Scalar.subi (Scf.iv 0#32 1#32 k) (Scalar.andi (Scf.iv 0#32 1#32 k) m)) 2#32)
    (Scalar.andi (Scf.iv 0#32 1#32 k) m)) 64#32

/-- The first place of the lower tile of a trip that exchanges neighbouring tiles. -/
def pairBase (w : BitVec 32) (k : ℕ) : BitVec 32 := Scalar.muli (Scalar.muli 2#32 (Scf.iv w 1#32 k)) 64#32

section

variable (𝒱 : Variants) (c : Dev nD) (bd : Option 𝒱.V) (i : grid0.Coords) (arg2 : Memref sig .tc .smem S16 .i32) (harg2 : arg2.IsWhole)
  (arg3 : Memref sig .tc .vmem S1x128x2048 .f32) (harg3 : arg3.IsWhole) (arg4 : Memref sig .tc .vmem S128x128 .f32) (harg4 : arg4.IsWhole)
  (arg5 : Memref sig .tc .vmem S1x1x1x128 .f32) (harg5 : arg5.IsWhole) (arg6 : Memref sig .tc .vmem S1x128x2048 .i32) (harg6 : arg6.IsWhole)
  (arg7 : Memref sig .tc .vmem S2048x128 .f32) (harg7 : arg7.IsWhole) (arg8 : Memref sig .tc .vmem S2048x128 .f32) (harg8 : arg8.IsWhole)
  (v5 : IVec S64x1 32) (w : BitVec 32) (f7 : BufTy.Contents (Elt F) arg7.view.ty) (f8 : BufTy.Contents (Elt F) arg8.view.ty)

/-- What a trip of loop 1 stores. -/
theorem trip1 (k : Fin k0_t1_loop.trips) :
    tripL_k0_t1 (F := F) 𝒱 c bd i arg2 harg2 arg3 harg3 arg4 harg4 arg5 harg5 arg6 harg6 arg7 harg7 arg8 harg8 v5 w k f7 f8 =
    pieces (k0_off2 k) (k0_off2_inb k)
      (tail v5 (Scalar.muli (Scf.iv w 1#32 k) 64#32) 64#32 (inner v5 (found arg7 arg8 (k0_off2 k) (k0_off2_inb k) f7 f8))) := by
  unfold tripL_k0_t1 trip_k0_t1
  dsimp only [
    trip_k0_t1.sl.r_1, trip_k0_t1.sl.r_2, trip_k0_t1.sl.r_3, trip_k0_t1.sl.r_4, trip_k0_t1.sl.r_5, trip_k0_t1.sl.r_6, trip_k0_t1.sl.r_7,
    trip_k0_t1.sl.r_8, trip_k0_t1.sl.r_9, trip_k0_t1.sl.r_10, trip_k0_t1.sl.r_11, trip_k0_t1.sl.r_12, trip_k0_t1.sl.r_13,
    trip_k0_t1.sl.r_14, trip_k0_t1.sl.r_15, trip_k0_t1.sl.r_16, trip_k0_t1.sl.r_17, trip_k0_t1.sl.r_18, trip_k0_t1.sl.r_19,
    trip_k0_t1.sl.r_20, trip_k0_t1.sl.r_21, trip_k0_t1.sl.r_22, trip_k0_t1.sl.r_23, trip_k0_t1.sl.r_24, trip_k0_t1.sl.r_25,
    trip_k0_t1.sl.r_26, trip_k0_t1.sl.r_27, trip_k0_t1.sl.r_28, trip_k0_t1.sl.r_29, trip_k0_t1.sl.r_30, trip_k0_t1.sl.r_31,
    trip_k0_t1.sl.r_32, trip_k0_t1.sl.r_33, trip_k0_t1.sl.r_34, trip_k0_t1.sl.r_35, trip_k0_t1.sl.r_36, trip_k0_t1.sl.r_37,
    trip_k0_t1.sl.r_38, trip_k0_t1.sl.r_39, trip_k0_t1.sl.r_40, trip_k0_t1.sl.r_41, trip_k0_t1.sl.r_42, trip_k0_t1.sl.r_43,
    trip_k0_t1.sl.r_44, trip_k0_t1.sl.r_45, trip_k0_t1.sl.r_46, trip_k0_t1.sl.r_47, trip_k0_t1.sl.r_48, trip_k0_t1.sl.r_49,
    trip_k0_t1.sl.r_50, trip_k0_t1.sl.r_51, trip_k0_t1.sl.arg9, trip_k0_t1.sl.v155, trip_k0_t1.sl.r, k0_pay2, k0_pay3, k0_pay4, k0_pay5,
    k0_pay6, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55, k0_pay56, k0_pay57,
    k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83,
    k0_pay84, k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107, k0_pay108,
    k0_pay109, k0_pay110, k0_pay465, k0_pay466, k0_pay467, inner, tail, step, take, byRoll, by8, by16, by32, wide, clear, tmIn, tmOut,
    keep, lo, hi, cross, farBase, pairBase, pieces, pieces2, found]

/-- What a trip of loop 2 stores. -/
theorem trip2 (k : Fin k0_t2_loop.trips) :
    tripL_k0_t2 (F := F) 𝒱 c bd i arg2 harg2 arg3 harg3 arg4 harg4 arg5 harg5 arg6 harg6 arg7 harg7 arg8 harg8 v5 w k f7 f8 =
    pieces2 (k0_off3 k) (k0_off3_inb k) (k0_off4 k) (k0_off4_inb k)
      (tail v5 (pairBase 0#32 k) 128#32 (lo (pairBase 0#32 k) 128#32
        (found arg7 arg8 (k0_off3 k) (k0_off3_inb k) f7 f8)
        (found arg7 arg8 (k0_off4 k) (k0_off4_inb k) f7 f8)))
      (tail v5 (Scalar.addi (pairBase 0#32 k) 64#32) 128#32 (hi (pairBase 0#32 k) 128#32
        (found arg7 arg8 (k0_off3 k) (k0_off3_inb k) f7 f8)
        (found arg7 arg8 (k0_off4 k) (k0_off4_inb k) f7 f8))) := by
  unfold tripL_k0_t2 trip_k0_t2
  dsimp only [
    trip_k0_t2.sl.r_1, trip_k0_t2.sl.r_2, trip_k0_t2.sl.r_3, trip_k0_t2.sl.r_4, trip_k0_t2.sl.r_5, trip_k0_t2.sl.r_6, trip_k0_t2.sl.r_7,
    trip_k0_t2.sl.r_8, trip_k0_t2.sl.r_9, trip_k0_t2.sl.r_10, trip_k0_t2.sl.r_11, trip_k0_t2.sl.r_12, trip_k0_t2.sl.r_13,
    trip_k0_t2.sl.r_14, trip_k0_t2.sl.r_15, trip_k0_t2.sl.r_16, trip_k0_t2.sl.r_17, trip_k0_t2.sl.r_18, trip_k0_t2.sl.r_19,
    trip_k0_t2.sl.r_20, trip_k0_t2.sl.r_21, trip_k0_t2.sl.r_22, trip_k0_t2.sl.r_23, trip_k0_t2.sl.r_24, trip_k0_t2.sl.r_25,
    trip_k0_t2.sl.r_26, trip_k0_t2.sl.r_27, trip_k0_t2.sl.r_28, trip_k0_t2.sl.r_29, trip_k0_t2.sl.r_30, trip_k0_t2.sl.r_31,
    trip_k0_t2.sl.r_32, trip_k0_t2.sl.r_33, trip_k0_t2.sl.r_34, trip_k0_t2.sl.r_35, trip_k0_t2.sl.r_36, trip_k0_t2.sl.r_37,
    trip_k0_t2.sl.r_38, trip_k0_t2.sl.v155, trip_k0_t2.sl.arg9, trip_k0_t2.sl.v157, trip_k0_t2.sl.r, trip_k0_t2.sl.v156, k0_pay111,
    k0_pay112, k0_pay113, k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133, k0_pay134, k0_pay135,
    k0_pay136, k0_pay137, k0_pay138, k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168, k0_pay169, k0_pay170, k0_pay171,
    k0_pay172, k0_pay173, k0_pay174, k0_pay175, k0_pay176, k0_pay177, k0_pay178, k0_pay179, k0_pay180, k0_pay468, inner, tail, step,
    take, byRoll, by8, by16, by32, wide, clear, tmIn, tmOut, keep, lo, hi, cross, farBase, pairBase, pieces, pieces2, found]

/-- What a trip of loop 3 stores. -/
theorem trip3 (k : Fin k0_t3_loop.trips) :
    tripL_k0_t3 (F := F) 𝒱 c bd i arg2 harg2 arg3 harg3 arg4 harg4 arg5 harg5 arg6 harg6 arg7 harg7 arg8 harg8 v5 w k f7 f8 =
    pieces2 (k0_off5 k) (k0_off5_inb k) (k0_off6 k) (k0_off6_inb k)
      (lo (farBase 1#32 k) 256#32
        (found arg7 arg8 (k0_off5 k) (k0_off5_inb k) f7 f8)
        (found arg7 arg8 (k0_off6 k) (k0_off6_inb k) f7 f8))
      (hi (farBase 1#32 k) 256#32
        (found arg7 arg8 (k0_off5 k) (k0_off5_inb k) f7 f8)
        (found arg7 arg8 (k0_off6 k) (k0_off6_inb k) f7 f8)) := by
  unfold tripL_k0_t3 trip_k0_t3
  dsimp only [
    k0_pay469, k0_pay470, k0_pay471, k0_pay472, k0_pay473, inner, tail, step, take, byRoll, by8, by16, by32, wide, clear, tmIn, tmOut,
    keep, lo, hi, cross, farBase, pairBase, pieces, pieces2, found]

/-- What a trip of loop 4 stores. -/
theorem trip4 (k : Fin k0_t4_loop.trips) :
    tripL_k0_t4 (F := F) 𝒱 c bd i arg2 harg2 arg3 harg3 arg4 harg4 arg5 harg5 arg6 harg6 arg7 harg7 arg8 harg8 v5 w k f7 f8 =
    pieces2 (k0_off7 k) (k0_off7_inb k) (k0_off8 k) (k0_off8_inb k)
      (tail v5 (pairBase 0#32 k) 256#32 (lo (pairBase 0#32 k) 256#32
        (found arg7 arg8 (k0_off7 k) (k0_off7_inb k) f7 f8)
        (found arg7 arg8 (k0_off8 k) (k0_off8_inb k) f7 f8)))
      (tail v5 (Scalar.addi (pairBase 0#32 k) 64#32) 256#32 (hi (pairBase 0#32 k) 256#32
        (found arg7 arg8 (k0_off7 k) (k0_off7_inb k) f7 f8)
        (found arg7 arg8 (k0_off8 k) (k0_off8_inb k) f7 f8))) := by
  unfold tripL_k0_t4 trip_k0_t4
  dsimp only [
    trip_k0_t4.sl.r_1, trip_k0_t4.sl.r_2, trip_k0_t4.sl.r_3, trip_k0_t4.sl.r_4, trip_k0_t4.sl.r_5, trip_k0_t4.sl.r_6, trip_k0_t4.sl.r_7,
    trip_k0_t4.sl.r_8, trip_k0_t4.sl.r_9, trip_k0_t4.sl.r_10, trip_k0_t4.sl.r_11, trip_k0_t4.sl.r_12, trip_k0_t4.sl.r_13,
    trip_k0_t4.sl.r_14, trip_k0_t4.sl.r_15, trip_k0_t4.sl.r_16, trip_k0_t4.sl.r_17, trip_k0_t4.sl.r_18, trip_k0_t4.sl.r_19,
    trip_k0_t4.sl.r_20, trip_k0_t4.sl.r_21, trip_k0_t4.sl.r_22, trip_k0_t4.sl.r_23, trip_k0_t4.sl.r_24, trip_k0_t4.sl.r_25,
    trip_k0_t4.sl.r_26, trip_k0_t4.sl.r_27, trip_k0_t4.sl.r_28, trip_k0_t4.sl.r_29, trip_k0_t4.sl.r_30, trip_k0_t4.sl.r_31,
    trip_k0_t4.sl.r_32, trip_k0_t4.sl.r_33, trip_k0_t4.sl.r_34, trip_k0_t4.sl.r_35, trip_k0_t4.sl.r_36, trip_k0_t4.sl.r_37,
    trip_k0_t4.sl.r_38, trip_k0_t4.sl.arg9, trip_k0_t4.sl.v157, trip_k0_t4.sl.v155, trip_k0_t4.sl.v156, trip_k0_t4.sl.r, k0_pay181,
    k0_pay182, k0_pay183, k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203, k0_pay204, k0_pay205,
    k0_pay206, k0_pay207, k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239, k0_pay240, k0_pay241,
    k0_pay242, k0_pay243, k0_pay244, k0_pay245, k0_pay246, k0_pay247, k0_pay248, k0_pay249, k0_pay250, k0_pay474, inner, tail, step,
    take, byRoll, by8, by16, by32, wide, clear, tmIn, tmOut, keep, lo, hi, cross, farBase, pairBase, pieces, pieces2, found]

/-- What a trip of loop 5 stores. -/
theorem trip5 (k : Fin k0_t5_loop.trips) :
    tripL_k0_t5 (F := F) 𝒱 c bd i arg2 harg2 arg3 harg3 arg4 harg4 arg5 harg5 arg6 harg6 arg7 harg7 arg8 harg8 v5 w k f7 f8 =
    pieces2 (k0_off9 k) (k0_off9_inb k) (k0_off10 k) (k0_off10_inb k)
      (lo (farBase 3#32 k) 512#32
        (found arg7 arg8 (k0_off9 k) (k0_off9_inb k) f7 f8)
        (found arg7 arg8 (k0_off10 k) (k0_off10_inb k) f7 f8))
      (hi (farBase 3#32 k) 512#32
        (found arg7 arg8 (k0_off9 k) (k0_off9_inb k) f7 f8)
        (found arg7 arg8 (k0_off10 k) (k0_off10_inb k) f7 f8)) := by
  unfold tripL_k0_t5 trip_k0_t5
  dsimp only [
    k0_pay475, k0_pay476, k0_pay477, k0_pay478, k0_pay479, inner, tail, step, take, byRoll, by8, by16, by32, wide, clear, tmIn, tmOut,
    keep, lo, hi, cross, farBase, pairBase, pieces, pieces2, found]

/-- What a trip of loop 6 stores. -/
theorem trip6 (k : Fin k0_t6_loop.trips) :
    tripL_k0_t6 (F := F) 𝒱 c bd i arg2 harg2 arg3 harg3 arg4 harg4 arg5 harg5 arg6 harg6 arg7 harg7 arg8 harg8 v5 w k f7 f8 =
    pieces2 (k0_off11 k) (k0_off11_inb k) (k0_off12 k) (k0_off12_inb k)
      (lo (farBase 1#32 k) 512#32
        (found arg7 arg8 (k0_off11 k) (k0_off11_inb k) f7 f8)
        (found arg7 arg8 (k0_off12 k) (k0_off12_inb k) f7 f8))
      (hi (farBase 1#32 k) 512#32
        (found arg7 arg8 (k0_off11 k) (k0_off11_inb k) f7 f8)
        (found arg7 arg8 (k0_off12 k) (k0_off12_inb k) f7 f8)) := by
  unfold tripL_k0_t6 trip_k0_t6
  dsimp only [
    k0_pay480, k0_pay481, k0_pay482, k0_pay483, k0_pay484, inner, tail, step, take, byRoll, by8, by16, by32, wide, clear, tmIn, tmOut,
    keep, lo, hi, cross, farBase, pairBase, pieces, pieces2, found]

/-- What a trip of loop 7 stores. -/
theorem trip7 (k : Fin k0_t7_loop.trips) :
    tripL_k0_t7 (F := F) 𝒱 c bd i arg2 harg2 arg3 harg3 arg4 harg4 arg5 harg5 arg6 harg6 arg7 harg7 arg8 harg8 v5 w k f7 f8 =
    pieces2 (k0_off13 k) (k0_off13_inb k) (k0_off14 k) (k0_off14_inb k)
      (tail v5 (pairBase 0#32 k) 512#32 (lo (pairBase 0#32 k) 512#32
        (found arg7 arg8 (k0_off13 k) (k0_off13_inb k) f7 f8)
        (found arg7 arg8 (k0_off14 k) (k0_off14_inb k) f7 f8)))
      (tail v5 (Scalar.addi (pairBase 0#32 k) 64#32) 512#32 (hi (pairBase 0#32 k) 512#32
        (found arg7 arg8 (k0_off13 k) (k0_off13_inb k) f7 f8)
        (found arg7 arg8 (k0_off14 k) (k0_off14_inb k) f7 f8))) := by
  unfold tripL_k0_t7 trip_k0_t7
  dsimp only [
    trip_k0_t7.sl.r_1, trip_k0_t7.sl.r_2, trip_k0_t7.sl.r_3, trip_k0_t7.sl.r_4, trip_k0_t7.sl.r_5, trip_k0_t7.sl.r_6, trip_k0_t7.sl.r_7,
    trip_k0_t7.sl.r_8, trip_k0_t7.sl.r_9, trip_k0_t7.sl.r_10, trip_k0_t7.sl.r_11, trip_k0_t7.sl.r_12, trip_k0_t7.sl.r_13,
    trip_k0_t7.sl.r_14, trip_k0_t7.sl.r_15, trip_k0_t7.sl.r_16, trip_k0_t7.sl.r_17, trip_k0_t7.sl.r_18, trip_k0_t7.sl.r_19,
    trip_k0_t7.sl.r_20, trip_k0_t7.sl.r_21, trip_k0_t7.sl.r_22, trip_k0_t7.sl.r_23, trip_k0_t7.sl.r_24, trip_k0_t7.sl.r_25,
    trip_k0_t7.sl.r_26, trip_k0_t7.sl.r_27, trip_k0_t7.sl.r_28, trip_k0_t7.sl.r_29, trip_k0_t7.sl.r_30, trip_k0_t7.sl.r_31,
    trip_k0_t7.sl.r_32, trip_k0_t7.sl.r_33, trip_k0_t7.sl.r_34, trip_k0_t7.sl.r_35, trip_k0_t7.sl.r_36, trip_k0_t7.sl.r_37,
    trip_k0_t7.sl.r_38, trip_k0_t7.sl.v155, trip_k0_t7.sl.r, trip_k0_t7.sl.v157, trip_k0_t7.sl.v156, trip_k0_t7.sl.arg9, k0_pay251,
    k0_pay252, k0_pay253, k0_pay254, k0_pay255, k0_pay256, k0_pay257, k0_pay258, k0_pay259, k0_pay260, k0_pay261, k0_pay262, k0_pay263,
    k0_pay264, k0_pay265, k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285, k0_pay286, k0_pay287,
    k0_pay288, k0_pay289, k0_pay290, k0_pay291, k0_pay292, k0_pay293, k0_pay294, k0_pay295, k0_pay296, k0_pay297, k0_pay298, k0_pay299,
    k0_pay300, k0_pay301, k0_pay302, k0_pay303, k0_pay304, k0_pay305, k0_pay306, k0_pay307, k0_pay308, k0_pay309, k0_pay310, k0_pay311,
    k0_pay312, k0_pay313, k0_pay314, k0_pay315, k0_pay316, k0_pay317, k0_pay318, k0_pay319, k0_pay320, k0_pay485, inner, tail, step,
    take, byRoll, by8, by16, by32, wide, clear, tmIn, tmOut, keep, lo, hi, cross, farBase, pairBase, pieces, pieces2, found]

/-- What a trip of loop 8 stores. -/
theorem trip8 (k : Fin k0_t8_loop.trips) :
    tripL_k0_t8 (F := F) 𝒱 c bd i arg2 harg2 arg3 harg3 arg4 harg4 arg5 harg5 arg6 harg6 arg7 harg7 arg8 harg8 v5 w k f7 f8 =
    pieces2 (k0_off15 k) (k0_off15_inb k) (k0_off16 k) (k0_off16_inb k)
      (lo (farBase 7#32 k) 1024#32
        (found arg7 arg8 (k0_off15 k) (k0_off15_inb k) f7 f8)
        (found arg7 arg8 (k0_off16 k) (k0_off16_inb k) f7 f8))
      (hi (farBase 7#32 k) 1024#32
        (found arg7 arg8 (k0_off15 k) (k0_off15_inb k) f7 f8)
        (found arg7 arg8 (k0_off16 k) (k0_off16_inb k) f7 f8)) := by
  unfold tripL_k0_t8 trip_k0_t8
  dsimp only [
    k0_pay486, k0_pay487, k0_pay488, k0_pay489, k0_pay490, inner, tail, step, take, byRoll, by8, by16, by32, wide, clear, tmIn, tmOut,
    keep, lo, hi, cross, farBase, pairBase, pieces, pieces2, found]

/-- What a trip of loop 9 stores. -/
theorem trip9 (k : Fin k0_t9_loop.trips) :
    tripL_k0_t9 (F := F) 𝒱 c bd i arg2 harg2 arg3 harg3 arg4 harg4 arg5 harg5 arg6 harg6 arg7 harg7 arg8 harg8 v5 w k f7 f8 =
    pieces2 (k0_off17 k) (k0_off17_inb k) (k0_off18 k) (k0_off18_inb k)
      (lo (farBase 3#32 k) 1024#32
        (found arg7 arg8 (k0_off17 k) (k0_off17_inb k) f7 f8)
        (found arg7 arg8 (k0_off18 k) (k0_off18_inb k) f7 f8))
      (hi (farBase 3#32 k) 1024#32
        (found arg7 arg8 (k0_off17 k) (k0_off17_inb k) f7 f8)
        (found arg7 arg8 (k0_off18 k) (k0_off18_inb k) f7 f8)) := by
  unfold tripL_k0_t9 trip_k0_t9
  dsimp only [
    k0_pay491, k0_pay492, k0_pay493, k0_pay494, k0_pay495, inner, tail, step, take, byRoll, by8, by16, by32, wide, clear, tmIn, tmOut,
    keep, lo, hi, cross, farBase, pairBase, pieces, pieces2, found]

/-- What a trip of loop 10 stores. -/
theorem trip10 (k : Fin k0_t10_loop.trips) :
    tripL_k0_t10 (F := F) 𝒱 c bd i arg2 harg2 arg3 harg3 arg4 harg4 arg5 harg5 arg6 harg6 arg7 harg7 arg8 harg8 v5 w k f7 f8 =
    pieces2 (k0_off19 k) (k0_off19_inb k) (k0_off20 k) (k0_off20_inb k)
      (lo (farBase 1#32 k) 1024#32
        (found arg7 arg8 (k0_off19 k) (k0_off19_inb k) f7 f8)
        (found arg7 arg8 (k0_off20 k) (k0_off20_inb k) f7 f8))
      (hi (farBase 1#32 k) 1024#32
        (found arg7 arg8 (k0_off19 k) (k0_off19_inb k) f7 f8)
        (found arg7 arg8 (k0_off20 k) (k0_off20_inb k) f7 f8)) := by
  unfold tripL_k0_t10 trip_k0_t10
  dsimp only [
    k0_pay496, k0_pay497, k0_pay498, k0_pay499, k0_pay500, inner, tail, step, take, byRoll, by8, by16, by32, wide, clear, tmIn, tmOut,
    keep, lo, hi, cross, farBase, pairBase, pieces, pieces2, found]

/-- What a trip of loop 11 stores. -/
theorem trip11 (k : Fin k0_t11_loop.trips) :
    tripL_k0_t11 (F := F) 𝒱 c bd i arg2 harg2 arg3 harg3 arg4 harg4 arg5 harg5 arg6 harg6 arg7 harg7 arg8 harg8 v5 w k f7 f8 =
    pieces2 (k0_off21 k) (k0_off21_inb k) (k0_off22 k) (k0_off22_inb k)
      (tail v5 (pairBase w k) 1024#32 (lo (pairBase w k) 1024#32
        (found arg7 arg8 (k0_off21 k) (k0_off21_inb k) f7 f8)
        (found arg7 arg8 (k0_off22 k) (k0_off22_inb k) f7 f8)))
      (tail v5 (Scalar.addi (pairBase w k) 64#32) 1024#32 (hi (pairBase w k) 1024#32
        (found arg7 arg8 (k0_off21 k) (k0_off21_inb k) f7 f8)
        (found arg7 arg8 (k0_off22 k) (k0_off22_inb k) f7 f8))) := by
  unfold tripL_k0_t11 trip_k0_t11
  dsimp only [
    trip_k0_t11.sl.r_1, trip_k0_t11.sl.r_2, trip_k0_t11.sl.r_3, trip_k0_t11.sl.r_4, trip_k0_t11.sl.r_5, trip_k0_t11.sl.r_6,
    trip_k0_t11.sl.r_7, trip_k0_t11.sl.r_8, trip_k0_t11.sl.r_9, trip_k0_t11.sl.r_10, trip_k0_t11.sl.r_11, trip_k0_t11.sl.r_12,
    trip_k0_t11.sl.r_13, trip_k0_t11.sl.r_14, trip_k0_t11.sl.r_15, trip_k0_t11.sl.r_16, trip_k0_t11.sl.r_17, trip_k0_t11.sl.r_18,
    trip_k0_t11.sl.r_19, trip_k0_t11.sl.r_20, trip_k0_t11.sl.r_21, trip_k0_t11.sl.r_22, trip_k0_t11.sl.r_23, trip_k0_t11.sl.r_24,
    trip_k0_t11.sl.r_25, trip_k0_t11.sl.r_26, trip_k0_t11.sl.r_27, trip_k0_t11.sl.r_28, trip_k0_t11.sl.r_29, trip_k0_t11.sl.r_30,
    trip_k0_t11.sl.r_31, trip_k0_t11.sl.r_32, trip_k0_t11.sl.r_33, trip_k0_t11.sl.r_34, trip_k0_t11.sl.r_35, trip_k0_t11.sl.r_36,
    trip_k0_t11.sl.r_37, trip_k0_t11.sl.r_38, trip_k0_t11.sl.v155, trip_k0_t11.sl.arg9, trip_k0_t11.sl.r, trip_k0_t11.sl.v157,
    trip_k0_t11.sl.v156, k0_pay321, k0_pay322, k0_pay323, k0_pay324, k0_pay325, k0_pay326, k0_pay327, k0_pay328, k0_pay329, k0_pay330,
    k0_pay331, k0_pay332, k0_pay333, k0_pay334, k0_pay335, k0_pay336, k0_pay337, k0_pay338, k0_pay339, k0_pay340, k0_pay341, k0_pay342,
    k0_pay343, k0_pay344, k0_pay345, k0_pay346, k0_pay347, k0_pay348, k0_pay349, k0_pay350, k0_pay351, k0_pay352, k0_pay353, k0_pay354,
    k0_pay355, k0_pay356, k0_pay357, k0_pay358, k0_pay359, k0_pay360, k0_pay361, k0_pay362, k0_pay363, k0_pay364, k0_pay365, k0_pay366,
    k0_pay367, k0_pay368, k0_pay369, k0_pay370, k0_pay371, k0_pay372, k0_pay373, k0_pay374, k0_pay375, k0_pay376, k0_pay377, k0_pay378,
    k0_pay379, k0_pay380, k0_pay381, k0_pay382, k0_pay383, k0_pay384, k0_pay385, k0_pay386, k0_pay387, k0_pay388, k0_pay389, k0_pay390,
    k0_pay501, inner, tail, step, take, byRoll, by8, by16, by32, wide, clear, tmIn, tmOut, keep, lo, hi, cross, farBase, pairBase,
    pieces, pieces2, found]

/-- What a trip of loop 12 stores. -/
theorem trip12 (k : Fin k0_t12_loop.trips) :
    tripL_k0_t12 (F := F) 𝒱 c bd i arg2 harg2 arg3 harg3 arg4 harg4 arg5 harg5 arg6 harg6 arg7 harg7 arg8 harg8 v5 w k f7 f8 =
    pieces2 (k0_off23 k) (k0_off23_inb k) (k0_off24 k) (k0_off24_inb k)
      (lo (farBase 15#32 k) 2048#32
        (found arg7 arg8 (k0_off23 k) (k0_off23_inb k) f7 f8)
        (found arg7 arg8 (k0_off24 k) (k0_off24_inb k) f7 f8))
      (hi (farBase 15#32 k) 2048#32
        (found arg7 arg8 (k0_off23 k) (k0_off23_inb k) f7 f8)
        (found arg7 arg8 (k0_off24 k) (k0_off24_inb k) f7 f8)) := by
  unfold tripL_k0_t12 trip_k0_t12
  dsimp only [
    k0_pay502, k0_pay503, k0_pay504, k0_pay505, k0_pay506, inner, tail, step, take, byRoll, by8, by16, by32, wide, clear, tmIn, tmOut,
    keep, lo, hi, cross, farBase, pairBase, pieces, pieces2, found]

/-- What a trip of loop 13 stores. -/
theorem trip13 (k : Fin k0_t13_loop.trips) :
    tripL_k0_t13 (F := F) 𝒱 c bd i arg2 harg2 arg3 harg3 arg4 harg4 arg5 harg5 arg6 harg6 arg7 harg7 arg8 harg8 v5 w k f7 f8 =
    pieces2 (k0_off25 k) (k0_off25_inb k) (k0_off26 k) (k0_off26_inb k)
      (lo (farBase 7#32 k) 2048#32
        (found arg7 arg8 (k0_off25 k) (k0_off25_inb k) f7 f8)
        (found arg7 arg8 (k0_off26 k) (k0_off26_inb k) f7 f8))
      (hi (farBase 7#32 k) 2048#32
        (found arg7 arg8 (k0_off25 k) (k0_off25_inb k) f7 f8)
        (found arg7 arg8 (k0_off26 k) (k0_off26_inb k) f7 f8)) := by
  unfold tripL_k0_t13 trip_k0_t13
  dsimp only [
    k0_pay507, k0_pay508, k0_pay509, k0_pay510, k0_pay511, inner, tail, step, take, byRoll, by8, by16, by32, wide, clear, tmIn, tmOut,
    keep, lo, hi, cross, farBase, pairBase, pieces, pieces2, found]

/-- What a trip of loop 14 stores. -/
theorem trip14 (k : Fin k0_t14_loop.trips) :
    tripL_k0_t14 (F := F) 𝒱 c bd i arg2 harg2 arg3 harg3 arg4 harg4 arg5 harg5 arg6 harg6 arg7 harg7 arg8 harg8 v5 w k f7 f8 =
    pieces2 (k0_off27 k) (k0_off27_inb k) (k0_off28 k) (k0_off28_inb k)
      (lo (farBase 3#32 k) 2048#32
        (found arg7 arg8 (k0_off27 k) (k0_off27_inb k) f7 f8)
        (found arg7 arg8 (k0_off28 k) (k0_off28_inb k) f7 f8))
      (hi (farBase 3#32 k) 2048#32
        (found arg7 arg8 (k0_off27 k) (k0_off27_inb k) f7 f8)
        (found arg7 arg8 (k0_off28 k) (k0_off28_inb k) f7 f8)) := by
  unfold tripL_k0_t14 trip_k0_t14
  dsimp only [
    k0_pay512, k0_pay513, k0_pay514, k0_pay515, k0_pay516, inner, tail, step, take, byRoll, by8, by16, by32, wide, clear, tmIn, tmOut,
    keep, lo, hi, cross, farBase, pairBase, pieces, pieces2, found]

/-- What a trip of loop 15 stores. -/
theorem trip15 (k : Fin k0_t15_loop.trips) :
    tripL_k0_t15 (F := F) 𝒱 c bd i arg2 harg2 arg3 harg3 arg4 harg4 arg5 harg5 arg6 harg6 arg7 harg7 arg8 harg8 v5 w k f7 f8 =
    pieces2 (k0_off29 k) (k0_off29_inb k) (k0_off30 k) (k0_off30_inb k)
      (lo (farBase 1#32 k) 2048#32
        (found arg7 arg8 (k0_off29 k) (k0_off29_inb k) f7 f8)
        (found arg7 arg8 (k0_off30 k) (k0_off30_inb k) f7 f8))
      (hi (farBase 1#32 k) 2048#32
        (found arg7 arg8 (k0_off29 k) (k0_off29_inb k) f7 f8)
        (found arg7 arg8 (k0_off30 k) (k0_off30_inb k) f7 f8)) := by
  unfold tripL_k0_t15 trip_k0_t15
  dsimp only [
    k0_pay517, k0_pay518, k0_pay519, k0_pay520, k0_pay521, inner, tail, step, take, byRoll, by8, by16, by32, wide, clear, tmIn, tmOut,
    keep, lo, hi, cross, farBase, pairBase, pieces, pieces2, found]

/-- What a trip of loop 16 stores. -/
theorem trip16 (k : Fin k0_t16_loop.trips) :
    tripL_k0_t16 (F := F) 𝒱 c bd i arg2 harg2 arg3 harg3 arg4 harg4 arg5 harg5 arg6 harg6 arg7 harg7 arg8 harg8 v5 w k f7 f8 =
    pieces2 (k0_off31 k) (k0_off31_inb k) (k0_off32 k) (k0_off32_inb k)
      (tail v5 (pairBase 0#32 k) 2048#32 (lo (pairBase 0#32 k) 2048#32
        (found arg7 arg8 (k0_off31 k) (k0_off31_inb k) f7 f8)
        (found arg7 arg8 (k0_off32 k) (k0_off32_inb k) f7 f8)))
      (tail v5 (Scalar.addi (pairBase 0#32 k) 64#32) 2048#32 (hi (pairBase 0#32 k) 2048#32
        (found arg7 arg8 (k0_off31 k) (k0_off31_inb k) f7 f8)
        (found arg7 arg8 (k0_off32 k) (k0_off32_inb k) f7 f8))) := by
  unfold tripL_k0_t16 trip_k0_t16
  dsimp only [
    trip_k0_t16.sl.r_1, trip_k0_t16.sl.r_2, trip_k0_t16.sl.r_3, trip_k0_t16.sl.r_4, trip_k0_t16.sl.r_5, trip_k0_t16.sl.r_6,
    trip_k0_t16.sl.r_7, trip_k0_t16.sl.r_8, trip_k0_t16.sl.r_9, trip_k0_t16.sl.r_10, trip_k0_t16.sl.r_11, trip_k0_t16.sl.r_12,
    trip_k0_t16.sl.r_13, trip_k0_t16.sl.r_14, trip_k0_t16.sl.r_15, trip_k0_t16.sl.r_16, trip_k0_t16.sl.r_17, trip_k0_t16.sl.r_18,
    trip_k0_t16.sl.r_19, trip_k0_t16.sl.r_20, trip_k0_t16.sl.r_21, trip_k0_t16.sl.r_22, trip_k0_t16.sl.r_23, trip_k0_t16.sl.r_24,
    trip_k0_t16.sl.r_25, trip_k0_t16.sl.r_26, trip_k0_t16.sl.r_27, trip_k0_t16.sl.r_28, trip_k0_t16.sl.r_29, trip_k0_t16.sl.r_30,
    trip_k0_t16.sl.r_31, trip_k0_t16.sl.r_32, trip_k0_t16.sl.r_33, trip_k0_t16.sl.r_34, trip_k0_t16.sl.r_35, trip_k0_t16.sl.r_36,
    trip_k0_t16.sl.r_37, trip_k0_t16.sl.v156, trip_k0_t16.sl.r, trip_k0_t16.sl.v155, trip_k0_t16.sl.arg9, trip_k0_t16.sl.v157, k0_pay391,
    k0_pay392, k0_pay393, k0_pay394, k0_pay395, k0_pay396, k0_pay397, k0_pay398, k0_pay399, k0_pay400, k0_pay401, k0_pay402, k0_pay403,
    k0_pay404, k0_pay405, k0_pay406, k0_pay407, k0_pay408, k0_pay409, k0_pay410, k0_pay411, k0_pay412, k0_pay413, k0_pay414, k0_pay415,
    k0_pay416, k0_pay417, k0_pay418, k0_pay419, k0_pay420, k0_pay421, k0_pay422, k0_pay423, k0_pay424, k0_pay425, k0_pay426, k0_pay427,
    k0_pay428, k0_pay429, k0_pay430, k0_pay431, k0_pay432, k0_pay433, k0_pay434, k0_pay435, k0_pay436, k0_pay437, k0_pay438, k0_pay439,
    k0_pay440, k0_pay441, k0_pay442, k0_pay443, k0_pay444, k0_pay445, k0_pay446, k0_pay447, k0_pay448, k0_pay449, k0_pay450, k0_pay451,
    k0_pay452, k0_pay453, k0_pay454, k0_pay455, k0_pay456, k0_pay457, k0_pay458, k0_pay459, k0_pay460, k0_pay522, inner, tail, step,
    take, byRoll, by8, by16, by32, wide, clear, tmIn, tmOut, keep, lo, hi, cross, farBase, pairBase, pieces, pieces2, found]
  have h0 : Scalar.cmpi .ne (Scalar.andi (Scalar.muli (Scalar.muli 2#32 (Scf.iv 0#32 1#32 k)) 64#32) 2048#32) 0#32 = 0#1 := by
    revert k; decide +kernel
  have h1 : Scalar.cmpi .ne (Scalar.andi (Scalar.addi (Scalar.muli (Scalar.muli 2#32 (Scf.iv 0#32 1#32 k)) 64#32) 64#32) 2048#32) 0#32 = 0#1 := by
    revert k; decide +kernel
  simp only [h0, h1]
  rfl

end

end Cert.KernelIdeal.Tile

end
-- ==== Proof.Passes.lean ====
/- What a loop over tiles leaves: each trip changes its own tiles only and finds them as they were before the loop. -/
module

public import proofs.«01_k».proof.Proof.Reads
public import proofs.«01_k».proof.Proof.Trips
public import Idealize.ShloMosaic.Lib.VecWindow

@[expose] public section

noncomputable section

namespace Cert.KernelIdeal.Tile

open Idealize.ShloMosaic Idealize.SL.Sem Cert.KernelIdeal.Gen Idealize.ShloMosaic.SortNet Cert.Proof.Net

/-- A tile lies inside the scratch array. -/
theorem tile_inb (t : Fin 32) : ∀ a, (![64 * t.val, 0] : Fin 2 → ℕ) a + S64x128.size a ≤ S2048x128.size a := by
  revert t; decide +kernel

/-- A tile read and written back unchanged. -/
theorem keep_eq (x : Tl Ideal) : keep x = x := by
  funext j
  pointwise [keep]

section

variable (arg7 arg8 : Memref sig .tc .vmem S2048x128 .f32)

/-- The tiles of the two arrays. -/
def tiles (f7 : BufTy.Contents (Elt Ideal) arg7.view.ty) (f8 : BufTy.Contents (Elt Ideal) arg8.view.ty) : St :=
  fun t => found arg7 arg8 ![64 * t.val, 0] (tile_inb t) f7 f8

/-- The scratch arrays, read tile by tile. -/
theorem found_eq (f7 : BufTy.Contents (Elt Ideal) arg7.view.ty) (f8 : BufTy.Contents (Elt Ideal) arg8.view.ty) (off : Fin 2 → ℕ)
    (h : ∀ a, off a + S64x128.size a ≤ S2048x128.size a) (t : Fin 32) (ht : off = ![64 * t.val, 0]) :
    found arg7 arg8 off h f7 f8 = tiles arg7 arg8 f7 f8 t := by
  subst ht; rfl

variable (m : Memref sig .tc .vmem S2048x128 .f32)

/-- A tile read after a store of a tile. -/
theorem read_cons (f : BufTy.Contents (Elt Ideal) m.view.ty) (off : Fin 2 → ℕ) (h : ∀ a, off a + S64x128.size a ≤ S2048x128.size a)
    (w : Tl Ideal) (L : Ps Ideal) (t t' : Fin 32) (ht : off = ![64 * t.val, 0]) :
    m.view.readAt (Elt Ideal) (Rect.unit (s := S2048x128) ![64 * t'.val, 0] S64x128.size (tile_inb t')).toLoadRect
      (m.view.writes (Elt Ideal) f (⟨Rect.unit (s := S2048x128) off S64x128.size h, w⟩ :: L)) =
    if t' = t then w else m.view.readAt (Elt Ideal) (Rect.unit (s := S2048x128) ![64 * t'.val, 0] S64x128.size (tile_inb t')).toLoadRect
      (m.view.writes (Elt Ideal) f L) := by
  rw [View.readAt_unit m.view _ (tile_inb t') rfl (tile_inb t'), View.readAt_unit m.view _ (tile_inb t') rfl (tile_inb t'),
    View.read_writes_cons_put m.view f h w L ht]
  split
  · rename_i e; subst e
    exact VecWindow.window_put_same _ _ _ _ _
  · rename_i e
    refine VecWindow.window_put_of_disjoint _ _ _ _ _ _ _ (0 : Fin 2) ?_
    have : t'.val ≠ t.val := fun h => e (Fin.ext h)
    show 64 * t'.val + 64 ≤ 64 * t.val ∨ 64 * t.val + 64 ≤ 64 * t'.val
    omega

variable (G7 : BufTy.Contents (Elt Ideal) arg7.view.ty) (G8 : BufTy.Contents (Elt Ideal) arg8.view.ty)

/-- A trip that writes one tile changes that tile only. -/
theorem tiles_one (off : Fin 2 → ℕ) (h : ∀ a, off a + S64x128.size a ≤ S2048x128.size a) (s : Tl Ideal × Tl Ideal) (L7 L8 : Ps Ideal)
    (t t' : Fin 32) (ht : off = ![64 * t.val, 0]) :
    tiles arg7 arg8 (arg7.view.writes (Elt Ideal) G7 ((pieces off h s).1 ++ L7)) (arg8.view.writes (Elt Ideal) G8 ((pieces off h s).2 ++ L8)) t' =
      if t' = t then s else tiles arg7 arg8 (arg7.view.writes (Elt Ideal) G7 L7) (arg8.view.writes (Elt Ideal) G8 L8) t' := by
  have e7 := read_cons arg7 G7 off h (keep s.1) L7 t t' ht
  have e8 := read_cons arg8 G8 off h (keep s.2) L8 t t' ht
  by_cases e : t' = t
  · rw [if_pos e] at e7 e8 ⊢
    exact Prod.ext (e7.trans (keep_eq s.1)) (e8.trans (keep_eq s.2))
  · rw [if_neg e] at e7 e8 ⊢
    exact Prod.ext e7 e8

/-- A trip that writes two tiles changes those two only. -/
theorem tiles_two (off : Fin 2 → ℕ) (h : ∀ a, off a + S64x128.size a ≤ S2048x128.size a) (off' : Fin 2 → ℕ)
    (h' : ∀ a, off' a + S64x128.size a ≤ S2048x128.size a) (s s' : Tl Ideal × Tl Ideal) (L7 L8 : Ps Ideal)
    (t t' t'' : Fin 32) (ht : off = ![64 * t.val, 0]) (ht' : off' = ![64 * t'.val, 0]) :
    tiles arg7 arg8 (arg7.view.writes (Elt Ideal) G7 ((pieces2 off h off' h' s s').1 ++ L7))
        (arg8.view.writes (Elt Ideal) G8 ((pieces2 off h off' h' s s').2 ++ L8)) t'' =
      if t'' = t' then s' else if t'' = t then s else
        tiles arg7 arg8 (arg7.view.writes (Elt Ideal) G7 L7) (arg8.view.writes (Elt Ideal) G8 L8) t'' :=
  (tiles_one arg7 arg8 G7 G8 off' h' s' ((pieces off h s).1 ++ L7) ((pieces off h s).2 ++ L8) t' t'' ht').trans
    (if_congr Iff.rfl rfl (tiles_one arg7 arg8 G7 G8 off h s L7 L8 t t'' ht))

/-- A loop whose trips change one tile each. -/
theorem pass_one {n : ℕ} (pb : ℕ → Ps Ideal × Ps Ideal) (A : Fin n → Fin 32) (hinj : Function.Injective A)
    (off : Fin n → Fin 2 → ℕ) (hoff : ∀ k, off k = ![64 * (A k).val, 0]) (inb : ∀ k a, off k a + S64x128.size a ≤ S2048x128.size a)
    (fa : Fin 32 → Tl Ideal × Tl Ideal → Tl Ideal × Tl Ideal) (h0 : pb 0 = ([], []))
    (hsucc : ∀ k : Fin n, ∃ P : Ps Ideal × Ps Ideal, pb (k.val + 1) = (P.1 ++ (pb k.val).1, P.2 ++ (pb k.val).2) ∧
      P = pieces (off k) (inb k) (fa (A k) (found arg7 arg8 (off k) (inb k) (arg7.view.writes (Elt Ideal) G7 (pb k.val).1)
        (arg8.view.writes (Elt Ideal) G8 (pb k.val).2)))) (k : Fin n) :
    tiles arg7 arg8 (arg7.view.writes (Elt Ideal) G7 (pb n).1) (arg8.view.writes (Elt Ideal) G8 (pb n).2) (A k) =
      fa (A k) (tiles arg7 arg8 G7 G8 (A k)) := by
  let T : ℕ → St := fun j => tiles arg7 arg8 (arg7.view.writes (Elt Ideal) G7 (pb j).1) (arg8.view.writes (Elt Ideal) G8 (pb j).2)
  have hT0 : T 0 = tiles arg7 arg8 G7 G8 := by show tiles _ _ _ _ = _; rw [h0]; rfl
  have hT : ∀ (j : Fin n) (t : Fin 32), T (j.val + 1) t = if t = A j then fa (A j) (T j.val (A j)) else T j.val t := by
    intro j t
    obtain ⟨P, e, hP⟩ := hsucc j
    show tiles _ _ _ _ t = _
    rw [found_eq arg7 arg8 _ _ _ _ (A j) (hoff j)] at hP
    rw [e, hP]
    exact tiles_one arg7 arg8 G7 G8 _ _ _ _ _ (A j) t (hoff j)
  have keepT : ∀ j ≤ n, ∀ t : Fin 32, (∀ i : Fin n, i.val < j → A i ≠ t) → T j t = T 0 t := by
    intro j
    induction j with
    | zero => intros; rfl
    | succ j ih =>
      intro hj t ht
      rw [hT ⟨j, hj⟩ t, if_neg fun e => ht ⟨j, hj⟩ (Nat.lt_succ_self j) e.symm]
      exact ih (by omega) t fun i hi => ht i (by omega)
  have done : ∀ j ≤ n, k.val < j → T j (A k) = fa (A k) (T 0 (A k)) := by
    intro j
    induction j with
    | zero => intro _ h; omega
    | succ j ih =>
      intro hj hk
      rw [hT ⟨j, hj⟩]
      by_cases e : k.val = j
      · have e' : k = ⟨j, hj⟩ := Fin.ext e
        rw [← e', if_pos rfl]
        show fa _ (T k.val _) = _
        rw [keepT k.val k.isLt.le _ fun i hi h => by have := hinj h; subst this; omega]
      · rw [if_neg fun h => e (congrArg Fin.val (hinj h))]
        exact ih (by omega) (by omega)
  rw [← hT0]
  exact done n le_rfl k.isLt

/-- A loop whose trips change two tiles each, `2 ^ u` tiles apart. -/
theorem pass_two {n : ℕ} (u : Fin 5) (pb : ℕ → Ps Ideal × Ps Ideal) (A : Fin n → Fin 32) (hinj : Function.Injective A)
    (hlow : ∀ k, (A k).val.testBit u.val = false) (hsurj : ∀ t : Fin 32, t.val.testBit u.val = false → ∃ k, A k = t)
    (off off' : Fin n → Fin 2 → ℕ) (hoff : ∀ k, off k = ![64 * (A k).val, 0]) (hoff' : ∀ k, off' k = ![64 * (mateT u (A k)).val, 0])
    (inb : ∀ k a, off k a + S64x128.size a ≤ S2048x128.size a) (inb' : ∀ k a, off' k a + S64x128.size a ≤ S2048x128.size a)
    (fa fb : Fin 32 → Tl Ideal × Tl Ideal → Tl Ideal × Tl Ideal → Tl Ideal × Tl Ideal) (h0 : pb 0 = ([], []))
    (hsucc : ∀ k : Fin n, ∃ P : Ps Ideal × Ps Ideal, pb (k.val + 1) = (P.1 ++ (pb k.val).1, P.2 ++ (pb k.val).2) ∧
      P = pieces2 (off k) (inb k) (off' k) (inb' k)
        (fa (A k) (found arg7 arg8 (off k) (inb k) (arg7.view.writes (Elt Ideal) G7 (pb k.val).1) (arg8.view.writes (Elt Ideal) G8 (pb k.val).2))
          (found arg7 arg8 (off' k) (inb' k) (arg7.view.writes (Elt Ideal) G7 (pb k.val).1) (arg8.view.writes (Elt Ideal) G8 (pb k.val).2)))
        (fb (A k) (found arg7 arg8 (off k) (inb k) (arg7.view.writes (Elt Ideal) G7 (pb k.val).1) (arg8.view.writes (Elt Ideal) G8 (pb k.val).2))
          (found arg7 arg8 (off' k) (inb' k) (arg7.view.writes (Elt Ideal) G7 (pb k.val).1) (arg8.view.writes (Elt Ideal) G8 (pb k.val).2))))
    (t : Fin 32) (ht : t.val.testBit u.val = false) :
    tiles arg7 arg8 (arg7.view.writes (Elt Ideal) G7 (pb n).1) (arg8.view.writes (Elt Ideal) G8 (pb n).2) t =
      fa t (tiles arg7 arg8 G7 G8 t) (tiles arg7 arg8 G7 G8 (mateT u t)) ∧
    tiles arg7 arg8 (arg7.view.writes (Elt Ideal) G7 (pb n).1) (arg8.view.writes (Elt Ideal) G8 (pb n).2) (mateT u t) =
      fb t (tiles arg7 arg8 G7 G8 t) (tiles arg7 arg8 G7 G8 (mateT u t)) := by
  obtain ⟨k, rfl⟩ := hsurj t ht
  let T : ℕ → St := fun j => tiles arg7 arg8 (arg7.view.writes (Elt Ideal) G7 (pb j).1) (arg8.view.writes (Elt Ideal) G8 (pb j).2)
  have hT0 : T 0 = tiles arg7 arg8 G7 G8 := by show tiles _ _ _ _ = _; rw [h0]; rfl
  have hne : ∀ i j, A i ≠ mateT u (A j) := fun i j e => by
    have := mateT_self u (A j)
    rw [← e, hlow, hlow] at this; exact absurd this (by decide)
  have hmate : ∀ i j, mateT u (A i) = mateT u (A j) → i = j := fun i j e => hinj (by rw [← mateT_mateT u (A i), e, mateT_mateT])
  have hT : ∀ (j : Fin n) (t : Fin 32), T (j.val + 1) t = if t = mateT u (A j) then fb (A j) (T j.val (A j)) (T j.val (mateT u (A j)))
      else if t = A j then fa (A j) (T j.val (A j)) (T j.val (mateT u (A j))) else T j.val t := by
    intro j t
    obtain ⟨P, e, hP⟩ := hsucc j
    show tiles _ _ _ _ t = _
    rw [found_eq arg7 arg8 _ _ _ _ (A j) (hoff j), found_eq arg7 arg8 _ _ _ _ (mateT u (A j)) (hoff' j)] at hP
    rw [e, hP]
    exact tiles_two arg7 arg8 G7 G8 _ _ _ _ _ _ _ _ (A j) (mateT u (A j)) t (hoff j) (hoff' j)
  have keepT : ∀ j ≤ n, ∀ t : Fin 32, (∀ i : Fin n, i.val < j → A i ≠ t ∧ mateT u (A i) ≠ t) → T j t = T 0 t := by
    intro j
    induction j with
    | zero => intros; rfl
    | succ j ih =>
      intro hj t ht
      rw [hT ⟨j, hj⟩ t, if_neg fun e => (ht ⟨j, hj⟩ (Nat.lt_succ_self j)).2 e.symm, if_neg fun e => (ht ⟨j, hj⟩ (Nat.lt_succ_self j)).1 e.symm]
      exact ih (by omega) t fun i hi => ht i (by omega)
  have before : T k.val (A k) = T 0 (A k) ∧ T k.val (mateT u (A k)) = T 0 (mateT u (A k)) := by
    constructor
    · exact keepT k.val k.isLt.le _ fun i hi => ⟨fun h => by have := hinj h; subst this; omega, fun h => hne k i h.symm⟩
    · exact keepT k.val k.isLt.le _ fun i hi => ⟨hne i k, fun h => by have := hmate i k h; subst this; omega⟩
  have done : ∀ j ≤ n, k.val < j → T j (A k) = fa (A k) (T 0 (A k)) (T 0 (mateT u (A k))) ∧
      T j (mateT u (A k)) = fb (A k) (T 0 (A k)) (T 0 (mateT u (A k))) := by
    intro j
    induction j with
    | zero => intro _ h; omega
    | succ j ih =>
      intro hj hk
      rw [hT ⟨j, hj⟩, hT ⟨j, hj⟩]
      by_cases e : k.val = j
      · have e' : k = ⟨j, hj⟩ := Fin.ext e
        rw [← e', if_neg (hne k k), if_pos rfl, if_pos rfl]
        show fa _ (T k.val _) (T k.val _) = _ ∧ fb _ (T k.val _) (T k.val _) = _
        rw [before.1, before.2]; exact ⟨rfl, rfl⟩
      · have e' : ¬ k = ⟨j, hj⟩ := fun h => e (congrArg Fin.val h)
        rw [if_neg (hne _ _), if_neg fun h => e' (hinj h), if_neg fun h => e' (hmate _ _ h), if_neg fun h => hne _ _ h.symm]
        exact ih (by omega) (by omega)
  rw [← hT0]
  exact done n le_rfl k.isLt

/-- The first place of a tile. -/
def base (t : Fin 32) : BitVec 32 := BitVec.ofNat 32 (64 * t.val)

/-- The lower tile of trip `k` of a loop that exchanges tiles `2 ^ u` apart. -/
def lowTile (u : Fin 5) (k : ℕ) : Fin 32 := ⟨((k - k % 2 ^ u.val) * 2 + k % 2 ^ u.val) % 32, Nat.mod_lt _ (by omega)⟩

/-- Different trips take different lower tiles. -/
theorem lowTile_inj : ∀ (u : Fin 5) (k k' : Fin 16), lowTile u k = lowTile u k' → k = k' := by decide +kernel
/-- A lower tile has the stride's bit clear. -/
theorem lowTile_low : ∀ (u : Fin 5) (k : Fin 16), (lowTile u k).val.testBit u.val = false := by decide +kernel
/-- Every tile with the stride's bit clear is some trip's lower tile. -/
theorem lowTile_surj : ∀ (u : Fin 5) (t : Fin 32), t.val.testBit u.val = false → ∃ k : Fin 16, lowTile u k = t := by decide +kernel

/-- The lowest bit of a tile and of its mate differ. -/
theorem mateT_bit : ∀ t : Fin 32, (mateT 0 t).val.testBit 0 = !t.val.testBit 0 := by decide +kernel

/-- A loop that only exchanges tiles is one stage. -/
theorem far_pass (lev : ℕ) (u : Fin 5) (hs : u.val + 6 ≤ lev) (hl : lev < 11) (k : BitVec 32)
    (hb : ∀ t : Fin 32, Scalar.cmpi .ne (Scalar.andi (base t) k) 0#32 = bit (t.val.testBit (lev - 5))) (pb : ℕ → Ps Ideal × Ps Ideal)
    (off off' : Fin 16 → Fin 2 → ℕ) (hoff : ∀ k, off k = ![64 * (lowTile u k).val, 0]) (hoff' : ∀ k, off' k = ![64 * (mateT u (lowTile u k)).val, 0])
    (inb : ∀ k a, off k a + S64x128.size a ≤ S2048x128.size a) (inb' : ∀ k a, off' k a + S64x128.size a ≤ S2048x128.size a) (h0 : pb 0 = ([], []))
    (hsucc : ∀ j : Fin 16, ∃ P : Ps Ideal × Ps Ideal, pb (j.val + 1) = (P.1 ++ (pb j.val).1, P.2 ++ (pb j.val).2) ∧
      P = pieces2 (off j) (inb j) (off' j) (inb' j)
        (lo (base (lowTile u j)) k (found arg7 arg8 (off j) (inb j) (arg7.view.writes (Elt Ideal) G7 (pb j.val).1) (arg8.view.writes (Elt Ideal) G8 (pb j.val).2))
          (found arg7 arg8 (off' j) (inb' j) (arg7.view.writes (Elt Ideal) G7 (pb j.val).1) (arg8.view.writes (Elt Ideal) G8 (pb j.val).2)))
        (hi (base (lowTile u j)) k (found arg7 arg8 (off j) (inb j) (arg7.view.writes (Elt Ideal) G7 (pb j.val).1) (arg8.view.writes (Elt Ideal) G8 (pb j.val).2))
          (found arg7 arg8 (off' j) (inb' j) (arg7.view.writes (Elt Ideal) G7 (pb j.val).1) (arg8.view.writes (Elt Ideal) G8 (pb j.val).2)))) (l : Fin 128) :
    Moves (exch lev (u.val + 6)) (keyAt (tiles arg7 arg8 G7 G8) l) (idxAt (tiles arg7 arg8 G7 G8) l)
      (keyAt (tiles arg7 arg8 (arg7.view.writes (Elt Ideal) G7 (pb 16).1) (arg8.view.writes (Elt Ideal) G8 (pb 16).2)) l)
      (idxAt (tiles arg7 arg8 (arg7.view.writes (Elt Ideal) G7 (pb 16).1) (arg8.view.writes (Elt Ideal) G8 (pb 16).2)) l) :=
  cross_moves lev u hs hl base k (fun t _ => hb t) _ _
    (fun t ht => pass_two arg7 arg8 G7 G8 u pb (fun j => lowTile u j.val) (fun a b h => lowTile_inj u a b h) (lowTile_low u) (lowTile_surj u) off off'
      hoff hoff' inb inb' (fun t a b => lo (base t) k a b) (fun t a b => hi (base t) k a b) h0 hsucc t ht) l

/-- A loop that exchanges neighbouring tiles and goes on inside each does all the stages of a level from distance 64 downwards. -/
theorem merged_pass (v5 : IVec S64x1 32) (hv : ∀ r : Fin 64, v5 (ix2 r 0) = BitVec.ofNat 32 r.val) (lev : ℕ) (hs : 6 ≤ lev) (hl : lev < 11) (k : BitVec 32)
    (hb : ∀ t : Fin 32, Scalar.cmpi .ne (Scalar.andi (base t) k) 0#32 = bit (t.val.testBit (lev - 5))) (pb : ℕ → Ps Ideal × Ps Ideal)
    (off off' : Fin 16 → Fin 2 → ℕ) (hoff : ∀ k, off k = ![64 * (lowTile 0 k).val, 0]) (hoff' : ∀ k, off' k = ![64 * (mateT 0 (lowTile 0 k)).val, 0])
    (inb : ∀ k a, off k a + S64x128.size a ≤ S2048x128.size a) (inb' : ∀ k a, off' k a + S64x128.size a ≤ S2048x128.size a) (h0 : pb 0 = ([], []))
    (hsucc : ∀ j : Fin 16, ∃ P : Ps Ideal × Ps Ideal, pb (j.val + 1) = (P.1 ++ (pb j.val).1, P.2 ++ (pb j.val).2) ∧
      P = pieces2 (off j) (inb j) (off' j) (inb' j)
        (tail v5 (base (lowTile 0 j)) k (lo (base (lowTile 0 j)) k
          (found arg7 arg8 (off j) (inb j) (arg7.view.writes (Elt Ideal) G7 (pb j.val).1) (arg8.view.writes (Elt Ideal) G8 (pb j.val).2))
          (found arg7 arg8 (off' j) (inb' j) (arg7.view.writes (Elt Ideal) G7 (pb j.val).1) (arg8.view.writes (Elt Ideal) G8 (pb j.val).2))))
        (tail v5 (base (mateT 0 (lowTile 0 j))) k (hi (base (lowTile 0 j)) k
          (found arg7 arg8 (off j) (inb j) (arg7.view.writes (Elt Ideal) G7 (pb j.val).1) (arg8.view.writes (Elt Ideal) G8 (pb j.val).2))
          (found arg7 arg8 (off' j) (inb' j) (arg7.view.writes (Elt Ideal) G7 (pb j.val).1) (arg8.view.writes (Elt Ideal) G8 (pb j.val).2))))) (l : Fin 128) :
    Moves (lower lev 6) (keyAt (tiles arg7 arg8 G7 G8) l) (idxAt (tiles arg7 arg8 G7 G8) l)
      (keyAt (tiles arg7 arg8 (arg7.view.writes (Elt Ideal) G7 (pb 16).1) (arg8.view.writes (Elt Ideal) G8 (pb 16).2)) l)
      (idxAt (tiles arg7 arg8 (arg7.view.writes (Elt Ideal) G7 (pb 16).1) (arg8.view.writes (Elt Ideal) G8 (pb 16).2)) l) := by
  have h := fun t ht => pass_two arg7 arg8 G7 G8 0 pb (fun j => lowTile 0 j.val) (fun a b h => lowTile_inj 0 a b h) (lowTile_low 0) (lowTile_surj 0) off off'
      hoff hoff' inb inb' (fun t a b => tail v5 (base t) k (lo (base t) k a b)) (fun t a b => tail v5 (base (mateT 0 t)) k (hi (base t) k a b)) h0 hsucc t ht
  let S := tiles arg7 arg8 G7 G8
  let S1 : St := fun t => if t.val.testBit 0 = false then lo (base t) k (S t) (S (mateT 0 t)) else hi (base (mateT 0 t)) k (S (mateT 0 t)) (S t)
  have m1 : Moves (exch lev 6) (keyAt S l) (idxAt S l) (keyAt S1 l) (idxAt S1 l) := by
    refine cross_moves lev 0 hs hl base k (fun t _ => hb t) S S1 (fun t ht => ⟨if_pos ht, ?_⟩) l
    have : ¬ (mateT 0 t).val.testBit 0 = false := by rw [mateT_bit, show t.val.testBit 0 = false from ht]; decide
    exact (if_neg this).trans (by rw [mateT_mateT])
  have e : tiles arg7 arg8 (arg7.view.writes (Elt Ideal) G7 (pb 16).1) (arg8.view.writes (Elt Ideal) G8 (pb 16).2) =
      fun t => tail v5 (base t) k (S1 t) := by
    funext t
    by_cases ht : t.val.testBit 0 = false
    · rw [(h t ht).1, show S1 t = _ from if_pos ht]
    · have ht' : (mateT 0 t).val.testBit 0 = false := by
        rw [Bool.not_eq_false] at ht; rw [mateT_bit, ht]; rfl
      have := (h _ ht').2
      rw [mateT_mateT] at this
      rw [this, show S1 t = _ from if_neg ht]
  rw [e]
  exact m1.trans (tail_moves v5 hv lev (by omega) hl base k hb S1 l)

/-- The first loop does all the levels up to blocks of 64. -/
theorem first_pass (v5 : IVec S64x1 32) (hv : ∀ r : Fin 64, v5 (ix2 r 0) = BitVec.ofNat 32 r.val) (pb : ℕ → Ps Ideal × Ps Ideal)
    (off : Fin 32 → Fin 2 → ℕ) (hoff : ∀ k, off k = ![64 * k.val, 0]) (inb : ∀ k a, off k a + S64x128.size a ≤ S2048x128.size a) (h0 : pb 0 = ([], []))
    (hsucc : ∀ j : Fin 32, ∃ P : Ps Ideal × Ps Ideal, pb (j.val + 1) = (P.1 ++ (pb j.val).1, P.2 ++ (pb j.val).2) ∧
      P = pieces (off j) (inb j) (tail v5 (base j) 64#32 (inner v5
        (found arg7 arg8 (off j) (inb j) (arg7.view.writes (Elt Ideal) G7 (pb j.val).1) (arg8.view.writes (Elt Ideal) G8 (pb j.val).2))))) (l : Fin 128) :
    Moves small (keyAt (tiles arg7 arg8 G7 G8) l) (idxAt (tiles arg7 arg8 G7 G8) l)
      (keyAt (tiles arg7 arg8 (arg7.view.writes (Elt Ideal) G7 (pb 32).1) (arg8.view.writes (Elt Ideal) G8 (pb 32).2)) l)
      (idxAt (tiles arg7 arg8 (arg7.view.writes (Elt Ideal) G7 (pb 32).1) (arg8.view.writes (Elt Ideal) G8 (pb 32).2)) l) := by
  have e : tiles arg7 arg8 (arg7.view.writes (Elt Ideal) G7 (pb 32).1) (arg8.view.writes (Elt Ideal) G8 (pb 32).2) =
      fun t => tail v5 (base t) 64#32 (inner v5 (tiles arg7 arg8 G7 G8 t)) := by
    funext t
    exact pass_one arg7 arg8 G7 G8 pb id Function.injective_id off hoff inb (fun t s => tail v5 (base t) 64#32 (inner v5 s)) h0 hsucc t
  rw [e]
  exact (inner_moves v5 hv _ l).trans (tail_moves v5 hv 5 le_rfl (by decide) base 64#32 (by decide +kernel) _ l)

end

end Cert.KernelIdeal.Tile

end
-- ==== Proof.Runs.lean ====
/- What each of the sixteen loops does to the two arrays, and all of them one after the other: the whole sorting network. -/
module

public import proofs.«01_k».proof.Proof.Passes

@[expose] public section

set_option maxRecDepth 8192

noncomputable section

namespace Cert.KernelIdeal.Tile

open Idealize.ShloMosaic Idealize.ShloMosaic.TcCoe Idealize.SL.Sem Cert.KernelIdeal.Gen Idealize.ShloMosaic.SortNet Cert.Proof.Net

/-- What the stages `N` make of the contents `G7`, `G8` is what the pieces `P` written over them leave, in every lane. -/
def Runs (arg7 arg8 : Memref sig .tc .vmem S2048x128 .f32) (N : Network (2 ^ 11)) (G7 : BufTy.Contents (Elt Ideal) arg7.view.ty)
    (G8 : BufTy.Contents (Elt Ideal) arg8.view.ty) (P : Ps Ideal × Ps Ideal) : Prop :=
  ∀ l : Fin 128, Moves N (keyAt (tiles arg7 arg8 G7 G8) l) (idxAt (tiles arg7 arg8 G7 G8) l)
    (keyAt (tiles arg7 arg8 (arg7.view.writes (Elt Ideal) G7 P.1) (arg8.view.writes (Elt Ideal) G8 P.2)) l)
    (idxAt (tiles arg7 arg8 (arg7.view.writes (Elt Ideal) G7 P.1) (arg8.view.writes (Elt Ideal) G8 P.2)) l)

/-- Two pieces of the network one after the other. -/
theorem Runs.next {arg7 arg8 : Memref sig .tc .vmem S2048x128 .f32} {N N' : Network (2 ^ 11)} {G7 : BufTy.Contents (Elt Ideal) arg7.view.ty}
    {G8 : BufTy.Contents (Elt Ideal) arg8.view.ty} {P Q : Ps Ideal × Ps Ideal} (h : Runs arg7 arg8 N G7 G8 P)
    (h' : Runs arg7 arg8 N' (arg7.view.writes (Elt Ideal) G7 P.1) (arg8.view.writes (Elt Ideal) G8 P.2) Q) :
    Runs arg7 arg8 (N ++ N') G7 G8 (Q.1 ++ P.1, Q.2 ++ P.2) := by
  intro l
  have := (h l).trans (h' l)
  rw [← View.writes_append, ← View.writes_append] at this
  exact this

/-- Offsets given by the number of the tile. -/
theorem off_eq {n : ℕ} {f : Fin n → Fin 2 → ℕ} {g : Fin n → ℕ} (h : ∀ k, f k 0 = g k ∧ f k 1 = 0) (k : Fin n) : f k = ![g k, 0] := by
  funext a
  fin_cases a
  · exact (h k).1
  · exact (h k).2

/-- Where the tile of a trip starts. -/
theorem start32 : ∀ k : Fin 32, Scalar.muli (Scf.iv 0#32 1#32 k) 64#32 = base k := by decide +kernel

/-- Where the lower tile of a pair starts. -/
theorem start_pair : ∀ k : Fin 16, pairBase 0#32 k = base (lowTile 0 k) := by decide +kernel

/-- Where the upper tile of a pair starts. -/
theorem start_pair' : ∀ k : Fin 16, Scalar.addi (pairBase 0#32 k) 64#32 = base (mateT 0 (lowTile 0 k)) := by decide +kernel

/-- Where the two tiles of a long stride start. -/
theorem start_far : ∀ (u : Fin 5) (k : Fin 16), farBase (BitVec.ofNat 32 (2 ^ u.val - 1)) k = base (lowTile u k) := by decide +kernel

section

variable (𝒱 : Variants) (c : Dev nD) (bd : Option 𝒱.V) (i : grid0.Coords) (arg2 : Memref sig .tc .smem S16 .i32) (harg2 : arg2.IsWhole)
  (arg3 : Memref sig .tc .vmem S1x128x2048 .f32) (harg3 : arg3.IsWhole) (arg4 : Memref sig .tc .vmem S128x128 .f32) (harg4 : arg4.IsWhole)
  (arg5 : Memref sig .tc .vmem S1x1x1x128 .f32) (harg5 : arg5.IsWhole) (arg6 : Memref sig .tc .vmem S1x128x2048 .i32) (harg6 : arg6.IsWhole)
  (arg7 : Memref sig .tc .vmem S2048x128 .f32) (harg7 : arg7.IsWhole) (arg8 : Memref sig .tc .vmem S2048x128 .f32) (harg8 : arg8.IsWhole)
  (v5 : IVec S64x1 32) (G7 : BufTy.Contents (Elt Ideal) arg7.view.ty) (G8 : BufTy.Contents (Elt Ideal) arg8.view.ty)
  (hv : ∀ r : Fin 64, v5 (ix2 r 0) = BitVec.ofNat 32 r.val)

include hv in
/-- Loop 1 as a piece of the network. -/
theorem run1 : Runs arg7 arg8 small G7 G8 (pb_k0_t1 𝒱 c bd i arg2 harg2 arg3 harg3 arg4 harg4 arg5 harg5 arg6 harg6 arg7 harg7 arg8 harg8 v5 0#32 G7 G8 32) := fun l =>
  first_pass arg7 arg8 G7 G8 v5 hv (pb_k0_t1 𝒱 c bd i arg2 harg2 arg3 harg3 arg4 harg4 arg5 harg5 arg6 harg6 arg7 harg7 arg8 harg8 v5 0#32 G7 G8) k0_off2 k0_off2_eq k0_off2_inb rfl
    (fun j => ⟨_, pb_k0_t1_succ 𝒱 c bd i arg2 harg2 arg3 harg3 arg4 harg4 arg5 harg5 arg6 harg6 arg7 harg7 arg8 harg8 v5 0#32 G7 G8 j, (trip1 𝒱 c bd i arg2 harg2 arg3 harg3 arg4 harg4 arg5 harg5 arg6 harg6 arg7 harg7 arg8 harg8 v5 0#32 _ _ j).trans (by rw [start32 j])⟩) l

include hv in
/-- Loop 2 as a piece of the network. -/
theorem run2 : Runs arg7 arg8 (lower 6 6) G7 G8 (pb_k0_t2 𝒱 c bd i arg2 harg2 arg3 harg3 arg4 harg4 arg5 harg5 arg6 harg6 arg7 harg7 arg8 harg8 v5 0#32 G7 G8 16) := fun l =>
  merged_pass arg7 arg8 G7 G8 v5 hv 6 (by decide) (by decide) 128#32 (by decide +kernel) (pb_k0_t2 𝒱 c bd i arg2 harg2 arg3 harg3 arg4 harg4 arg5 harg5 arg6 harg6 arg7 harg7 arg8 harg8 v5 0#32 G7 G8)
    k0_off3 k0_off4 (off_eq (by decide +kernel)) (off_eq (by decide +kernel)) k0_off3_inb k0_off4_inb rfl
    (fun j => ⟨_, pb_k0_t2_succ 𝒱 c bd i arg2 harg2 arg3 harg3 arg4 harg4 arg5 harg5 arg6 harg6 arg7 harg7 arg8 harg8 v5 0#32 G7 G8 j, (trip2 𝒱 c bd i arg2 harg2 arg3 harg3 arg4 harg4 arg5 harg5 arg6 harg6 arg7 harg7 arg8 harg8 v5 0#32 _ _ j).trans (by rw [start_pair' j, start_pair j])⟩) l

/-- Loop 3 as a piece of the network. -/
theorem run3 : Runs arg7 arg8 (exch 7 7) G7 G8 (pb_k0_t3 𝒱 c bd i arg2 harg2 arg3 harg3 arg4 harg4 arg5 harg5 arg6 harg6 arg7 harg7 arg8 harg8 v5 0#32 G7 G8 16) := fun l =>
  far_pass arg7 arg8 G7 G8 7 1 (by decide) (by decide) 256#32 (by decide +kernel) (pb_k0_t3 𝒱 c bd i arg2 harg2 arg3 harg3 arg4 harg4 arg5 harg5 arg6 harg6 arg7 harg7 arg8 harg8 v5 0#32 G7 G8)
    k0_off5 k0_off6 (off_eq (by decide +kernel)) (off_eq (by decide +kernel)) k0_off5_inb k0_off6_inb rfl
    (fun j => ⟨_, pb_k0_t3_succ 𝒱 c bd i arg2 harg2 arg3 harg3 arg4 harg4 arg5 harg5 arg6 harg6 arg7 harg7 arg8 harg8 v5 0#32 G7 G8 j, (trip3 𝒱 c bd i arg2 harg2 arg3 harg3 arg4 harg4 arg5 harg5 arg6 harg6 arg7 harg7 arg8 harg8 v5 0#32 _ _ j).trans (by rw [show farBase 1#32 j = _ from start_far 1 j])⟩) l

include hv in
/-- Loop 4 as a piece of the network. -/
theorem run4 : Runs arg7 arg8 (lower 7 6) G7 G8 (pb_k0_t4 𝒱 c bd i arg2 harg2 arg3 harg3 arg4 harg4 arg5 harg5 arg6 harg6 arg7 harg7 arg8 harg8 v5 0#32 G7 G8 16) := fun l =>
  merged_pass arg7 arg8 G7 G8 v5 hv 7 (by decide) (by decide) 256#32 (by decide +kernel) (pb_k0_t4 𝒱 c bd i arg2 harg2 arg3 harg3 arg4 harg4 arg5 harg5 arg6 harg6 arg7 harg7 arg8 harg8 v5 0#32 G7 G8)
    k0_off7 k0_off8 (off_eq (by decide +kernel)) (off_eq (by decide +kernel)) k0_off7_inb k0_off8_inb rfl
    (fun j => ⟨_, pb_k0_t4_succ 𝒱 c bd i arg2 harg2 arg3 harg3 arg4 harg4 arg5 harg5 arg6 harg6 arg7 harg7 arg8 harg8 v5 0#32 G7 G8 j, (trip4 𝒱 c bd i arg2 harg2 arg3 harg3 arg4 harg4 arg5 harg5 arg6 harg6 arg7 harg7 arg8 harg8 v5 0#32 _ _ j).trans (by rw [start_pair' j, start_pair j])⟩) l

/-- Loop 5 as a piece of the network. -/
theorem run5 : Runs arg7 arg8 (exch 8 8) G7 G8 (pb_k0_t5 𝒱 c bd i arg2 harg2 arg3 harg3 arg4 harg4 arg5 harg5 arg6 harg6 arg7 harg7 arg8 harg8 v5 0#32 G7 G8 16) := fun l =>
  far_pass arg7 arg8 G7 G8 8 2 (by decide) (by decide) 512#32 (by decide +kernel) (pb_k0_t5 𝒱 c bd i arg2 harg2 arg3 harg3 arg4 harg4 arg5 harg5 arg6 harg6 arg7 harg7 arg8 harg8 v5 0#32 G7 G8)
    k0_off9 k0_off10 (off_eq (by decide +kernel)) (off_eq (by decide +kernel)) k0_off9_inb k0_off10_inb rfl
    (fun j => ⟨_, pb_k0_t5_succ 𝒱 c bd i arg2 harg2 arg3 harg3 arg4 harg4 arg5 harg5 arg6 harg6 arg7 harg7 arg8 harg8 v5 0#32 G7 G8 j, (trip5 𝒱 c bd i arg2 harg2 arg3 harg3 arg4 harg4 arg5 harg5 arg6 harg6 arg7 harg7 arg8 harg8 v5 0#32 _ _ j).trans (by rw [show farBase 3#32 j = _ from start_far 2 j])⟩) l

/-- Loop 6 as a piece of the network. -/
theorem run6 : Runs arg7 arg8 (exch 8 7) G7 G8 (pb_k0_t6 𝒱 c bd i arg2 harg2 arg3 harg3 arg4 harg4 arg5 harg5 arg6 harg6 arg7 harg7 arg8 harg8 v5 0#32 G7 G8 16) := fun l =>
  far_pass arg7 arg8 G7 G8 8 1 (by decide) (by decide) 512#32 (by decide +kernel) (pb_k0_t6 𝒱 c bd i arg2 harg2 arg3 harg3 arg4 harg4 arg5 harg5 arg6 harg6 arg7 harg7 arg8 harg8 v5 0#32 G7 G8)
    k0_off11 k0_off12 (off_eq (by decide +kernel)) (off_eq (by decide +kernel)) k0_off11_inb k0_off12_inb rfl
    (fun j => ⟨_, pb_k0_t6_succ 𝒱 c bd i arg2 harg2 arg3 harg3 arg4 harg4 arg5 harg5 arg6 harg6 arg7 harg7 arg8 harg8 v5 0#32 G7 G8 j, (trip6 𝒱 c bd i arg2 harg2 arg3 harg3 arg4 harg4 arg5 harg5 arg6 harg6 arg7 harg7 arg8 harg8 v5 0#32 _ _ j).trans (by rw [show farBase 1#32 j = _ from start_far 1 j])⟩) l

include hv in
/-- Loop 7 as a piece of the network. -/
theorem run7 : Runs arg7 arg8 (lower 8 6) G7 G8 (pb_k0_t7 𝒱 c bd i arg2 harg2 arg3 harg3 arg4 harg4 arg5 harg5 arg6 harg6 arg7 harg7 arg8 harg8 v5 0#32 G7 G8 16) := fun l =>
  merged_pass arg7 arg8 G7 G8 v5 hv 8 (by decide) (by decide) 512#32 (by decide +kernel) (pb_k0_t7 𝒱 c bd i arg2 harg2 arg3 harg3 arg4 harg4 arg5 harg5 arg6 harg6 arg7 harg7 arg8 harg8 v5 0#32 G7 G8)
    k0_off13 k0_off14 (off_eq (by decide +kernel)) (off_eq (by decide +kernel)) k0_off13_inb k0_off14_inb rfl
    (fun j => ⟨_, pb_k0_t7_succ 𝒱 c bd i arg2 harg2 arg3 harg3 arg4 harg4 arg5 harg5 arg6 harg6 arg7 harg7 arg8 harg8 v5 0#32 G7 G8 j, (trip7 𝒱 c bd i arg2 harg2 arg3 harg3 arg4 harg4 arg5 harg5 arg6 harg6 arg7 harg7 arg8 harg8 v5 0#32 _ _ j).trans (by rw [start_pair' j, start_pair j])⟩) l

/-- Loop 8 as a piece of the network. -/
theorem run8 : Runs arg7 arg8 (exch 9 9) G7 G8 (pb_k0_t8 𝒱 c bd i arg2 harg2 arg3 harg3 arg4 harg4 arg5 harg5 arg6 harg6 arg7 harg7 arg8 harg8 v5 0#32 G7 G8 16) := fun l =>
  far_pass arg7 arg8 G7 G8 9 3 (by decide) (by decide) 1024#32 (by decide +kernel) (pb_k0_t8 𝒱 c bd i arg2 harg2 arg3 harg3 arg4 harg4 arg5 harg5 arg6 harg6 arg7 harg7 arg8 harg8 v5 0#32 G7 G8)
    k0_off15 k0_off16 (off_eq (by decide +kernel)) (off_eq (by decide +kernel)) k0_off15_inb k0_off16_inb rfl
    (fun j => ⟨_, pb_k0_t8_succ 𝒱 c bd i arg2 harg2 arg3 harg3 arg4 harg4 arg5 harg5 arg6 harg6 arg7 harg7 arg8 harg8 v5 0#32 G7 G8 j, (trip8 𝒱 c bd i arg2 harg2 arg3 harg3 arg4 harg4 arg5 harg5 arg6 harg6 arg7 harg7 arg8 harg8 v5 0#32 _ _ j).trans (by rw [show farBase 7#32 j = _ from start_far 3 j])⟩) l

/-- Loop 9 as a piece of the network. -/
theorem run9 : Runs arg7 arg8 (exch 9 8) G7 G8 (pb_k0_t9 𝒱 c bd i arg2 harg2 arg3 harg3 arg4 harg4 arg5 harg5 arg6 harg6 arg7 harg7 arg8 harg8 v5 0#32 G7 G8 16) := fun l =>
  far_pass arg7 arg8 G7 G8 9 2 (by decide) (by decide) 1024#32 (by decide +kernel) (pb_k0_t9 𝒱 c bd i arg2 harg2 arg3 harg3 arg4 harg4 arg5 harg5 arg6 harg6 arg7 harg7 arg8 harg8 v5 0#32 G7 G8)
    k0_off17 k0_off18 (off_eq (by decide +kernel)) (off_eq (by decide +kernel)) k0_off17_inb k0_off18_inb rfl
    (fun j => ⟨_, pb_k0_t9_succ 𝒱 c bd i arg2 harg2 arg3 harg3 arg4 harg4 arg5 harg5 arg6 harg6 arg7 harg7 arg8 harg8 v5 0#32 G7 G8 j, (trip9 𝒱 c bd i arg2 harg2 arg3 harg3 arg4 harg4 arg5 harg5 arg6 harg6 arg7 harg7 arg8 harg8 v5 0#32 _ _ j).trans (by rw [show farBase 3#32 j = _ from start_far 2 j])⟩) l

/-- Loop 10 as a piece of the network. -/
theorem run10 : Runs arg7 arg8 (exch 9 7) G7 G8 (pb_k0_t10 𝒱 c bd i arg2 harg2 arg3 harg3 arg4 harg4 arg5 harg5 arg6 harg6 arg7 harg7 arg8 harg8 v5 0#32 G7 G8 16) := fun l =>
  far_pass arg7 arg8 G7 G8 9 1 (by decide) (by decide) 1024#32 (by decide +kernel) (pb_k0_t10 𝒱 c bd i arg2 harg2 arg3 harg3 arg4 harg4 arg5 harg5 arg6 harg6 arg7 harg7 arg8 harg8 v5 0#32 G7 G8)
    k0_off19 k0_off20 (off_eq (by decide +kernel)) (off_eq (by decide +kernel)) k0_off19_inb k0_off20_inb rfl
    (fun j => ⟨_, pb_k0_t10_succ 𝒱 c bd i arg2 harg2 arg3 harg3 arg4 harg4 arg5 harg5 arg6 harg6 arg7 harg7 arg8 harg8 v5 0#32 G7 G8 j, (trip10 𝒱 c bd i arg2 harg2 arg3 harg3 arg4 harg4 arg5 harg5 arg6 harg6 arg7 harg7 arg8 harg8 v5 0#32 _ _ j).trans (by rw [show farBase 1#32 j = _ from start_far 1 j])⟩) l

include hv in
/-- Loop 11 as a piece of the network. -/
theorem run11 : Runs arg7 arg8 (lower 9 6) G7 G8 (pb_k0_t11 𝒱 c bd i arg2 harg2 arg3 harg3 arg4 harg4 arg5 harg5 arg6 harg6 arg7 harg7 arg8 harg8 v5 0#32 G7 G8 16) := fun l =>
  merged_pass arg7 arg8 G7 G8 v5 hv 9 (by decide) (by decide) 1024#32 (by decide +kernel) (pb_k0_t11 𝒱 c bd i arg2 harg2 arg3 harg3 arg4 harg4 arg5 harg5 arg6 harg6 arg7 harg7 arg8 harg8 v5 0#32 G7 G8)
    k0_off21 k0_off22 (off_eq (by decide +kernel)) (off_eq (by decide +kernel)) k0_off21_inb k0_off22_inb rfl
    (fun j => ⟨_, pb_k0_t11_succ 𝒱 c bd i arg2 harg2 arg3 harg3 arg4 harg4 arg5 harg5 arg6 harg6 arg7 harg7 arg8 harg8 v5 0#32 G7 G8 j, (trip11 𝒱 c bd i arg2 harg2 arg3 harg3 arg4 harg4 arg5 harg5 arg6 harg6 arg7 harg7 arg8 harg8 v5 0#32 _ _ j).trans (by rw [start_pair' j, start_pair j])⟩) l

/-- Loop 12 as a piece of the network. -/
theorem run12 : Runs arg7 arg8 (exch 10 10) G7 G8 (pb_k0_t12 𝒱 c bd i arg2 harg2 arg3 harg3 arg4 harg4 arg5 harg5 arg6 harg6 arg7 harg7 arg8 harg8 v5 0#32 G7 G8 16) := fun l =>
  far_pass arg7 arg8 G7 G8 10 4 (by decide) (by decide) 2048#32 (by decide +kernel) (pb_k0_t12 𝒱 c bd i arg2 harg2 arg3 harg3 arg4 harg4 arg5 harg5 arg6 harg6 arg7 harg7 arg8 harg8 v5 0#32 G7 G8)
    k0_off23 k0_off24 (off_eq (by decide +kernel)) (off_eq (by decide +kernel)) k0_off23_inb k0_off24_inb rfl
    (fun j => ⟨_, pb_k0_t12_succ 𝒱 c bd i arg2 harg2 arg3 harg3 arg4 harg4 arg5 harg5 arg6 harg6 arg7 harg7 arg8 harg8 v5 0#32 G7 G8 j, (trip12 𝒱 c bd i arg2 harg2 arg3 harg3 arg4 harg4 arg5 harg5 arg6 harg6 arg7 harg7 arg8 harg8 v5 0#32 _ _ j).trans (by rw [show farBase 15#32 j = _ from start_far 4 j])⟩) l

/-- Loop 13 as a piece of the network. -/
theorem run13 : Runs arg7 arg8 (exch 10 9) G7 G8 (pb_k0_t13 𝒱 c bd i arg2 harg2 arg3 harg3 arg4 harg4 arg5 harg5 arg6 harg6 arg7 harg7 arg8 harg8 v5 0#32 G7 G8 16) := fun l =>
  far_pass arg7 arg8 G7 G8 10 3 (by decide) (by decide) 2048#32 (by decide +kernel) (pb_k0_t13 𝒱 c bd i arg2 harg2 arg3 harg3 arg4 harg4 arg5 harg5 arg6 harg6 arg7 harg7 arg8 harg8 v5 0#32 G7 G8)
    k0_off25 k0_off26 (off_eq (by decide +kernel)) (off_eq (by decide +kernel)) k0_off25_inb k0_off26_inb rfl
    (fun j => ⟨_, pb_k0_t13_succ 𝒱 c bd i arg2 harg2 arg3 harg3 arg4 harg4 arg5 harg5 arg6 harg6 arg7 harg7 arg8 harg8 v5 0#32 G7 G8 j, (trip13 𝒱 c bd i arg2 harg2 arg3 harg3 arg4 harg4 arg5 harg5 arg6 harg6 arg7 harg7 arg8 harg8 v5 0#32 _ _ j).trans (by rw [show farBase 7#32 j = _ from start_far 3 j])⟩) l

/-- Loop 14 as a piece of the network. -/
theorem run14 : Runs arg7 arg8 (exch 10 8) G7 G8 (pb_k0_t14 𝒱 c bd i arg2 harg2 arg3 harg3 arg4 harg4 arg5 harg5 arg6 harg6 arg7 harg7 arg8 harg8 v5 0#32 G7 G8 16) := fun l =>
  far_pass arg7 arg8 G7 G8 10 2 (by decide) (by decide) 2048#32 (by decide +kernel) (pb_k0_t14 𝒱 c bd i arg2 harg2 arg3 harg3 arg4 harg4 arg5 harg5 arg6 harg6 arg7 harg7 arg8 harg8 v5 0#32 G7 G8)
    k0_off27 k0_off28 (off_eq (by decide +kernel)) (off_eq (by decide +kernel)) k0_off27_inb k0_off28_inb rfl
    (fun j => ⟨_, pb_k0_t14_succ 𝒱 c bd i arg2 harg2 arg3 harg3 arg4 harg4 arg5 harg5 arg6 harg6 arg7 harg7 arg8 harg8 v5 0#32 G7 G8 j, (trip14 𝒱 c bd i arg2 harg2 arg3 harg3 arg4 harg4 arg5 harg5 arg6 harg6 arg7 harg7 arg8 harg8 v5 0#32 _ _ j).trans (by rw [show farBase 3#32 j = _ from start_far 2 j])⟩) l

/-- Loop 15 as a piece of the network. -/
theorem run15 : Runs arg7 arg8 (exch 10 7) G7 G8 (pb_k0_t15 𝒱 c bd i arg2 harg2 arg3 harg3 arg4 harg4 arg5 harg5 arg6 harg6 arg7 harg7 arg8 harg8 v5 0#32 G7 G8 16) := fun l =>
  far_pass arg7 arg8 G7 G8 10 1 (by decide) (by decide) 2048#32 (by decide +kernel) (pb_k0_t15 𝒱 c bd i arg2 harg2 arg3 harg3 arg4 harg4 arg5 harg5 arg6 harg6 arg7 harg7 arg8 harg8 v5 0#32 G7 G8)
    k0_off29 k0_off30 (off_eq (by decide +kernel)) (off_eq (by decide +kernel)) k0_off29_inb k0_off30_inb rfl
    (fun j => ⟨_, pb_k0_t15_succ 𝒱 c bd i arg2 harg2 arg3 harg3 arg4 harg4 arg5 harg5 arg6 harg6 arg7 harg7 arg8 harg8 v5 0#32 G7 G8 j, (trip15 𝒱 c bd i arg2 harg2 arg3 harg3 arg4 harg4 arg5 harg5 arg6 harg6 arg7 harg7 arg8 harg8 v5 0#32 _ _ j).trans (by rw [show farBase 1#32 j = _ from start_far 1 j])⟩) l

include hv in
/-- Loop 16 as a piece of the network. -/
theorem run16 : Runs arg7 arg8 (lower 10 6) G7 G8 (pb_k0_t16 𝒱 c bd i arg2 harg2 arg3 harg3 arg4 harg4 arg5 harg5 arg6 harg6 arg7 harg7 arg8 harg8 v5 0#32 G7 G8 16) := fun l =>
  merged_pass arg7 arg8 G7 G8 v5 hv 10 (by decide) (by decide) 2048#32 (by decide +kernel) (pb_k0_t16 𝒱 c bd i arg2 harg2 arg3 harg3 arg4 harg4 arg5 harg5 arg6 harg6 arg7 harg7 arg8 harg8 v5 0#32 G7 G8)
    k0_off31 k0_off32 (off_eq (by decide +kernel)) (off_eq (by decide +kernel)) k0_off31_inb k0_off32_inb rfl
    (fun j => ⟨_, pb_k0_t16_succ 𝒱 c bd i arg2 harg2 arg3 harg3 arg4 harg4 arg5 harg5 arg6 harg6 arg7 harg7 arg8 harg8 v5 0#32 G7 G8 j, (trip16 𝒱 c bd i arg2 harg2 arg3 harg3 arg4 harg4 arg5 harg5 arg6 harg6 arg7 harg7 arg8 harg8 v5 0#32 _ _ j).trans (by rw [start_pair' j, start_pair j])⟩) l

end

end Cert.KernelIdeal.Tile

end
-- ==== Proof.Sorted.lean ====
/- All sixteen loops one after the other: what the body reads back of the two arrays is the sorting network run on what it first
   stored there. -/
module

public import proofs.«01_k».proof.Proof.Runs
public import proofs.«01_k».proof.Proof.Gen.KernelIdeal.Frame

@[expose] public section

set_option maxRecDepth 8192

noncomputable section

namespace Cert.KernelIdeal.Tile

open Idealize.ShloMosaic Idealize.ShloMosaic.TcCoe Idealize.SL.Sem Cert.KernelIdeal.Gen Idealize.ShloMosaic.SortNet Cert.Proof.Net

/-- A whole array read back is its tiles. -/
theorem readCov_tile (m : Memref sig .tc .vmem S2048x128 .f32) (L : Ps Ideal) (p : Fin (2 ^ 11)) (l : Fin 128) :
    (m.view.readCov L (Rect.unit (s := S2048x128) ![0, 0] S2048x128.size inb_S2048x128_S2048x128_0_0).toLoadRect : Vec Ideal S2048x128 .f32) (ix2 p l) =
      (m.view.readAt (Elt Ideal) (Rect.unit (s := S2048x128) ![64 * (tileOf p).val, 0] S64x128.size (tile_inb (tileOf p))).toLoadRect
        (m.view.writes (Elt Ideal) m.view.junk L) : Tl Ideal) (ix2 (rowOf p) l) := by
  rw [View.readAt_unit m.view _ (tile_inb (tileOf p)) rfl (tile_inb (tileOf p))]
  rw [View.readCov, View.readAt_full m.view]
  unfold VecWindow.window
  refine congrArg (m.view.read (Elt Ideal) _) ?_
  funext a
  apply Fin.ext
  fin_cases a
  · show p.val = 64 * (p.val / 64) + 1 * (p.val % 64)
    omega
  · show l.val = 0 + 1 * l.val
    omega

/-- A whole array of keys, or of places, read back. -/
def back (m : Memref sig .tc .vmem S2048x128 .f32) (L : Ps Ideal) : Vec Ideal S2048x128 .f32 :=
  m.view.readCov L (Rect.unit (s := S2048x128) ![0, 0] S2048x128.size inb_S2048x128_S2048x128_0_0).toLoadRect

/-- The piece that is a whole array. -/
abbrev all (K : Vec Ideal S2048x128 .f32) : Ps Ideal := [⟨Rect.unit (s := S2048x128) ![0, 0] S2048x128.size inb_S2048x128_S2048x128_0_0, K⟩]

/-- What is read back of an array written whole. -/
theorem back_all (m : Memref sig .tc .vmem S2048x128 .f32) (K : Vec Ideal S2048x128 .f32) : back m (all K) = K := View.readCov_full _ _ _ _ _

/-- The keys read back after a loop. -/
theorem back_key (arg7 arg8 : Memref sig .tc .vmem S2048x128 .f32) (L : Ps Ideal) (f8 : BufTy.Contents (Elt Ideal) arg8.view.ty) (l : Fin 128) :
    (fun p : Fin (2 ^ 11) => back arg7 L (ix2 p l)) = keyAt (tiles arg7 arg8 (arg7.view.writes (Elt Ideal) arg7.view.junk L) f8) l :=
  funext fun p => readCov_tile arg7 L p l

/-- The places read back after a loop. -/
theorem back_idx (arg7 arg8 : Memref sig .tc .vmem S2048x128 .f32) (L : Ps Ideal) (f7 : BufTy.Contents (Elt Ideal) arg7.view.ty) (l : Fin 128) :
    (fun p : Fin (2 ^ 11) => back arg8 L (ix2 p l)) = idxAt (tiles arg7 arg8 f7 (arg8.view.writes (Elt Ideal) arg8.view.junk L)) l :=
  funext fun p => readCov_tile arg8 L p l

/-- The stages `N` take the arrays `K`, `I` to what the pieces `L7`, `L8` hold. -/
def Reach (arg7 arg8 : Memref sig .tc .vmem S2048x128 .f32) (K I : Vec Ideal S2048x128 .f32) (N : Network (2 ^ 11)) (L7 L8 : Ps Ideal) : Prop :=
  ∀ l : Fin 128, Moves N (fun p => K (ix2 p l)) (fun p => I (ix2 p l)) (fun p => back arg7 L7 (ix2 p l)) (fun p => back arg8 L8 (ix2 p l))

variable {arg7 arg8 : Memref sig .tc .vmem S2048x128 .f32} {K I : Vec Ideal S2048x128 .f32}

/-- A loop, by what is read back of both arrays. -/
theorem Runs.back {N' : Network (2 ^ 11)} {L7 L8 : Ps Ideal} {Q : Ps Ideal × Ps Ideal}
    (h' : Runs arg7 arg8 N' (arg7.view.writes (Elt Ideal) arg7.view.junk L7) (arg8.view.writes (Elt Ideal) arg8.view.junk L8) Q) :
    Reach arg7 arg8 (Tile.back arg7 L7) (Tile.back arg8 L8) N' (Q.1 ++ L7) (Q.2 ++ L8) := by
  intro l
  have b := h' l
  rw [← View.writes_append, ← View.writes_append, ← back_key, ← back_key, ← back_idx, ← back_idx] at b
  exact b

/-- One more piece of the network. -/
theorem Reach.next {N N' : Network (2 ^ 11)} {L7 L8 : Ps Ideal} {Q : Ps Ideal × Ps Ideal} (h : Reach arg7 arg8 K I N L7 L8)
    (h' : Runs arg7 arg8 N' (arg7.view.writes (Elt Ideal) arg7.view.junk L7) (arg8.view.writes (Elt Ideal) arg8.view.junk L8) Q) :
    Reach arg7 arg8 K I (N ++ N') (Q.1 ++ L7) (Q.2 ++ L8) :=
  fun l => (h l).trans (h'.back l)

/-- The first piece of the network. -/
theorem Reach.first {N' : Network (2 ^ 11)} {Q : Ps Ideal × Ps Ideal}
    (h' : Runs arg7 arg8 N' (arg7.view.writes (Elt Ideal) arg7.view.junk (all K)) (arg8.view.writes (Elt Ideal) arg8.view.junk (all I)) Q) :
    Reach arg7 arg8 K I N' (Q.1 ++ all K) (Q.2 ++ all I) := by
  have b := h'.back
  rw [back_all, back_all] at b
  exact b

/-- The kernel's count of the rows of a tile. -/
theorem v5_at (r : Fin 64) : kernelRun0_A.sl.v5 (ix2 r 0) = BitVec.ofNat 32 r.val := by
  pointwise [kernelRun0_A.sl.v5]

section

variable (c : Dev nD) (i : grid0.Coords) (arg2 : Memref sig .tc .smem S16 .i32) (harg2 : arg2.IsWhole)
  (arg3 : Memref sig .tc .vmem S1x128x2048 .f32) (harg3 : arg3.IsWhole) (arg4 : Memref sig .tc .vmem S128x128 .f32) (harg4 : arg4.IsWhole)
  (arg5 : Memref sig .tc .vmem S1x1x1x128 .f32) (harg5 : arg5.IsWhole) (arg6 : Memref sig .tc .vmem S1x128x2048 .i32) (harg6 : arg6.IsWhole)
  (arg7 : Memref sig .tc .vmem S2048x128 .f32) (harg7 : arg7.IsWhole) (arg8 : Memref sig .tc .vmem S2048x128 .f32) (harg8 : arg8.IsWhole)
  (x0 : Vec Ideal S16 .i32) (x1 : Vec Ideal S1x128x2048 .f32)

/-- What the body reads back after the sixteen loops is the sorted keys with their places. -/
theorem sorted_moves (l : Fin 128) :
    Moves whole
      (fun p => k0_pay463 (kernelRun0_A.sl.r c i arg2 harg2 x0) (View.readAt (Elt Ideal) arg3.view
        (Rect.unit (s := S1x128x2048) ![0, 0, 0] S1x128x2048.size inb_S1x128x2048_S1x128x2048_0_0_0).toLoadRect (harg3.unread x1)) (ix2 p l))
      (fun p => k0_pay464 (F := Ideal) (ix2 p l))
      (fun p => kernelRun0_A.sl.v55 c i arg2 harg2 arg3 harg3 arg4 harg4 arg5 harg5 arg6 harg6 arg7 harg7 arg8 harg8 x0 x1 (ix2 p l))
      (fun p => kernelRun0_A.sl.v56 c i arg2 harg2 arg3 harg3 arg4 harg4 arg5 harg5 arg6 harg6 arg7 harg7 arg8 harg8 x0 x1 (ix2 p l)) := by
  have R := (Reach.first (arg7 := arg7) (arg8 := arg8)
    (K := k0_pay463 (kernelRun0_A.sl.r c i arg2 harg2 x0) (View.readAt (Elt Ideal) arg3.view
        (Rect.unit (s := S1x128x2048) ![0, 0, 0] S1x128x2048.size inb_S1x128x2048_S1x128x2048_0_0_0).toLoadRect (harg3.unread x1)))
    (I := k0_pay464 (F := Ideal))
    (run1 Variants.none c none i arg2 harg2 arg3 harg3 arg4 harg4 arg5 harg5 arg6 harg6 arg7 harg7 arg8 harg8 kernelRun0_A.sl.v5 _ _ v5_at))
  replace R := R.next (run2 Variants.none c none i arg2 harg2 arg3 harg3 arg4 harg4 arg5 harg5 arg6 harg6 arg7 harg7 arg8 harg8 kernelRun0_A.sl.v5 _ _ v5_at)
  replace R := R.next (run3 Variants.none c none i arg2 harg2 arg3 harg3 arg4 harg4 arg5 harg5 arg6 harg6 arg7 harg7 arg8 harg8 kernelRun0_A.sl.v5 _ _)
  replace R := R.next (run4 Variants.none c none i arg2 harg2 arg3 harg3 arg4 harg4 arg5 harg5 arg6 harg6 arg7 harg7 arg8 harg8 kernelRun0_A.sl.v5 _ _ v5_at)
  replace R := R.next (run5 Variants.none c none i arg2 harg2 arg3 harg3 arg4 harg4 arg5 harg5 arg6 harg6 arg7 harg7 arg8 harg8 kernelRun0_A.sl.v5 _ _)
  replace R := R.next (run6 Variants.none c none i arg2 harg2 arg3 harg3 arg4 harg4 arg5 harg5 arg6 harg6 arg7 harg7 arg8 harg8 kernelRun0_A.sl.v5 _ _)
  replace R := R.next (run7 Variants.none c none i arg2 harg2 arg3 harg3 arg4 harg4 arg5 harg5 arg6 harg6 arg7 harg7 arg8 harg8 kernelRun0_A.sl.v5 _ _ v5_at)
  replace R := R.next (run8 Variants.none c none i arg2 harg2 arg3 harg3 arg4 harg4 arg5 harg5 arg6 harg6 arg7 harg7 arg8 harg8 kernelRun0_A.sl.v5 _ _)
  replace R := R.next (run9 Variants.none c none i arg2 harg2 arg3 harg3 arg4 harg4 arg5 harg5 arg6 harg6 arg7 harg7 arg8 harg8 kernelRun0_A.sl.v5 _ _)
  replace R := R.next (run10 Variants.none c none i arg2 harg2 arg3 harg3 arg4 harg4 arg5 harg5 arg6 harg6 arg7 harg7 arg8 harg8 kernelRun0_A.sl.v5 _ _)
  replace R := R.next (run11 Variants.none c none i arg2 harg2 arg3 harg3 arg4 harg4 arg5 harg5 arg6 harg6 arg7 harg7 arg8 harg8 kernelRun0_A.sl.v5 _ _ v5_at)
  replace R := R.next (run12 Variants.none c none i arg2 harg2 arg3 harg3 arg4 harg4 arg5 harg5 arg6 harg6 arg7 harg7 arg8 harg8 kernelRun0_A.sl.v5 _ _)
  replace R := R.next (run13 Variants.none c none i arg2 harg2 arg3 harg3 arg4 harg4 arg5 harg5 arg6 harg6 arg7 harg7 arg8 harg8 kernelRun0_A.sl.v5 _ _)
  replace R := R.next (run14 Variants.none c none i arg2 harg2 arg3 harg3 arg4 harg4 arg5 harg5 arg6 harg6 arg7 harg7 arg8 harg8 kernelRun0_A.sl.v5 _ _)
  replace R := R.next (run15 Variants.none c none i arg2 harg2 arg3 harg3 arg4 harg4 arg5 harg5 arg6 harg6 arg7 harg7 arg8 harg8 kernelRun0_A.sl.v5 _ _)
  replace R := R.next (run16 Variants.none c none i arg2 harg2 arg3 harg3 arg4 harg4 arg5 harg5 arg6 harg6 arg7 harg7 arg8 harg8 kernelRun0_A.sl.v5 _ _ v5_at)
  have e : whole = small ++ lower 6 6 ++ exch 7 7 ++ lower 7 6 ++ exch 8 8 ++ exch 8 7 ++ lower 8 6 ++ exch 9 9 ++ exch 9 8 ++ exch 9 7 ++ lower 9 6
      ++ exch 10 10 ++ exch 10 9 ++ exch 10 8 ++ exch 10 7 ++ lower 10 6 := by
    show small ++ lower 6 6 ++ (exch 7 7 ++ lower 7 6) ++ (exch 8 8 ++ (exch 8 7 ++ lower 8 6)) ++ (exch 9 9 ++ (exch 9 8 ++ (exch 9 7 ++ lower 9 6)))
      ++ (exch 10 10 ++ (exch 10 9 ++ (exch 10 8 ++ (exch 10 7 ++ lower 10 6)))) = _
    simp only [List.append_assoc]
  rw [e]
  exact R l

end

end Cert.KernelIdeal.Tile

end
-- ==== Proof.Fixups.lean ====
/- The two rounds over neighbouring places that follow the sort: on equal keys the lesser place goes first. -/
module

public import proofs.«01_k».proof.Proof.Sorted
public import proofs.«01_k».proof.Proof.Plain

@[expose] public section

noncomputable section

namespace Cert.KernelIdeal.Tile

open Idealize.ShloMosaic Idealize.ShloMosaic.TcCoe Cert.KernelIdeal.Gen Cert.Proof.Net Cert.Proof.Plain

/-- The place above, cyclically. -/
def up (s : Fin 2048) : Fin 2048 := ⟨(s.val + 2048 - 2047) % 2048, Nat.mod_lt _ (by omega)⟩

/-- The place below, cyclically. -/
def down (s : Fin 2048) : Fin 2048 := ⟨(s.val + 2048 - 1) % 2048, Nat.mod_lt _ (by omega)⟩

set_option maxRecDepth 30000 in
/-- The kernel's rotation of the keys by 2047 reads the place above. -/
theorem rot_up (v : Vec Ideal S2048x128 .f32) (s : Fin 2048) (l : Fin 128) : k0_pay525 v (ix2 s l) = v (ix2 (up s) l) := by
  pointwise [k0_pay525]
  rfl

/-- The kernel's rotation of the keys by 1 reads the place below. -/
theorem rot_down (v : Vec Ideal S2048x128 .f32) (s : Fin 2048) (l : Fin 128) : k0_pay526 v (ix2 s l) = v (ix2 (down s) l) := by
  pointwise [k0_pay526]
  rfl

set_option maxRecDepth 30000 in
/-- The same of the places: the rotation by 2047. -/
theorem rot_up' (v : Vec Ideal S2048x128 .f32) (s : Fin 2048) (l : Fin 128) : k0_pay527 v (ix2 s l) = v (ix2 (up s) l) := by
  pointwise [k0_pay527]
  rfl

/-- The same of the places: the rotation by 1. -/
theorem rot_down' (v : Vec Ideal S2048x128 .f32) (s : Fin 2048) (l : Fin 128) : k0_pay528 v (ix2 s l) = v (ix2 (down s) l) := by
  pointwise [k0_pay528]
  rfl

/-- The lowest bit of a place, as a word, is set at the odd places. -/
theorem odd_word : ∀ s : Fin 2048, IntOp.cmpi CmpIPredicate.eq (IntOp.andi (BitVec.ofNat 32 s.val) 1#32) 1#32 = BitVec.ofBool (decide (s.val % 2 = 1)) := by
  decide +kernel

/-- The kernel's mark of the odd places. -/
theorem odd_bit (s : Fin 2048) : k0_pay524 (ix2 s 0) = BitVec.ofBool (decide (s.val % 2 = 1)) := by
  pointwise [k0_pay524]
  exact odd_word s

/-- The kernel's mark of the places other than the first and the last. -/
theorem inner_word : ∀ s : Fin 2048, IntOp.andi (IntOp.cmpi CmpIPredicate.sgt (BitVec.ofNat 32 s.val) 0#32) (IntOp.cmpi CmpIPredicate.slt (BitVec.ofNat 32 s.val) 2047#32)
    = BitVec.ofBool (decide (0 < s.val ∧ s.val < 2047)) := by
  decide +kernel

/-- The kernel's count of the places. -/
theorem place_word (s : Fin 2048) : kernelRun0_A.sl.v57 (ix2 s 0) = BitVec.ofNat 32 s.val := by
  pointwise [kernelRun0_A.sl.v57]

/-- The neighbour in the first round, by the two rotations. -/
theorem nextEven_eq (s : Fin 2048) : nextEven s = if s.val % 2 = 1 then down s else up s := by
  unfold nextEven down up
  split
  · exact Fin.ext (show s.val - 1 = (s.val + 2048 - 1) % 2048 by omega)
  · exact Fin.ext (show (s.val + 1) % 2048 = (s.val + 2048 - 2047) % 2048 by omega)

/-- The neighbour in the second round, by the two rotations. -/
theorem nextOdd_eq (s : Fin 2048) (h : 0 < s.val ∧ s.val < 2047) : nextOdd s = if s.val % 2 = 1 then up s else down s := by
  unfold nextOdd down up
  rw [if_neg (by omega)]
  split
  · exact Fin.ext (show (s.val + 1) % 2048 = (s.val + 2048 - 2047) % 2048 by omega)
  · exact Fin.ext (show s.val - 1 = (s.val + 2048 - 1) % 2048 by omega)

/-- A choice by the mark of the odd places. -/
theorem select_odd {α : Type} (s : Fin 2048) (a b : α) :
    Scalar.select (k0_pay524 (ix2 s 0)) a b = if s.val % 2 = 1 then a else b := by
  rw [odd_bit]
  by_cases h : s.val % 2 = 1
  · rw [if_pos h, decide_eq_true h]; rfl
  · rw [if_neg h, decide_eq_false h]; rfl

/-- The place a round leaves, from the bit that tells whether it takes its neighbour's. -/
theorem round {nx : Fin 2048 → Fin 2048} (K : Fin 2048 → ℝ) (P : Fin 2048 → Fin 2048) (s : Fin 2048) (c : BitVec 1) (mate me : EReal)
    (hc : c = 1#1 ↔ (K (nx s) = K s ∧ ((s < nx s ∧ P (nx s) < P s) ∨ (nx s < s ∧ P s < P (nx s)))))
    (hmate : c = 1#1 → mate = (((P (nx s)).val : ℝ) : EReal)) (hme : me = (((P s).val : ℝ) : EReal)) :
    Scalar.select c mate me = (((P (swapIf nx K P s)).val : ℝ) : EReal) := by
  unfold swapIf Scalar.select
  by_cases h : c = 1#1
  · rw [if_pos (hc.mp h), hmate h]; exact if_pos h
  · rw [if_neg (fun e => h (hc.mpr e)), hme]; exact if_neg h

section

variable {v55 v56 : Vec Ideal S2048x128 .f32} {l : Fin 128} {K : Fin 2048 → ℝ} {P : Fin 2048 → Fin 2048}

/-- The conjunction of two bits. -/
theorem bit_and (a b : BitVec 1) : IntOp.andi a b = 1#1 ↔ a = 1#1 ∧ b = 1#1 := by
  revert a b; decide

/-- The exclusive disjunction of two bits. -/
theorem bit_xor (a b : BitVec 1) : IntOp.xori a b = 1#1 ↔ (a = 1#1 ∧ ¬ b = 1#1 ∨ ¬ a = 1#1 ∧ b = 1#1) := by
  revert a b; decide

/-- The mark of the odd places is set exactly at them. -/
theorem odd_iff (s : Fin 2048) : k0_pay524 (ix2 s 0) = 1#1 ↔ s.val % 2 = 1 := by
  rw [odd_bit]
  by_cases h : s.val % 2 = 1 <;> simp [h]

/-- The negation of a bit. -/
theorem bit_not (a : BitVec 1) : IntOp.xori a 1#1 = 1#1 ↔ ¬ a = 1#1 := by
  revert a; decide

/-- The bit of a decision. -/
theorem bit_of (p : Prop) [Decidable p] : BitVec.ofBool (decide p) = 1#1 ↔ p := by
  by_cases hp : p <;> simp [hp]

/-- Places compare as the numbers that they are. -/
theorem place_lt (a b : Fin 2048) : (((a.val : ℝ) : EReal) < ((b.val : ℝ) : EReal)) ↔ a < b := by
  rw [EReal.coe_lt_coe_iff, Nat.cast_lt]; rfl

/-- The places after the kernel's first round. -/
theorem first_round (h55 : ∀ s, v55 (ix2 s l) = ((K s : ℝ) : EReal)) (h56 : ∀ s, v56 (ix2 s l) = (((P s).val : ℝ) : EReal)) (hP : Function.Injective P)
    (s : Fin 2048) [Decidable (k0_pay529 v55 (ix2 s l) = v55 (ix2 s l))]
    [Decidable (Scalar.select (k0_pay524 (ix2 s 0)) (k0_pay528 v56 (ix2 s l)) (k0_pay527 v56 (ix2 s l)) < v56 (ix2 s l))] :
    Scalar.select (IntOp.andi (BitVec.ofBool (decide (k0_pay529 v55 (ix2 s l) = v55 (ix2 s l))))
        (IntOp.xori (BitVec.ofBool (decide (Scalar.select (k0_pay524 (ix2 s 0)) (k0_pay528 v56 (ix2 s l)) (k0_pay527 v56 (ix2 s l)) < v56 (ix2 s l)))) (k0_pay524 (ix2 s 0))))
      (Scalar.select (k0_pay524 (ix2 s 0)) (k0_pay528 v56 (ix2 s l)) (k0_pay527 v56 (ix2 s l))) (v56 (ix2 s l))
      = (((P (swapIf nextEven K P s)).val : ℝ) : EReal) := by
  have hm : Scalar.select (k0_pay524 (ix2 s 0)) (k0_pay528 v56 (ix2 s l)) (k0_pay527 v56 (ix2 s l)) = (((P (nextEven s)).val : ℝ) : EReal) := by
    rw [select_odd, rot_up', rot_down', h56, h56, nextEven_eq]
    split <;> rfl
  have hk : k0_pay529 v55 (ix2 s l) = ((K (nextEven s) : ℝ) : EReal) := by
    have : k0_pay529 v55 (ix2 s l) = Scalar.select (k0_pay524 (ix2 s 0)) (k0_pay526 v55 (ix2 s l)) (k0_pay525 v55 (ix2 s l)) := by
      pointwise [k0_pay529]
    rw [this, select_odd, rot_up, rot_down, h55, h55, nextEven_eq]
    split <;> rfl
  refine round K P s _ _ _ ?_ (fun _ => hm) (h56 s)
  rw [bit_and, bit_xor, bit_of, bit_of, odd_iff]
  simp only [hm, hk, h55, h56, EReal.coe_eq_coe_iff, place_lt]
  refine and_congr_right fun _ => ?_
  have hne : nextEven s ≠ s := by
    intro e
    have := congrArg Fin.val e
    rw [nextEven_eq] at this
    unfold up down at this
    split at this <;> simp at this <;> omega
  have hPne : P (nextEven s) ≠ P s := fun e => hne (hP e)
  have hside : (nextEven s < s) ↔ s.val % 2 = 1 := by
    rw [nextEven_eq, Fin.lt_def]
    unfold up down
    split <;> simp <;> omega
  rcases lt_or_gt_of_ne hne with h | h <;> rcases lt_or_gt_of_ne hPne with h' | h' <;>
    simp only [hside.symm, h, h', not_lt.mpr h.le, not_lt.mpr h'.le, true_and, false_and, and_true, and_false, or_true, true_or, or_false, false_or, not_true, not_false_eq_true]

set_option maxRecDepth 30000 in
/-- What the kernel stores of the places: those after both rounds, as words. -/
theorem fixed_at (h55 : ∀ s, v55 (ix2 s l) = ((K s : ℝ) : EReal)) (h56 : ∀ s, v56 (ix2 s l) = (((P s).val : ℝ) : EReal)) (hP : Function.Injective P)
    (s : Fin 2048) :
    k0_pay530 v55 v56 kernelRun0_A.sl.v57 k0_pay524 (k0_pay525 v55) (k0_pay526 v55) (k0_pay527 v56) (k0_pay528 v56) (k0_pay529 v55) (ix3 0 l s)
      = BitVec.ofNat 32 (P (fixed K P s)).val := by
  have e1 : ∀ s, ⟨(s.val + 2048 - 2047) % 2048, Nat.mod_lt _ (by omega)⟩ = up s := fun _ => rfl
  have e2 : ∀ s, ⟨(s.val + 2048 - 1) % 2048, Nat.mod_lt _ (by omega)⟩ = down s := fun _ => rfl
  pointwise [k0_pay530]
  simp only [e1, e2, first_round h55 h56 hP, place_word, inner_word]
  have hQ : Function.Injective fun j => P (swapIf nextEven K P j) := hP.comp (swapIf_involutive nextEven_involutive K P).injective
  have hm : (0 < s.val ∧ s.val < 2047) → Scalar.select (k0_pay524 (ix2 s 0)) (((P (swapIf nextEven K P (up s))).val : ℝ) : EReal)
      (((P (swapIf nextEven K P (down s))).val : ℝ) : EReal) = (((P (swapIf nextEven K P (nextOdd s))).val : ℝ) : EReal) := by
    intro hin
    rw [select_odd, nextOdd_eq s hin]
    split <;> rfl
  have hk : (0 < s.val ∧ s.val < 2047) → Scalar.select (k0_pay524 (ix2 s 0)) (k0_pay525 v55 (ix2 s l)) (k0_pay526 v55 (ix2 s l)) = ((K (nextOdd s) : ℝ) : EReal) := by
    intro hin
    rw [select_odd, rot_up, rot_down, h55, h55, nextOdd_eq s hin]
    split <;> rfl
  rw [round (nx := nextOdd) K (fun j => P (swapIf nextEven K P j)) s _ _ _ ?_ ?_ rfl]
  · exact fptosi_nat _ (P (swapIf nextEven K P (swapIf nextOdd K (fun j => P (swapIf nextEven K P j)) s))).isLt
  · rw [bit_and, bit_and, bit_not, bit_xor, bit_of, bit_of, bit_of, odd_iff]
    by_cases hin : 0 < s.val ∧ s.val < 2047
    · simp only [hm hin, hk hin, h55, EReal.coe_eq_coe_iff, place_lt, hin, and_self, and_true]
      refine and_congr_right fun _ => ?_
      have hne : nextOdd s ≠ s := by
        intro e
        have := congrArg Fin.val e
        rw [nextOdd_eq s hin] at this
        unfold up down at this
        split at this <;> simp at this <;> omega
      have hPne : P (swapIf nextEven K P (nextOdd s)) ≠ P (swapIf nextEven K P s) := fun e => hne (hQ e)
      have hside : (s < nextOdd s) ↔ s.val % 2 = 1 := by
        rw [nextOdd_eq s hin, Fin.lt_def]
        unfold up down
        split <;> simp <;> omega
      rcases lt_or_gt_of_ne hne with h | h <;> rcases lt_or_gt_of_ne hPne with h' | h' <;>
        simp only [hside.symm, h, h', not_lt.mpr h.le, not_lt.mpr h'.le, true_and, false_and, and_true, and_false, or_true, true_or, or_false, false_or, not_true, not_false_eq_true]
    · have e : nextOdd s = s := by
        unfold nextOdd
        rw [if_pos (by have := s.isLt; omega)]
      simp only [hin, and_false, e, lt_irrefl, false_and, or_self]
  · intro hc
    rw [bit_and, bit_of] at hc
    exact hm hc.2

end

end Cert.KernelIdeal.Tile

end
-- ==== Proof.Pooled.lean ====
/- What the kernel's body computes of a row once it is sorted: its keys at the start, and the pooled sum at the end. -/
module

public import proofs.«01_k».proof.Proof.Sorted
public import proofs.«01_k».proof.Proof.Plain

@[expose] public section

noncomputable section

namespace Cert.KernelIdeal.Tile

open Idealize.ShloMosaic Idealize.ShloMosaic.TcCoe Cert.KernelIdeal.Gen Cert.Proof.Net Cert.Proof.Plain

open Classical in
/-- The key the kernel sorts by. -/
def key (X : Fin 2048 → ℝ) (k : BitVec 32) (s : Fin 2048) : ℝ := if Valid k s then -X s else (3968 - 128 * X s) * 2048 + (s.val : ℝ)

/-- The quotient is at most 1 within the count. -/
theorem quot_le (k : BitVec 32) (s : Fin 2048) : ((quot k s : ℝ) : EReal) ≤ 1 ↔ Valid k s := by
  rw [← EReal.coe_one, EReal.coe_le_coe_iff]
  rfl

/-- The kernel's keys, over the reals. -/
theorem key_at (k : BitVec 32) (x : Vec Ideal S1x128x2048 .f32) (l : Fin 128) (X : Fin 2048 → ℝ) (hX : ∀ s, x (ix3 0 l s) = ((X s : ℝ) : EReal)) (s : Fin 2048) :
    k0_pay463 k x (ix2 s l) = ((key X k s : ℝ) : EReal) := by
  have hq : Ideal.div (FloatOps.sitofp FTy.f32 (BitVec.ofNat 32 s.val) : Ideal .f32) (max (((k.toInt : ℝ) : EReal) - 1) 1) = ((quot k s : ℝ) : EReal) := quot_real k s
  pointwise [k0_pay463, k0_pay461, k0_pay462]
  rw [hq, hX, drop, grid, shift, width, sitofp_place _ s.isLt]
  unfold key
  by_cases h : Valid k s
  · rw [if_pos ((quot_le k s).mpr h), if_pos h, ← EReal.coe_zero, ← EReal.coe_sub, zero_sub]
  · rw [if_neg (fun e => h ((quot_le k s).mp e)), if_neg h, ← EReal.coe_zero]
    simp only [← EReal.coe_sub, ← EReal.coe_mul, ← EReal.coe_add]
    rw [EReal.coe_eq_coe_iff]
    ring

/-- The kernel's places, as reals. -/
theorem place_at (s : Fin 2048) (l : Fin 128) : k0_pay464 (F := Ideal) (ix2 s l) = ((s.val : ℝ) : EReal) := by
  pointwise [k0_pay464, k0_pay462]
  exact sitofp_place _ s.isLt

/-- A sum of reals. -/
theorem coe_total {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- The kernel's divisor. -/
theorem divisor_eq (k : BitVec 32) : k0_pay461 (F := Ideal) k = (max ((FloatOps.sitofp .f32 k : Ideal .f32) - 1 : EReal) 1 : EReal) := by
  pointwise [k0_pay461]
  rfl

/-- The kernel's mark of the places within the count. -/
theorem within_at (k : BitVec 32) (s : Fin 2048) : k0_pay531 (F := Ideal) (k0_pay461 k) k0_pay523 (ix2 s 0) = 1#1 ↔ Valid k s := by
  have hq : Ideal.div (FloatOps.sitofp FTy.f32 (BitVec.ofNat 32 s.val) : Ideal .f32) (k0_pay461 (F := Ideal) k) = ((quot k s : ℝ) : EReal) := by rw [divisor_eq]; exact quot_real k s
  have e : k0_pay531 (F := Ideal) (k0_pay461 k) k0_pay523 (ix2 s 0) = BitVec.ofBool (decide (((quot k s : ℝ) : EReal) ≤ 1)) := by
    pointwise [k0_pay531, k0_pay523]
    rw [hq]
  rw [e]
  exact le_one_bit k s

/-- The kernel's quotient, cut off at 1. -/
theorem size_at (k : BitVec 32) (s : Fin 2048) : k0_pay533 (F := Ideal) (k0_pay461 k) k0_pay523 (ix2 s 0) = min ((quot k s : ℝ) : EReal) 1 := by
  have hq : Ideal.div (FloatOps.sitofp FTy.f32 (BitVec.ofNat 32 s.val) : Ideal .f32) (k0_pay461 (F := Ideal) k) = ((quot k s : ℝ) : EReal) := by rw [divisor_eq]; exact quot_real k s
  pointwise [k0_pay533, k0_pay523]
  rw [hq]

/-- A choice by a set bit. -/
theorem select_one {α : Type} {c : BitVec 1} {a b : α} (h : c = 1#1) : Scalar.select c a b = a := if_pos h

/-- A choice by a clear bit. -/
theorem select_zero {α : Type} {c : BitVec 1} {a b : α} (h : ¬ c = 1#1) : Scalar.select c a b = b := if_neg h

/-- The share of a table column in a place's weight. -/
def share (k : BitVec 32) (j : Fin 128) (s : Fin 2048) : ℝ :=
  (if j.val = (Cert.Proof.Plain.lo k s).val then 1 - fr k s else 0) + (if j.val = (Cert.Proof.Plain.hi k s).val then fr k s else 0)

/-- The product with the hat functions is the interpolated weight. -/
theorem share_sum (k : BitVec 32) (s : Fin 2048) (W : Fin 21 → ℝ) (V : Fin 128 → ℝ) (hV : ∀ j : Fin 21, V ⟨j.val, by omega⟩ = W j) :
    ∑ j, share k j s * V j = wv W k s := by
  have one : ∀ (v : Fin 21) (c : ℝ), ∑ j : Fin 128, (if j.val = v.val then c else 0) * V j = c * W v := by
    intro v c
    rw [Finset.sum_eq_single (⟨v.val, by omega⟩ : Fin 128)]
    · rw [if_pos rfl, hV]
    · intro j _ hj
      rw [if_neg (fun e => hj (Fin.ext e)), zero_mul]
    · intro h; exact absurd (Finset.mem_univ _) h
  unfold share wv
  simp only [add_mul, Finset.sum_add_distrib, one]

open Classical in
/-- The kernel's pooled sum at a lane, over the reals. -/
theorem pooled_at (k : BitVec 32) (v55 : Vec Ideal S2048x128 .f32) (w : Vec Ideal S128x128 .f32) (l : Fin 128) (K : Fin 2048 → ℝ)
    (h55 : ∀ s, v55 (ix2 s l) = ((K s : ℝ) : EReal)) (W : Fin 21 → ℝ) (V : Fin 128 → ℝ) (hV : ∀ j : Fin 21, V ⟨j.val, by omega⟩ = W j)
    (hw : ∀ j, w (ix2 l j) = ((V j : ℝ) : EReal)) :
    k0_pay1 (F := Ideal) (k0_pay531 (F := Ideal) (k0_pay461 (F := Ideal) k) (k0_pay523 (F := Ideal))) (k0_pay532 (F := Ideal) v55) (k0_pay533 (F := Ideal) (k0_pay461 (F := Ideal) k) (k0_pay523 (F := Ideal))) w (ix4 0 0 0 l)
      = ((∑ s, (if Valid k s then -K s * wv W k s else 0) : ℝ) : EReal) := by
  have hneg : ∀ s, k0_pay532 (F := Ideal) v55 (ix2 s l) = ((-K s : ℝ) : EReal) := by
    intro s
    pointwise [k0_pay532]
    rw [h55, ← EReal.coe_zero, ← EReal.coe_sub, zero_sub]
  have hlo : ∀ (j : Fin 128) (s : Fin 2048), ((j.val : ℝ) : EReal) = (((Cert.Proof.Plain.lo k s).val : ℝ) : EReal) ↔ j.val = (Cert.Proof.Plain.lo k s).val := by
    intro j s; rw [EReal.coe_eq_coe_iff, Nat.cast_inj]
  have hmin : ∀ s : Fin 2048, min ((((Cert.Proof.Plain.lo k s).val : ℝ) : EReal) + 1) ((20 : ℝ) : EReal) = (((Cert.Proof.Plain.hi k s).val : ℝ) : EReal) := by
    intro s
    rw [← EReal.coe_one, ← EReal.coe_add, coe_min, EReal.coe_eq_coe_iff]
    unfold Cert.Proof.Plain.hi
    push_cast
    rfl
  have hhi : ∀ (j : Fin 128) (s : Fin 2048), ((j.val : ℝ) : EReal) = (((Cert.Proof.Plain.hi k s).val : ℝ) : EReal) ↔ j.val = (Cert.Proof.Plain.hi k s).val := by
    intro j s; rw [EReal.coe_eq_coe_iff, Nat.cast_inj]
  have hj : ∀ j : Fin 128, (FloatOps.sitofp FTy.f32 (BitVec.ofNat 32 j.val) : Ideal .f32) = ((j.val : ℝ) : EReal) := fun j => sitofp_place _ (by omega)
  have hpos : ∀ s : Fin 2048, ((20 : ℝ) : EReal) * min ((quot k s : ℝ) : EReal) 1 = ((pos k s : ℝ) : EReal) := fun s => twenty ▸ pos_real k s
  pointwise [k0_pay1]
  simp only [size_at, hneg, hj, twenty, hpos, floor_real, hmin, hlo, hhi, hw]
  have term : ∀ (j : Fin 128) (s : Fin 2048), Scalar.select (k0_pay531 (F := Ideal) (k0_pay461 (F := Ideal) k) (k0_pay523 (F := Ideal)) (ix2 s 0))
      (((-K s : ℝ) : EReal) * ((if j.val = (Cert.Proof.Plain.lo k s).val then 1 - (((pos k s : ℝ) : EReal) - (((Cert.Proof.Plain.lo k s).val : ℝ) : EReal)) else 0) +
        if j.val = (Cert.Proof.Plain.hi k s).val then ((pos k s : ℝ) : EReal) - (((Cert.Proof.Plain.lo k s).val : ℝ) : EReal) else 0)) (0 : EReal)
      = ((if Valid k s then -K s * share k j s else 0 : ℝ) : EReal) := by
    intro j s
    have hf : ((pos k s : ℝ) : EReal) - (((Cert.Proof.Plain.lo k s).val : ℝ) : EReal) = ((fr k s : ℝ) : EReal) := (EReal.coe_sub _ _).symm
    have h1 : (if j.val = (Cert.Proof.Plain.lo k s).val then 1 - ((fr k s : ℝ) : EReal) else 0) = ((if j.val = (Cert.Proof.Plain.lo k s).val then 1 - fr k s else 0 : ℝ) : EReal) := by
      split <;> simp
    have h2 : (if j.val = (Cert.Proof.Plain.hi k s).val then ((fr k s : ℝ) : EReal) else 0) = ((if j.val = (Cert.Proof.Plain.hi k s).val then fr k s else 0 : ℝ) : EReal) := by
      split <;> simp
    rw [hf, h1, h2, ← EReal.coe_add, ← EReal.coe_mul]
    by_cases h : Valid k s
    · rw [select_one ((within_at k s).mpr h), if_pos h]; rfl
    · rw [select_zero (fun e => h ((within_at k s).mp e)), if_neg h]; rfl
  simp only [term]
  simp only [← coe_total, ← EReal.coe_mul]
  rw [EReal.coe_eq_coe_iff]
  simp only [Finset.sum_mul]
  rw [Finset.sum_comm]
  refine Finset.sum_congr rfl fun s _ => ?_
  split
  · simp only [mul_assoc]
    rw [← Finset.mul_sum, share_sum k s W V hV]
  · simp

end Cert.KernelIdeal.Tile

end
-- ==== Proof.Tile.lean ====
/- What the body leaves in one block of each result, at a lane. -/
module

public import proofs.«01_k».proof.Proof.Sorted
public import proofs.«01_k».proof.Proof.Fixups
public import proofs.«01_k».proof.Proof.Pooled
public import Idealize.ShloMosaic.Lib.WholeRead
public import Idealize.ShloMosaic.Lib.Pipeline.ValueKit

@[expose] public section

set_option maxRecDepth 16384

noncomputable section

namespace Cert.KernelIdeal.Tile

open Idealize.ShloMosaic Idealize.ShloMosaic.TcCoe Idealize.SL.Sem Cert.KernelIdeal Cert.KernelIdeal.Gen Cert.Proof.Net Cert.Proof.Plain Idealize.ShloMosaic.SortNet

/-- A permutation after a bijection. -/
theorem after {n : ℕ} (π : Equiv.Perm (Fin n)) (f : Fin n → Fin n) (hf : Function.Bijective f) : ∃ τ : Equiv.Perm (Fin n), ∀ s, τ s = π (f s) :=
  ⟨(Equiv.ofBijective f hf).trans π, fun _ => rfl⟩

/-- The sorted columns, over the reals. -/
theorem ascending (v55 v56 : Vec Ideal S2048x128 .f32) (l : Fin 128) (K : Fin 2048 → ℝ) {K0 I0 : Fin 2048 → EReal}
    (h : ∃ π : Equiv.Perm (Fin 2048), (∀ s : Fin 2048, v55 (ix2 s l) = K0 (π s)) ∧ (∀ s : Fin 2048, v56 (ix2 s l) = I0 (π s)) ∧
      Monotone fun s : Fin 2048 => (v55 (ix2 s l) : EReal))
    (hK : ∀ s, K0 s = ((K s : ℝ) : EReal)) (hI : ∀ s, I0 s = ((s.val : ℝ) : EReal)) :
    ∃ π : Equiv.Perm (Fin 2048), (∀ s : Fin 2048, v55 (ix2 s l) = ((K (π s) : ℝ) : EReal)) ∧ (∀ s : Fin 2048, v56 (ix2 s l) = (((π s).val : ℝ) : EReal)) ∧
      Monotone fun s : Fin 2048 => K (π s) := by
  obtain ⟨π, h1, h2, h3⟩ := h
  refine ⟨π, fun s => (h1 s).trans (hK _), fun s => (h2 s).trans (hI _), fun s t hst => ?_⟩
  have h : (v55 (ix2 s l) : EReal) ≤ v55 (ix2 t l) := h3 hst
  rw [h1, h1, hK, hK] at h
  exact EReal.coe_le_coe_iff.mp h

section
variable (c : Dev nD) (i : grid0.Coords) (arg2 : Memref sig .tc .smem S16 .i32) (harg2 : arg2.IsWhole) (arg3 : Memref sig .tc .vmem S1x128x2048 .f32) (harg3 : arg3.IsWhole) (arg4 : Memref sig .tc .vmem S128x128 .f32) (harg4 : arg4.IsWhole) (arg5 : Memref sig .tc .vmem S1x1x1x128 .f32) (harg5 : arg5.IsWhole) (arg6 : Memref sig .tc .vmem S1x128x2048 .i32) (harg6 : arg6.IsWhole) (arg7 : Memref sig .tc .vmem S2048x128 .f32) (harg7 : arg7.IsWhole) (arg8 : Memref sig .tc .vmem S2048x128 .f32) (harg8 : arg8.IsWhole)
    (x0 : Vec Ideal S16 .i32) (x1 : Vec Ideal S1x128x2048 .f32) (x2 : Vec Ideal S128x128 .f32)

/-- The count the body reads. -/
theorem count_eq (b : Fin 16) (hb : (i 0).val = b.val) : kernelRun0_A.sl.r c i arg2 harg2 x0 = x0 (ix1 b) := by
  unfold kernelRun0_A.sl.r
  rw [harg2.readAt_unread]
  refine congrArg x0 (funext fun a => ?_)
  match a with
  | ⟨0, _⟩ =>
    apply Fin.ext
    show (BitVec.ofNat 32 (i 0).val).toNat + 1 * 0 = b.val
    rw [hb, BitVec.toNat_ofNat, Nat.mod_eq_of_lt (by omega)]
    omega

/-- The block of entries, read whole. -/
theorem x_eq : (View.readAt (Elt Ideal) arg3.view (Rect.unit (s := S1x128x2048) ![0, 0, 0] S1x128x2048.size inb_S1x128x2048_S1x128x2048_0_0_0).toLoadRect (harg3.unread x1)) = x1 := by
  rw [View.readAt_eq_ld, harg3.read_unread]
  exact View.ld_unit_lit _ _ (by decide)

/-- The block of pooled sums that the body leaves. -/
theorem pooled_eq : out0_A_3 c i arg2 harg2 arg3 harg3 arg4 harg4 arg5 harg5 arg6 harg6 arg7 harg7 arg8 harg8 x0 x1 x2 =
    k0_pay1 (k0_pay531 (k0_pay461 (kernelRun0_A.sl.r c i arg2 harg2 x0)) k0_pay523)
      (k0_pay532 (kernelRun0_A.sl.v55 c i arg2 harg2 arg3 harg3 arg4 harg4 arg5 harg5 arg6 harg6 arg7 harg7 arg8 harg8 x0 x1))
      (k0_pay533 (k0_pay461 (kernelRun0_A.sl.r c i arg2 harg2 x0)) k0_pay523) x2 := by
  unfold out0_A_3
  rw [View.read_writes_eq_canon _ _ _ (cover0_A_3 c i arg2 harg2 arg3 harg3 arg4 harg4 arg5 harg5 arg6 harg6 arg7 harg7 arg8 harg8 x0 x1 x2)]
  unfold kernelRun0_A
  dsimp only
  rw [View.canon_cons_unit_lit _ _ _ (by decide), View.readAt_eq_ld, harg4.read_unread, View.ld_unit_lit _ _ (by decide)]
  rfl

/-- The block of the permutation that the body leaves. -/
theorem perm_eq : out0_A_4 c i arg2 harg2 arg3 harg3 arg4 harg4 arg5 harg5 arg6 harg6 arg7 harg7 arg8 harg8 x0 x1 x2 =
    (let v55 := kernelRun0_A.sl.v55 c i arg2 harg2 arg3 harg3 arg4 harg4 arg5 harg5 arg6 harg6 arg7 harg7 arg8 harg8 x0 x1
     let v56 := kernelRun0_A.sl.v56 c i arg2 harg2 arg3 harg3 arg4 harg4 arg5 harg5 arg6 harg6 arg7 harg7 arg8 harg8 x0 x1
     k0_pay530 v55 v56 kernelRun0_A.sl.v57 k0_pay524 (k0_pay525 v55) (k0_pay526 v55) (k0_pay527 v56) (k0_pay528 v56) (k0_pay529 v55)) := by
  unfold out0_A_4
  rw [View.read_writes_eq_canon _ _ _ (cover0_A_4 c i arg2 harg2 arg3 harg3 arg4 harg4 arg5 harg5 arg6 harg6 arg7 harg7 arg8 harg8 x0 x1 x2)]
  unfold kernelRun0_A
  dsimp only
  rw [View.canon_cons_unit_lit _ _ _ (by decide)]
  rfl

open Classical in
/-- At a lane whose keys are real, the body leaves a permutation that sorts the keys, and the places of equal keys too as far as none of
    these occurs three times, and the total of the negated keys so ordered by the weights of the places. -/
theorem lane (b : Fin 16) (hb : (i 0).val = b.val) (l : Fin 128) (k : BitVec 32) (hk : x0 (ix1 b) = k) (X : Fin 2048 → ℝ) (hX : ∀ s, x1 (ix3 0 l s) = ((X s : ℝ) : EReal))
    (W : Fin 21 → ℝ) (V : Fin 128 → ℝ) (hV : ∀ j : Fin 21, V ⟨j.val, by omega⟩ = W j) (hw : ∀ j, x2 (ix2 l j) = ((V j : ℝ) : EReal)) :
    ∃ τ : Equiv.Perm (Fin 2048), (Monotone fun s => key X k (τ s)) ∧
      (∀ B : ℝ, (∀ p q r : Fin 2048, p ≠ q → q ≠ r → p ≠ r → key X k q ≤ B → key X k p = key X k q → key X k q = key X k r → False) →
        ∀ s t, s < t → key X k (τ t) ≤ B → toLex (key X k (τ s), τ s) < toLex (key X k (τ t), τ t)) ∧
      (∀ s, out0_A_4 c i arg2 harg2 arg3 harg3 arg4 harg4 arg5 harg5 arg6 harg6 arg7 harg7 arg8 harg8 x0 x1 x2 (ix3 0 l s) = BitVec.ofNat 32 (τ s).val) ∧
      out0_A_3 c i arg2 harg2 arg3 harg3 arg4 harg4 arg5 harg5 arg6 harg6 arg7 harg7 arg8 harg8 x0 x1 x2 (ix4 0 0 0 l)
        = ((∑ s, (if Valid k s then -key X k (τ s) * wv W k s else 0) : ℝ) : EReal) := by
  have hm := sorted_moves c i arg2 harg2 arg3 harg3 arg4 harg4 arg5 harg5 arg6 harg6 arg7 harg7 arg8 harg8 x0 x1 l
  rw [x_eq arg3 harg3 x1, count_eq c i arg2 harg2 x0 b hb, hk] at hm
  rw [pooled_eq, perm_eq, count_eq c i arg2 harg2 x0 b hb, hk]
  generalize kernelRun0_A.sl.v55 c i arg2 harg2 arg3 harg3 arg4 harg4 arg5 harg5 arg6 harg6 arg7 harg7 arg8 harg8 x0 x1 = v55 at hm ⊢
  generalize kernelRun0_A.sl.v56 c i arg2 harg2 arg3 harg3 arg4 harg4 arg5 harg5 arg6 harg6 arg7 harg7 arg8 harg8 x0 x1 = v56 at hm ⊢
  obtain ⟨π, h55, h56, hKm⟩ := ascending v55 v56 l (key X k) hm.sorted (key_at k x1 l X hX) (fun s => place_at s l)
  have hP : Function.Injective fun s : Fin 2048 => (π s : Fin 2048) := π.injective
  have hkf : ∀ s, key X k (π (fixed (fun s : Fin 2048 => key X k (π s)) (fun s => π s) s)) = key X k (π s) :=
    fun s => key_fixed (fun s : Fin 2048 => key X k (π s)) (fun s => π s) s
  obtain ⟨τ, hτ⟩ : ∃ τ : Equiv.Perm (Fin 2048), ∀ s, τ s = π (fixed (fun s : Fin 2048 => key X k (π s)) (fun s => π s) s) :=
    after π _ (fixed_bijective (fun s : Fin 2048 => key X k (π s)) (fun s => π s))
  refine ⟨τ, ?_, ?_, ?_, ?_⟩
  · intro s t hst
    have h := hKm hst
    dsimp only at h ⊢
    rw [hτ, hτ, hkf, hkf]
    exact h
  · intro B h3 s t hst hB
    rw [hτ, hkf] at hB
    have h := fixed_ascending (fun s : Fin 2048 => key X k (π s)) hKm (fun s => π s) hP B (fun p q r hpq hqr hb e1 e2 =>
      h3 (π p) (π q) (π r) (fun e => by have := congrArg Fin.val (hP e); omega) (fun e => by have := congrArg Fin.val (hP e); omega)
        (fun e => by have := congrArg Fin.val (hP e); omega) hb e1 e2) s t hst hB
    rw [hτ, hτ, hkf, hkf]
    exact h
  · intro s
    rw [hτ]
    exact fixed_at h55 h56 hP s
  · rw [pooled_at k v55 x2 l (fun s => key X k (π s)) h55 W V hV hw]
    refine congrArg _ (Finset.sum_congr rfl fun s _ => ?_)
    rw [hτ, hkf]

end

end Cert.KernelIdeal.Tile

end
-- ==== Proof.Match.lean ====
/- The kernel's keys put the places of a row in the order in which the reference's stable sort puts them. -/
module

public import proofs.«01_k».proof.Proof.Pre
public import proofs.«01_k».proof.Proof.Tile

@[expose] public section

noncomputable section

namespace Cert.Proof.Match

open Cert.Proof.Net Cert.Proof.Plain Cert.KernelIdeal.Tile Cert.Pre_sortable

variable (X : Fin 2048 → ℝ) (k : BitVec 32) (hb : ∀ s, |X s| ≤ 30) (hi : ∀ s, ¬ Valid k s → ((⌊X s * 128⌋ : ℤ) : ℝ) = X s * 128)

include hb in
/-- Within the count a key is the negated entry, and is small. -/
theorem key_valid (s : Fin 2048) (h : Valid k s) : key X k s = -X s ∧ key X k s ≤ 30 := by
  have e : key X k s = -X s := if_pos h
  have := abs_le.mp (hb s)
  exact ⟨e, by rw [e]; linarith⟩

include hb hi in
/-- Beyond the count a key is a whole number that holds both the entry and the place. -/
theorem key_masked (s : Fin 2048) (h : ¬ Valid k s) :
    ∃ z : ℤ, 128 ≤ z ∧ X s = (3968 - (z : ℝ)) / 128 ∧ key X k s = ((z * 2048 + (s.val : ℤ) : ℤ) : ℝ) := by
  refine ⟨3968 - ⌊X s * 128⌋, ?_, ?_, ?_⟩
  · have := abs_le.mp (hb s)
    have : (⌊X s * 128⌋ : ℝ) ≤ 3840 := by rw [hi s h]; linarith
    have : ⌊X s * 128⌋ ≤ 3840 := by exact_mod_cast this
    omega
  · push_cast
    rw [hi s h]
    ring
  · have e : key X k s = (3968 - 128 * X s) * 2048 + (s.val : ℝ) := if_neg h
    rw [e]
    push_cast
    rw [hi s h]
    ring

include hb in
/-- Beyond the count a key is larger than any within it. -/
theorem key_large (s : Fin 2048) (h : ¬ Valid k s) : 30 < key X k s := by
  have e : key X k s = (3968 - 128 * X s) * 2048 + (s.val : ℝ) := if_neg h
  have := abs_le.mp (hb s)
  have : (0 : ℝ) ≤ (s.val : ℝ) := Nat.cast_nonneg _
  rw [e]
  linarith

include hb hi in
/-- Two equal keys are of entries within the count. -/
theorem key_equal (p q : Fin 2048) (hpq : p ≠ q) (e : key X k p = key X k q) : Valid k p ∧ Valid k q ∧ X p = X q := by
  by_cases hp : Valid k p <;> by_cases hq : Valid k q
  · refine ⟨hp, hq, ?_⟩
    rw [(key_valid X k hb p hp).1, (key_valid X k hb q hq).1] at e
    exact neg_injective e
  · have := (key_valid X k hb p hp).2
    have := key_large X k hb q hq
    linarith
  · have := (key_valid X k hb q hq).2
    have := key_large X k hb p hp
    linarith
  · obtain ⟨y, -, -, ey⟩ := key_masked X k hb hi p hp
    obtain ⟨z, -, -, ez⟩ := key_masked X k hb hi q hq
    rw [ey, ez] at e
    have e : y * 2048 + (p.val : ℤ) = z * 2048 + (q.val : ℤ) := by exact_mod_cast e
    have := p.isLt
    have := q.isLt
    exact absurd (Fin.ext (by omega)) hpq

include hb in
/-- A key is small only within the count. -/
theorem small_iff (s : Fin 2048) : key X k s ≤ 30 ↔ Valid k s :=
  ⟨fun h => by_contra fun hv => absurd h (not_le.mpr (key_large X k hb s hv)), fun h => (key_valid X k hb s h).2⟩

include hb in
/-- Where no three entries are equal, no three small keys are. -/
theorem no_three_small (hn : ∀ p q r : Fin 2048, p ≠ q → q ≠ r → p ≠ r → entry X k p = entry X k q → entry X k q = entry X k r → False)
    (p q r : Fin 2048) (hpq : p ≠ q) (hqr : q ≠ r) (hpr : p ≠ r) (h : key X k q ≤ 30) (e1 : key X k p = key X k q) (e2 : key X k q = key X k r) : False := by
  have ent : ∀ s, key X k s ≤ 30 → entry X k s = -key X k s := fun s h => by
    have v := (small_iff X k hb s).mp h
    rw [(key_valid X k hb s v).1, neg_neg]
    exact if_pos v
  exact hn p q r hpq hqr hpr (by rw [ent p (e1.trans_le h), ent q h, e1]) (by rw [ent q h, ent r (e2.symm.trans_le h), e2])

include hb hi in
/-- Where no three entries are equal, no three keys are. -/
theorem no_three_keys (hn : ∀ p q r : Fin 2048, p ≠ q → q ≠ r → p ≠ r → entry X k p = entry X k q → entry X k q = entry X k r → False)
    (p q r : Fin 2048) (hpq : p ≠ q) (hqr : q ≠ r) (hpr : p ≠ r) (e1 : key X k p = key X k q) (e2 : key X k q = key X k r) : False := by
  obtain ⟨vp, vq, x1⟩ := key_equal X k hb hi p q hpq e1
  obtain ⟨-, vr, x2⟩ := key_equal X k hb hi q r hqr e2
  have ent : ∀ s, Valid k s → entry X k s = X s := fun s h => if_pos h
  exact hn p q r hpq hqr hpr (by rw [ent p vp, ent q vq, x1]) (by rw [ent q vq, ent r vr, x2])

/-- Within the count nothing is subtracted. -/
theorem low_valid (s : Fin 2048) (h : Valid k s) : Plain.low X k s = X s := if_pos h

/-- Beyond the count 99999 is subtracted. -/
theorem low_masked (s : Fin 2048) (h : ¬ Valid k s) : Plain.low X k s = X s - 99999 := if_neg h

include hb hi in
/-- The kernel's order of the places is the reference's. -/
theorem order_agrees (i j : Fin 2048) (h : toLex (key X k i, i) < toLex (key X k j, j)) :
    toLex (-Plain.low X k i, i) < toLex (-Plain.low X k j, j) := by
  rw [Prod.Lex.toLex_lt_toLex] at h ⊢
  dsimp only at h ⊢
  have bi := abs_le.mp (hb i)
  have bj := abs_le.mp (hb j)
  by_cases vi : Valid k i <;> by_cases vj : Valid k j
  · rw [(key_valid X k hb i vi).1, (key_valid X k hb j vj).1] at h
    rw [low_valid X k i vi, low_valid X k j vj]
    exact h
  · rw [low_valid X k i vi, low_masked X k j vj]
    left
    linarith
  · have h1 := (key_valid X k hb j vj).2
    have h2 := key_large X k hb i vi
    rcases h with h | ⟨h, -⟩ <;> linarith
  · obtain ⟨y, -, xy, ey⟩ := key_masked X k hb hi i vi
    obtain ⟨z, -, xz, ez⟩ := key_masked X k hb hi j vj
    rw [low_masked X k i vi, low_masked X k j vj, xy, xz]
    rw [ey, ez] at h
    have ih := i.isLt
    have jh := j.isLt
    have hyz : y < z ∨ y = z ∧ i.val < j.val := by
      rcases h with h | ⟨h, hij⟩
      · have h : y * 2048 + (i.val : ℤ) < z * 2048 + (j.val : ℤ) := by exact_mod_cast h
        omega
      · have h : y * 2048 + (i.val : ℤ) = z * 2048 + (j.val : ℤ) := by exact_mod_cast h
        have hij : i.val < j.val := hij
        omega
    rcases hyz with hlt | ⟨heq, hlt⟩
    · left
      have hlt : (y : ℝ) < (z : ℝ) := by exact_mod_cast hlt
      linarith
    · exact Or.inr ⟨by rw [heq], hlt⟩

include hb in
/-- The reference's order has the entries within the count first. -/
theorem valid_first (σ : Equiv.Perm (Fin 2048)) (hσ : StrictMono fun s => toLex (-Plain.low X k (σ s), σ s)) (s : Fin 2048) :
    Valid k (σ s) ↔ Valid k s := by
  refine chosen_first (Valid k) (fun i j hij hj => Valid.of_le hij hj) σ (fun i j hij hj => ?_) s
  by_contra hi
  rcases hij.eq_or_lt with rfl | hlt
  · exact hi hj
  · have h := hσ hlt
    rw [Prod.Lex.toLex_lt_toLex] at h
    dsimp only at h
    rw [low_masked X k _ hi, low_valid X k _ hj] at h
    have bi := abs_le.mp (hb (σ i))
    have bj := abs_le.mp (hb (σ j))
    rcases h with h | ⟨h, -⟩ <;> linarith

include hb in
/-- The kernel's order has the entries within the count first. -/
theorem valid_first_key (τ : Equiv.Perm (Fin 2048)) (hτ : Monotone fun s => key X k (τ s)) (s : Fin 2048) : Valid k (τ s) ↔ Valid k s :=
  chosen_first (Valid k) (fun i j hij hj => Valid.of_le hij hj) τ (fun i j hij hj =>
    (small_iff X k hb _).mp ((hτ hij).trans ((small_iff X k hb _).mpr hj))) s

include hb in
/-- Within the count the kernel's order and the reference's have the same entry at each place. -/
theorem value_agrees (σ τ : Equiv.Perm (Fin 2048)) (hσ : StrictMono fun s => toLex (-Plain.low X k (σ s), σ s)) (hτ : Monotone fun s => key X k (τ s))
    (s : Fin 2048) (hs : Valid k s) : -key X k (τ s) = Plain.low X k (σ s) := by
  have vσ := valid_first X k hb σ hσ
  have vτ := valid_first_key X k hb τ hτ
  have h := first_unique (Valid k) (fun i j hij hj => Valid.of_le hij hj) (fun j => -X j) τ σ vτ vσ (fun i j hij hj => ?_) (fun i j hij hj => ?_) s hs
  · have h : -X (τ s) = -X (σ s) := h
    rw [(key_valid X k hb _ ((vτ s).mpr hs)).1, low_valid X k _ ((vσ s).mpr hs), h, neg_neg]
  · have h : key X k (τ i) ≤ key X k (τ j) := hτ hij
    rw [(key_valid X k hb _ ((vτ i).mpr (Valid.of_le hij hj))).1, (key_valid X k hb _ ((vτ j).mpr hj)).1] at h
    exact h
  · have h : toLex (-Plain.low X k (σ i), σ i) ≤ toLex (-Plain.low X k (σ j), σ j) := hσ.monotone hij
    rw [low_valid X k _ ((vσ i).mpr (Valid.of_le hij hj)), low_valid X k _ ((vσ j).mpr hj), Prod.Lex.toLex_le_toLex] at h
    rcases h with h | ⟨h, -⟩
    · exact h.le
    · exact h.le

include hb in
/-- Within the count the two orders agree where no three entries are equal. -/
theorem place_agrees (σ τ : Equiv.Perm (Fin 2048)) (hσ : StrictMono fun s => toLex (-Plain.low X k (σ s), σ s)) (hτ : Monotone fun s => key X k (τ s))
    (hτ' : ∀ s t, s < t → key X k (τ t) ≤ 30 → toLex (key X k (τ s), τ s) < toLex (key X k (τ t), τ t))
    (s : Fin 2048) (hs : Valid k s) : τ s = σ s := by
  have vσ := valid_first X k hb σ hσ
  have vτ := valid_first_key X k hb τ hτ
  have h := first_unique (Valid k) (fun i j hij hj => Valid.of_le hij hj) (fun j => toLex (-X j, j)) τ σ vτ vσ (fun i j hij hj => ?_) (fun i j hij hj => ?_) s hs
  · have h : toLex (-X (τ s), τ s) = toLex (-X (σ s), σ s) := h
    exact (Prod.ext_iff.mp (toLex.injective h)).2
  · rcases hij.eq_or_lt with rfl | hlt
    · exact le_rfl
    · have h := hτ' i j hlt ((small_iff X k hb _).mpr ((vτ j).mpr hj))
      rw [(key_valid X k hb _ ((vτ i).mpr (Valid.of_le hij hj))).1, (key_valid X k hb _ ((vτ j).mpr hj)).1] at h
      exact h.le
  · have h : toLex (-Plain.low X k (σ i), σ i) ≤ toLex (-Plain.low X k (σ j), σ j) := hσ.monotone hij
    rw [low_valid X k _ ((vσ i).mpr (Valid.of_le hij hj)), low_valid X k _ ((vσ j).mpr hj)] at h
    exact h

include hb in
open Classical in
/-- A term of the kernel's total is the reference's. -/
theorem term_agrees (W : Fin 21 → ℝ) (σ τ : Equiv.Perm (Fin 2048)) (hσ : StrictMono fun s => toLex (-Plain.low X k (σ s), σ s))
    (hτ : Monotone fun s => key X k (τ s)) (s : Fin 2048) :
    (if Valid k s then -key X k (τ s) * wv W k s else 0) = Plain.low X k (σ s) * wv W k s * (if Valid k s then 1 else 0) := by
  by_cases h : Valid k s
  · rw [if_pos h, if_pos h, value_agrees X k hb σ τ hσ hτ s h, mul_one]
  · rw [if_neg h, if_neg h, mul_zero]

end Cert.Proof.Match

end
-- ==== Proof.Mask.lean ====
/- What the weaker condition says of the arguments, and where the mask is set. -/
module

public import proofs.«01_k».proof.Pre_bounded
public import proofs.«01_k».proof.On_settled
public import proofs.«01_k».proof.Proof.Pre
public import Idealize.ShloMosaic.Lib.ReduceAll

@[expose] public section

noncomputable section

namespace Cert.Pre_bounded

/-- The side conditions of the weaker condition. -/
theorem facts : Facts where
  bcast_S_S16x256x2048 := by decide
  bcast_S_S256x21 := by decide

instance : Facts := facts

open Idealize.ShloMosaic Cert.Pre_sortable

variable (x : FVec Ideal S16x256x2048 .f32) (w : FVec Ideal S256x21 .f32) (n : IVec S16 32)

/-- The condition on the entries is the same as in the stronger condition. -/
theorem first_same : (fn (F := Ideal) x w n).1 = (Cert.Pre_sortable.fn (F := Ideal) x w n).1 := rfl

/-- The condition on the weights is the same as in the stronger condition. -/
theorem second_same : (fn (F := Ideal) x w n).2 = (Cert.Pre_sortable.fn (F := Ideal) x w n).2.1 := rfl

end Cert.Pre_bounded

namespace Cert.On_settled

/-- The side conditions of the mask. -/
theorem facts : Facts where
  bcast_S_S16 := by decide
  bcast_S16_S16x1x1_0 := by decide
  bcast_S16x1x1_S16x256x2048_0_1_2 := by decide
  bcast_S_S16x256x2048 := by decide
  slices_S16x256x2048_S16x256x2046_0_0_2 := by decide
  slices_S16x256x2048_S16x256x2046_0_0_0 := by decide
  reducesTo_S16x256x2046_S16x256_d2 := by decide
  h_S_ := by decide
  bcast_S_S16x2x1x128 := by decide
  bcast_S16x256_S16x256x1_0_1 := by decide
  bcast_S16x256x1_S16x256x2048_0_1_2 := by decide

instance : Facts := facts

open Idealize.ShloMosaic Idealize.ShloMosaic.TcCoe Cert.Proof.Net Cert.Proof.Plain Facts

variable (x : FVec Ideal S16x256x2048 .f32) (w : FVec Ideal S256x21 .f32) (n : IVec S16 32)

/-- Where a sorted entry differs from the one two places before it. -/
def apart : IVec S16x256x2046 1 :=
  cmpf .une (extractStridedSlice S16x256x2046 ![0, 0, 2] (Cert.Pre_sortable.sorted x n) slices_S16x256x2048_S16x256x2046_0_0_2)
    (extractStridedSlice S16x256x2046 ![0, 0, 0] (Cert.Pre_sortable.sorted x n) slices_S16x256x2048_S16x256x2046_0_0_0)

/-- The rows in which every sorted entry does. -/
def paired : IVec S16x256 1 :=
  Host.reduce IntOp.andi (apart x n) (constantI S_ 1 1#1) reducesTo_S16x256x2046_S16x256_d2 h_S_

/-- The mask on the permutation. -/
theorem second_eq : (fn (F := Ideal) x w n).2 = andi (Cert.Pre_sortable.within n)
    (broadcastInDim S16x256x2048 ![0, 1, 2] bcast_S16x256x1_S16x256x2048_0_1_2 (broadcastInDim S16x256x1 ![0, 1] bcast_S16x256_S16x256x1_0_1 (paired x n))) := rfl

/-- Where the mask is set the place is within the count, and no three entries of the row are equal. -/
theorem set_at (b : Fin 16) (ch : Fin 256) (s : Fin 2048) (h : (fn (F := Ideal) x w n).2 (ix3 b ch s) = 1#1) (X : Fin 2048 → ℝ)
    (hX : ∀ s, x (ix3 b ch s) = ((X s : ℝ) : EReal)) :
    Valid (n (ix1 b)) s ∧ ∀ p q r : Fin 2048, p ≠ q → q ≠ r → p ≠ r → Cert.Pre_sortable.entry X (n (ix1 b)) p = Cert.Pre_sortable.entry X (n (ix1 b)) q →
      Cert.Pre_sortable.entry X (n (ix1 b)) q = Cert.Pre_sortable.entry X (n (ix1 b)) r → False := by
  have e : (fn (F := Ideal) x w n).2 (ix3 b ch s) = IntOp.andi (Cert.Pre_sortable.within n (ix3 b ch s)) (paired x n (ix2 b ch)) := by
    rw [second_eq]
    pointwise
  rw [h] at e
  obtain ⟨h1, h2⟩ := IntOp.andi_eq_one.mp e.symm
  refine ⟨(Cert.Pre_sortable.within_at n b ch s).mp h1, Cert.Pre_sortable.no_three_of x n b ch X hX fun k => ?_⟩
  have h3 := Host.reduce_andi_eq_one (apart x n) (constantI S_ 1 1#1) reducesTo_S16x256x2046_S16x256_d2 h_S_ (ix2 b ch) h2 (ix3 b ch k) (by
    funext a
    match a with
    | ⟨0, _⟩ => rfl
    | ⟨1, _⟩ => rfl)
  refine Eq.trans ?_ h3
  symm
  pointwise [apart]

end Cert.On_settled

end
-- ==== Proof.RefRead.lean ====
/- The reference's host code, stage by stage, and what each stage holds at an index. -/
module

public import proofs.«01_k».proof.Proof.Gen.ReferenceIdeal.Run
public import proofs.«01_k».proof.Proof.Plain
public import proofs.«01_k».proof.Proof.Stable

@[expose] public section

noncomputable section

namespace Cert.ReferenceIdeal.Read

open Idealize.ShloMosaic Idealize.ShloMosaic.TcCoe Cert.ReferenceIdeal.Gen Cert.Proof.Net Cert.Proof.Plain

variable (x : FVec Ideal S16x256x2048 .f32) (w : FVec Ideal S256x21 .f32) (n : IVec S16 32)

/-- Each place over the count less one. -/
def quo : FVec Ideal S16x2048 .f32 :=
  Host.divf (broadcastInDim S16x2048 ![0, 1] bcast_S1x2048_S16x2048_0_1 (broadcastInDim S1x2048 ![1] bcast_S2048_S1x2048_1 (sitofp .f32 (iotaInDim S2048 32 0))))
    (broadcastInDim S16x2048 ![0, 1] bcast_S16x1_S16x2048_0_1 (broadcastInDim S16x1 ![0] bcast_S16_S16x1_0
      (maximumf (subf (sitofp .f32 n) (broadcastInDim S16 ![] bcast_S_S16 (constant S_ .f32 0x3F800000#32)))
        (broadcastInDim S16 ![] bcast_S_S16 (constant S_ .f32 0x3F800000#32)))))

/-- One where a place is within the count, zero elsewhere. -/
def mask : FVec Ideal S16x256x2048 .f32 :=
  broadcastInDim S16x256x2048 ![0, 1, 2] bcast_S16x1x2048_S16x256x2048_0_1_2 (broadcastInDim S16x1x2048 ![0, 2] bcast_S16x2048_S16x1x2048_0_2
    (uitofp .f32 (cmpf .ole (quo n) (broadcastInDim S16x2048 ![] bcast_S_S16x2048 (constant S_ .f32 0x3F800000#32)))))

/-- The entries, those beyond the count lowered. -/
def lowered : FVec Ideal S16x256x2048 .f32 :=
  addf x (mulf (subf (broadcastInDim S16x256x2048 ![] bcast_S_S16x256x2048 (constant S_ .f32 0x3F800000#32)) (mask n))
    (broadcastInDim S16x256x2048 ![] bcast_S_S16x256x2048 (constant S_ .f32 0xC7C34F80#32)))

/-- The order of the entries, largest first. -/
def order : IVec S16x256x2048 32 :=
  (Host.sort2 S16x256x2048 2 comparator_f32_i32_d2 (Host.negf (lowered x n)) (iotaInDim S16x256x2048 32 2)).2

/-- The place of each position on the table's axis. -/
def spot : FVec Ideal S16x256x2048 .f32 :=
  broadcastInDim S16x256x2048 ![0, 1, 2] bcast_S16x1x2048_S16x256x2048_0_1_2 (broadcastInDim S16x1x2048 ![0, 2] bcast_S16x2048_S16x1x2048_0_2
    (mulf (broadcastInDim S16x2048 ![] bcast_S_S16x2048 (constant S_ .f32 0x41A00000#32))
      (minimumf (quo n) (broadcastInDim S16x2048 ![] bcast_S_S16x2048 (constant S_ .f32 0x3F800000#32)))))

/-- The whole part of the position, as an integer. -/
def low : IVec S16x256x2048 32 := fptosi 32 (Host.floor (spot n))

/-- The fractional part of the position. -/
def frac : FVec Ideal S16x256x2048 .f32 := subf (spot n) (sitofp .f32 (low n))

/-- The next column, at most the last. -/
def high : IVec S16x256x2048 32 :=
  minsi (addi (low n) (broadcastInDim S16x256x2048 ![] bcast_S_S16x256x2048 (constantI S_ 32 1#32)))
    (broadcastInDim S16x256x2048 ![] bcast_S_S16x256x2048 (constantI S_ 32 20#32))

/-- The weights, repeated for each batch. -/
def table : FVec Ideal S16x256x21 .f32 :=
  broadcastInDim S16x256x21 ![0, 1, 2] bcast_S1x256x21_S16x256x21_0_1_2 (broadcastInDim S1x256x21 ![1, 2] bcast_S256x21_S1x256x21_1_2 w)

/-- A read from a row of weights. -/
abbrev take21 := take 21 gather_S16x256x21_S16x256x2048x1_S16x256x2048_n_2_01_01_2_3_111_wf 21#32 20#32

/-- A read from a row of entries. -/
def take2048 (x : FVec Ideal S16x256x2048 .f32) (idx : IVec S16x256x2048 32) : FVec Ideal S16x256x2048 .f32 := take 2048 gather_S16x256x2048_S16x256x2048x1_S16x256x2048_n_2_01_01_2_3_111_wf 2048#32 2047#32 x idx

/-- The interpolated weights. -/
def weights : FVec Ideal S16x256x2048 .f32 :=
  addf (mulf (subf (broadcastInDim S16x256x2048 ![] bcast_S_S16x256x2048 (constant S_ .f32 0x3F800000#32)) (frac n)) (take21 (table w) (low n)))
    (mulf (frac n) (take21 (table w) (high n)))

/-- The terms of the pooled sum. -/
def terms : FVec Ideal S16x256x2048 .f32 :=
  mulf (mulf (take2048 (lowered x n) (order x n)) (weights w n)) (mask n)

/-- The quotient at a place. -/
theorem quo_at (b : Fin 16) (s : Fin 2048) : quo n (ix2 b s) = ((quot (n (ix1 b)) s : ℝ) : EReal) := by
  pointwise [quo]
  exact quot_real _ _

open Classical in
/-- The mask at a place. -/
theorem mask_at (b : Fin 16) (ch : Fin 256) (s : Fin 2048) : mask n (ix3 b ch s) = (((if Valid (n (ix1 b)) s then 1 else 0 : ℝ)) : EReal) := by
  pointwise [mask]
  rw [quo_at]
  have h := le_one_bit (n (ix1 b)) s
  by_cases hv : Valid (n (ix1 b)) s
  · rw [h.mpr hv, if_pos hv]
    show (((1#1 : BitVec 1).toNat : ℝ) : EReal) = _
    simp
  · have e : BitVec.ofBool (decide (((quot (n (ix1 b)) s : ℝ) : EReal) ≤ 1)) = 0#1 := by
      rcases BitVec.eq_zero_or_eq_one (BitVec.ofBool (decide (((quot (n (ix1 b)) s : ℝ) : EReal) ≤ 1))) with e | e
      · exact e
      · exact absurd (h.mp e) hv
    rw [e, if_neg hv]
    show (((0#1 : BitVec 1).toNat : ℝ) : EReal) = _
    simp

/-- The lowered entries. -/
theorem lowered_at (b : Fin 16) (ch : Fin 256) (X : Fin 2048 → ℝ) (hX : ∀ s, x (ix3 b ch s) = ((X s : ℝ) : EReal)) (s : Fin 2048) :
    lowered x n (ix3 b ch s) = ((Cert.Proof.Plain.low X (n (ix1 b)) s : ℝ) : EReal) := by
  pointwise [lowered]
  rw [mask_at, hX, lowering, ← EReal.coe_one, ← EReal.coe_sub, ← EReal.coe_mul, ← EReal.coe_add]
  unfold Cert.Proof.Plain.low
  split
  · norm_num
  · rw [EReal.coe_eq_coe_iff]; ring

/-- The position at a place. -/
theorem spot_at (b : Fin 16) (ch : Fin 256) (s : Fin 2048) : spot n (ix3 b ch s) = ((pos (n (ix1 b)) s : ℝ) : EReal) := by
  pointwise [spot]
  rw [quo_at]
  exact pos_real _ _

/-- The whole part at a place. -/
theorem low_at (b : Fin 16) (ch : Fin 256) (s : Fin 2048) : low n (ix3 b ch s) = BitVec.ofNat 32 (lo (n (ix1 b)) s).val := by
  pointwise [low]
  rw [spot_at, floor_real]
  exact fptosi_nat _ (by have := (lo (n (ix1 b)) s).isLt; omega)

/-- The fractional part at a place. -/
theorem frac_at (b : Fin 16) (ch : Fin 256) (s : Fin 2048) : frac n (ix3 b ch s) = ((fr (n (ix1 b)) s : ℝ) : EReal) := by
  pointwise [frac]
  rw [spot_at, low_at, sitofp_place _ (by have := (lo (n (ix1 b)) s).isLt; omega), ← EReal.coe_sub]
  rfl

/-- The next column, as a word. -/
theorem next_word (v : Fin 21) : IntOp.minsi (IntOp.addi (BitVec.ofNat 32 v.val) 1#32) 20#32 = BitVec.ofNat 32 (min (v.val + 1) 20) := by
  revert v; decide +kernel

/-- The next column at a place. -/
theorem high_at (b : Fin 16) (ch : Fin 256) (s : Fin 2048) : high n (ix3 b ch s) = BitVec.ofNat 32 (hi (n (ix1 b)) s).val := by
  pointwise [high]
  rw [low_at]
  exact next_word _

/-- The repeated weights at a column. -/
theorem table_at (b : Fin 16) (ch : Fin 256) (v : Fin 21) : table w (ix3 b ch v) = w (ix2 ch v) := by
  pointwise [table]

/-- The interpolated weight at a place. -/
theorem weights_at (b : Fin 16) (ch : Fin 256) (W : Fin 21 → ℝ) (hW : ∀ v, w (ix2 ch v) = ((W v : ℝ) : EReal)) (s : Fin 2048) :
    weights w n (ix3 b ch s) = ((wv W (n (ix1 b)) s : ℝ) : EReal) := by
  have h1 : take21 (table w) (low n) (ix3 b ch s) = ((W (lo (n (ix1 b)) s) : ℝ) : EReal) :=
    (take_at 21 (by omega) (by omega) _ 21#32 20#32 rfl (table w) (low n)
      (fun j => ⟨lo (n (ix1 (j 0))) (j 2), by rw [eq_ix3 j]; exact low_at n _ _ _⟩) b ch s _ (low_at n b ch s)).trans ((table_at w b ch _).trans (hW _))
  have h2 : take21 (table w) (high n) (ix3 b ch s) = ((W (hi (n (ix1 b)) s) : ℝ) : EReal) :=
    (take_at 21 (by omega) (by omega) _ 21#32 20#32 rfl (table w) (high n)
      (fun j => ⟨hi (n (ix1 (j 0))) (j 2), by rw [eq_ix3 j]; exact high_at n _ _ _⟩) b ch s _ (high_at n b ch s)).trans ((table_at w b ch _).trans (hW _))
  pointwise [weights]
  rw [h1, h2, frac_at, ← EReal.coe_one, ← EReal.coe_sub, ← EReal.coe_mul, ← EReal.coe_mul, ← EReal.coe_add]
  rfl

/-- The reshaped pooled sum is the total of its row. -/
theorem pooled_at (t : FVec Ideal S16x256x2048 .f32) (b : Fin 16) (h : Fin 2) (o : Fin 1) (l : Fin 128) :
  (shapeCast S16x2x1x128 (Host.reduceAdd t
      (constant S_ .f32 0x00000000#32) reducesTo_S16x256x2048_S16x256_d2 h_S_) shapeCasts_S16x256_S16x2x1x128 : FVec Ideal S16x2x1x128 .f32) (ix4 b h o l) =
    ∑ k : Fin 2048, t (ix3 b ⟨h.val * 128 + l.val, by omega⟩ k) := by
  pointwise

/-- A product of three arrays, at an index. -/
theorem mul_three (u v z : FVec Ideal S16x256x2048 .f32) (j : S16x256x2048.Idx) : mulf (mulf u v) z j = (u j * v j * z j : EReal) := rfl

/-- The sort's comparison of two reals. -/
theorem comparator_real (a b : ℝ) (p q : BitVec 32) :
    (comparator_f32_i32_d2 (F := Ideal) (((a : ℝ) : EReal), p) (((b : ℝ) : EReal), q) == 1#1) = decide (a < b) := by
  have z : Ideal.ofBits .f32 0x00000000#32 = ((0 : ℝ) : EReal) := by rw [Ideal.ofBits_zero_f32]; rfl
  have can : ∀ c : ℝ, Scalar.select (FloatOps.cmpf (F := Ideal) (φ := .f32) .une ((c : ℝ) : EReal) ((c : ℝ) : EReal)) (FloatOps.ofBits (F := Ideal) .f32 0x7FC00000#32)
      (Scalar.select (FloatOps.cmpf (F := Ideal) (φ := .f32) .oeq ((c : ℝ) : EReal) (FloatOps.ofBits (F := Ideal) .f32 0x00000000#32)) (FloatOps.ofBits (F := Ideal) .f32 0x00000000#32) ((c : ℝ) : EReal)) = ((c : ℝ) : EReal) := by
    intro c
    have h1 : FloatOps.cmpf (F := Ideal) (φ := .f32) .une ((c : ℝ) : EReal) ((c : ℝ) : EReal) = 0#1 := by
      show BitVec.ofBool (decide (((c : ℝ) : EReal) ≠ ((c : ℝ) : EReal))) = 0#1
      simp
    rw [h1]
    show Scalar.select (BitVec.ofBool (decide (((c : ℝ) : EReal) = Ideal.ofBits .f32 0x00000000#32))) (Ideal.ofBits .f32 0x00000000#32) ((c : ℝ) : EReal) = _
    rw [z]
    by_cases h : c = 0
    · subst h; simp [Scalar.select]
    · have : ¬ ((c : ℝ) : EReal) = ((0 : ℝ) : EReal) := by rw [EReal.coe_eq_coe_iff]; exact h
      rw [decide_eq_false this]; rfl
  unfold comparator_f32_i32_d2
  simp only [can]
  show (BitVec.ofBool (decide (((a : ℝ) : EReal) < ((b : ℝ) : EReal))) == 1#1) = _
  by_cases h : a < b
  · rw [decide_eq_true h, decide_eq_true (EReal.coe_lt_coe_iff.mpr h)]; rfl
  · rw [decide_eq_false h, decide_eq_false (fun e => h (EReal.coe_lt_coe_iff.mp e))]; rfl

/-- The order the reference gives a row: strictly ascending in (minus the lowered entry, place). -/
theorem order_at (b : Fin 16) (ch : Fin 256) (X : Fin 2048 → ℝ) (hX : ∀ s, x (ix3 b ch s) = ((X s : ℝ) : EReal)) :
    ∃ σ : Equiv.Perm (Fin 2048), (∀ k, order x n (ix3 b ch k) = BitVec.ofNat 32 (σ k).val) ∧
      StrictMono fun k => toLex (-Cert.Proof.Plain.low X (n (ix1 b)) (σ k), σ k) := by
  obtain ⟨before, hdef⟩ : ∃ before : Fin 2048 → Fin 2048 → Bool, before = fun s t =>
    comparator_f32_i32_d2 (F := Ideal) (-lowered x n (ix3 b ch s), BitVec.ofNat 32 s.val) (-lowered x n (ix3 b ch t), BitVec.ofNat 32 t.val) == 1#1 := ⟨_, rfl⟩
  have hb : ∀ s t, before s t = decide (-Cert.Proof.Plain.low X (n (ix1 b)) s < -Cert.Proof.Plain.low X (n (ix1 b)) t) := by
    intro s t
    rw [hdef]
    show (comparator_f32_i32_d2 (F := Ideal) _ _ == 1#1) = _
    rw [lowered_at x n b ch X hX, lowered_at x n b ch X hX, ← EReal.coe_neg, ← EReal.coe_neg]
    exact comparator_real _ _ _ _
  have hm := sortedFrom_strictMono (fun s => -Cert.Proof.Plain.low X (n (ix1 b)) s) before hb
  have al : ∀ k s : Fin 2048, Shape.Idx.along (s := S16x256x2048) (ix3 b ch k) 2 s = ix3 b ch s := by
    intro k s
    funext a
    match a with
    | ⟨0, _⟩ => rfl
    | ⟨1, _⟩ => rfl
    | ⟨2, _⟩ => rfl
  obtain ⟨σ, hσ⟩ : ∃ σ : Equiv.Perm (Fin 2048), ⇑σ = sortedFrom before := sortedFrom_perm before
  rw [← hσ] at hm
  refine ⟨σ, fun k => ?_, hm⟩
  rw [hσ]
  have at2 : ∀ v : Fin 2048, ((Shape.Idx.along (s := S16x256x2048) (ix3 b ch k) 2 v) 2).val = v.val := fun v => by rw [al]; rfl
  obtain ⟨before', hdef'⟩ : ∃ before' : Fin 2048 → Fin 2048 → Bool, before' = fun s t =>
      comparator_f32_i32_d2 (F := Ideal) (-lowered x n (Shape.Idx.along (s := S16x256x2048) (ix3 b ch k) 2 s), BitVec.ofNat 32 ((Shape.Idx.along (s := S16x256x2048) (ix3 b ch k) 2 s) 2).val)
        (-lowered x n (Shape.Idx.along (s := S16x256x2048) (ix3 b ch k) 2 t), BitVec.ofNat 32 ((Shape.Idx.along (s := S16x256x2048) (ix3 b ch k) 2 t) 2).val) == 1#1 := ⟨_, rfl⟩
  have hbe : before' = before := by
    funext s t
    rw [hdef, hdef']
    show (comparator_f32_i32_d2 (F := Ideal) (-lowered x n (Shape.Idx.along (s := S16x256x2048) (ix3 b ch k) 2 s), BitVec.ofNat 32 ((Shape.Idx.along (s := S16x256x2048) (ix3 b ch k) 2 s) 2).val)
        (-lowered x n (Shape.Idx.along (s := S16x256x2048) (ix3 b ch k) 2 t), BitVec.ofNat 32 ((Shape.Idx.along (s := S16x256x2048) (ix3 b ch k) 2 t) 2).val) == 1#1) = _
    rw [at2, at2, al, al]
  obtain ⟨v, hv⟩ : ∃ v : Fin 2048, v = sortedFrom before' k := ⟨_, rfl⟩
  have e : order x n (ix3 b ch k) = BitVec.ofNat 32 ((Shape.Idx.along (s := S16x256x2048) (ix3 b ch k) 2 v) 2).val := by
    rw [hv, hdef']
    rfl
  rw [e, at2, hv, hbe]

/-- A read from a row of entries at a known place. -/
theorem take2048_at (z : FVec Ideal S16x256x2048 .f32) (idx : IVec S16x256x2048 32) (h : ∀ j, ∃ v : Fin 2048, idx j = BitVec.ofNat 32 v.val)
    (b : Fin 16) (ch : Fin 256) (k v : Fin 2048) (hv : idx (ix3 b ch k) = BitVec.ofNat 32 v.val) : take2048 z idx (ix3 b ch k) = z (ix3 b ch v) :=
  take_at 2048 (by omega) (by omega) _ 2048#32 2047#32 rfl z idx h b ch k v hv

open Classical in
/-- A row of the reference: its order, and the terms of its pooled sum. -/
theorem row (b : Fin 16) (ch : Fin 256) (X : Fin 16 → Fin 256 → Fin 2048 → ℝ) (hX : ∀ b ch s, x (ix3 b ch s) = ((X b ch s : ℝ) : EReal)) (W : Fin 21 → ℝ)
    (hW : ∀ v, w (ix2 ch v) = ((W v : ℝ) : EReal)) :
    ∃ σ : Equiv.Perm (Fin 2048), (∀ k, order x n (ix3 b ch k) = BitVec.ofNat 32 (σ k).val) ∧
      (StrictMono fun k => toLex (-Cert.Proof.Plain.low (X b ch) (n (ix1 b)) (σ k), σ k)) ∧
      ∀ k, terms x w n (ix3 b ch k) =
        ((Cert.Proof.Plain.low (X b ch) (n (ix1 b)) (σ k) * wv W (n (ix1 b)) k * (if Valid (n (ix1 b)) k then 1 else 0) : ℝ) : EReal) := by
  obtain ⟨σ, h1, h2⟩ := order_at x n b ch (X b ch) (hX b ch)
  refine ⟨σ, h1, h2, fun k => ?_⟩
  have ht := take2048_at (lowered x n) (order x n) (fun j => by
    obtain ⟨τ, h, _⟩ := order_at x n (j 0) (j 1) (X (j 0) (j 1)) (hX (j 0) (j 1))
    exact ⟨τ (j 2), by rw [eq_ix3 j]; exact h (j 2)⟩) b ch k (σ k) (h1 k)
  unfold terms
  rw [mul_three, ht, lowered_at x n b ch (X b ch) (hX b ch), weights_at w n b ch W hW, mask_at, ← EReal.coe_mul, ← EReal.coe_mul]

/-- The reference's pooled sums as the total of its terms. -/
theorem res_eq (m : (ℓ : Loc nD τ sig) → Buf (Elt Ideal) ℓ) (c : Dev nD) :
    Value.res_main_v50 m c = (shapeCast S16x2x1x128 (Host.reduceAdd (terms (m ((c.tc : Thread nD τ).loc main_arg0)) (m ((c.tc : Thread nD τ).loc main_arg1)) (m ((c.tc : Thread nD τ).loc main_arg2)))
      (constant S_ .f32 0x00000000#32) reducesTo_S16x256x2048_S16x256_d2 h_S_) shapeCasts_S16x256_S16x2x1x128 : FVec Ideal S16x2x1x128 .f32) := rfl

end Cert.ReferenceIdeal.Read

end
-- ==== Proof.Result.lean ====
/- The kernel's two results are the reference's, entry by entry. -/
module

public import proofs.«01_k».proof.Proof.Kern
public import proofs.«01_k».proof.Proof.Match
public import proofs.«01_k».proof.Proof.Mask
public import proofs.«01_k».proof.Proof.RefRead

@[expose] public section

noncomputable section

namespace Cert.Proof.Result

open Idealize.ShloMosaic Idealize.ShloMosaic.TcCoe Idealize.SL.Sem Cert.KernelIdeal Cert.KernelIdeal.Gen Cert.Proof.Plain Cert.Proof.Net

variable (m : (ℓ : Loc nD τ sig) → Buf (Elt Ideal) ℓ) (c : Dev nD)

/-- The arguments. -/
abbrev x : Vec Ideal S16x256x2048 .f32 := m ((c : Thread nD τ).loc main_arg0)
/-- The weights. -/
abbrev w : Vec Ideal S256x21 .f32 := m ((c : Thread nD τ).loc main_arg1)
/-- The counts. -/
abbrev n : Vec Ideal S16 .i32 := m ((c : Thread nD τ).loc main_arg2)

/-- The stronger conditions on the arguments. -/
def Fit : Prop :=
  (Cert.Pre_sortable.fn (F := Ideal) (x m c) (w m c) (n m c)).1 = (fun _ => 1#1)
    ∧ (Cert.Pre_sortable.fn (F := Ideal) (x m c) (w m c) (n m c)).2.1 = (fun _ => 1#1)
    ∧ (Cert.Pre_sortable.fn (F := Ideal) (x m c) (w m c) (n m c)).2.2.1 = (fun _ => 1#1)
    ∧ (Cert.Pre_sortable.fn (F := Ideal) (x m c) (w m c) (n m c)).2.2.2 = (fun _ => 1#1)

/-- The weaker conditions on the arguments. -/
def Bounded : Prop :=
  (Cert.Pre_bounded.fn (F := Ideal) (x m c) (w m c) (n m c)).1 = (fun _ => 1#1)
    ∧ (Cert.Pre_bounded.fn (F := Ideal) (x m c) (w m c) (n m c)).2 = (fun _ => 1#1)

/-- The stronger conditions include the weaker ones. -/
theorem Fit.toBounded {m : (ℓ : Loc nD τ sig) → Buf (Elt Ideal) ℓ} {c : Dev nD} (h : Fit m c) : Bounded m c :=
  ⟨(Cert.Pre_bounded.first_same _ _ _).trans h.1, (Cert.Pre_bounded.second_same _ _ _).trans h.2.1⟩

/-- At a batch, a half of the channels and a lane: the pooled sums agree; the permutations agree within the count where no three
    entries of the row are equal, and everywhere where, besides, the entries beyond the count are multiples of 1/128. -/
theorem agree (hf : Bounded m c) (b : Fin 16) (h : Fin 2) (l : Fin 128) :
    ∃ X : Fin 2048 → ℝ, (∀ s, x m c (ix3 b ⟨h.val * 128 + l.val, by omega⟩ s) = ((X s : ℝ) : EReal)) ∧
    ((∀ p q r : Fin 2048, p ≠ q → q ≠ r → p ≠ r → Cert.Pre_sortable.entry X (n m c (ix1 b)) p = Cert.Pre_sortable.entry X (n m c (ix1 b)) q →
        Cert.Pre_sortable.entry X (n m c (ix1 b)) q = Cert.Pre_sortable.entry X (n m c (ix1 b)) r → False) → ∀ s,
      (Valid (n m c (ix1 b)) s ∨ ∀ s, ¬ Valid (n m c (ix1 b)) s → ((⌊X s * 128⌋ : ℤ) : ℝ) = X s * 128) →
      ((dats m 0 c).arrAt 4 cfg0.N : Vec Ideal S16x256x2048 .i32) (ix3 b ⟨h.val * 128 + l.val, by omega⟩ s)
        = Cert.ReferenceIdeal.Read.order (x m c) (n m c) (ix3 b ⟨h.val * 128 + l.val, by omega⟩ s)) ∧
    ((dats m 0 c).arrAt 3 cfg0.N : Vec Ideal S16x2x1x128 .f32) (ix4 b h 0 l)
      = (∑ s : Fin 2048, (Cert.ReferenceIdeal.Read.terms (x m c) (w m c) (n m c) (ix3 b ⟨h.val * 128 + l.val, by omega⟩ s) : EReal) : EReal) := by
  obtain ⟨f1, f2⟩ := hf
  choose X hX hX30 using Cert.Pre_sortable.bounded (x m c) (w m c) (n m c) f1
  choose W hW using Cert.Pre_sortable.finite (x m c) (w m c) (n m c) f2
  obtain ⟨ch, hch⟩ : ∃ ch : Fin 256, ch = ⟨h.val * 128 + l.val, by omega⟩ := ⟨_, rfl⟩
  obtain ⟨k, hk⟩ : ∃ k : BitVec 32, n m c (ix1 b) = k := ⟨_, rfl⟩
  obtain ⟨σ, hσ, hσm, hσt⟩ := Cert.ReferenceIdeal.Read.row (x m c) (w m c) (n m c) b ch X hX (W ch) (hW ch)
  rw [hk] at hσm hσt
  obtain ⟨t, hb, hh⟩ := Whole.point_exists b h
  obtain ⟨V, hV⟩ : ∃ V : Fin 128 → ℝ, V = fun j => if hj : j.val < 21 then W ch ⟨j.val, hj⟩ else 0 := ⟨_, rfl⟩
  have hV1 : ∀ j : Fin 21, V ⟨j.val, by omega⟩ = W ch j := fun j => by rw [hV]; exact dif_pos j.isLt
  have hw : ∀ j : Fin 128, (iblk m c 2 t : Vec Ideal S128x128 .f32) (ix2 l j) = ((V j : ℝ) : EReal) := by
    intro j
    rw [Whole.weights_at m c t b h hh l j, ← hch]
    by_cases hj : j.val < 21
    · have := (Pad.padded_hit (w m c) ch ⟨j.val, hj⟩).trans (hW ch ⟨j.val, hj⟩)
      rw [hV]
      dsimp only
      rw [dif_pos hj]
      exact this
    · rw [hV]
      dsimp only
      rw [dif_neg hj]
      exact Pad.padded_miss (w m c) ch j (by omega)
  obtain ⟨τ', hτ, hτ', h4, h3⟩ := Tile.lane c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
    (iblk m c 0 t) (iblk m c 1 t) (iblk m c 2 t) b hb l k ((Whole.counts_at m c t b).trans hk) (X b ch)
    (fun s => (Whole.block_at m c t b h hb hh l s).trans (by rw [← hch]; exact hX b ch s)) (W ch) V hV1 hw
  refine ⟨X b ch, fun s => by rw [← hch]; exact hX b ch s, fun hn s hs => ?_, ?_⟩
  · rw [hk] at hn hs
    have hts : τ' s = σ s := by
      rcases hs with hs | hi
      · exact Match.place_agrees (X b ch) k (hX30 b ch) σ τ' hσm hτ (hτ' 30 (Match.no_three_small (X b ch) k (hX30 b ch) hn)) s hs
      · exact congrFun (congrArg DFunLike.coe (perm_unique (fun s => Tile.key (X b ch) k s) (fun s => -Cert.Proof.Plain.low (X b ch) k s)
          (Match.order_agrees (X b ch) k (hX30 b ch) hi) τ' σ (fun i j hij => hτ' _ (fun p q r hpq hqr hpr _ =>
            Match.no_three_keys (X b ch) k (hX30 b ch) hi hn p q r hpq hqr hpr) i j hij le_rfl) hσm)) s
    rw [Whole.second_at m c t b h hb hh l s, h4 s, ← hch, hσ s, hts]
  · rw [← hch]
    refine (Whole.first_at m c t b h hb hh l).trans (h3.trans ((Tile.coe_total _ _).trans (Finset.sum_congr rfl fun s _ => ?_)))
    rw [hσt s, Match.term_agrees (X b ch) k (hX30 b ch) (W ch) σ τ' hσm hτ s]

/-- A channel is a half and a lane. -/
theorem channel (ch : Fin 256) : (⟨ch.val / 128 * 128 + ch.val % 128, by omega⟩ : Fin 256) = ch := Fin.ext (by dsimp only; omega)

/-- Under the stronger conditions the permutations agree. -/
theorem second_eq (hf : Fit m c) : ((dats m 0 c).arrAt 4 cfg0.N : Vec Ideal S16x256x2048 .i32) = Cert.ReferenceIdeal.Read.order (x m c) (n m c) := by
  funext j
  obtain ⟨b, ch, s, rfl⟩ : ∃ b ch s, j = ix3 b ch s := ⟨_, _, _, eq_ix3 j⟩
  obtain ⟨X, hX, e, -⟩ := agree m c hf.toBounded b ⟨ch.val / 128, by omega⟩ ⟨ch.val % 128, by omega⟩
  dsimp only at hX e
  rw [channel ch] at hX e
  exact e (Cert.Pre_sortable.no_three (x m c) (w m c) (n m c) hf.2.2.2 b ch X hX) s
    (Or.inr fun s hv => Cert.Pre_sortable.whole128 (x m c) (w m c) (n m c) hf.2.2.1 b ch s (X s) (hX s) hv)

/-- Under the weaker conditions the permutations agree where the mask is set. -/
theorem second_settled (hf : Bounded m c) (j : S16x256x2048.Idx) (hj : (Cert.On_settled.fn (F := Ideal) (x m c) (w m c) (n m c)).2 j = 1#1) :
    ((dats m 0 c).arrAt 4 cfg0.N : Vec Ideal S16x256x2048 .i32) j = Cert.ReferenceIdeal.Read.order (x m c) (n m c) j := by
  obtain ⟨b, ch, s, rfl⟩ : ∃ b ch s, j = ix3 b ch s := ⟨_, _, _, eq_ix3 j⟩
  obtain ⟨X, hX, e, -⟩ := agree m c hf b ⟨ch.val / 128, by omega⟩ ⟨ch.val % 128, by omega⟩
  dsimp only at hX e
  rw [channel ch] at hX e
  obtain ⟨hs, hn⟩ := Cert.On_settled.set_at (x m c) (w m c) (n m c) b ch s hj X hX
  exact e hn s (Or.inl hs)

/-- Under the weaker conditions the pooled sums agree. -/
theorem first_eq (hf : Bounded m c) : ((dats m 0 c).arrAt 3 cfg0.N : Vec Ideal S16x2x1x128 .f32)
    = shapeCast Cert.ReferenceIdeal.S16x2x1x128 (Host.reduceAdd (Cert.ReferenceIdeal.Read.terms (x m c) (w m c) (n m c)) (constant Cert.ReferenceIdeal.S_ .f32 0x00000000#32)
      Cert.ReferenceIdeal.Facts₀.reducesTo_S16x256x2048_S16x256_d2 Cert.ReferenceIdeal.Facts₀.h_S_) Cert.ReferenceIdeal.Facts₀.shapeCasts_S16x256_S16x2x1x128 := by
  funext j
  obtain ⟨b, h, o, l, rfl⟩ : ∃ b h o l, j = ix4 b h o l := ⟨_, _, _, _, eq_ix4 j⟩
  obtain rfl : o = 0 := Subsingleton.elim _ _
  rw [Cert.ReferenceIdeal.Read.pooled_at]
  obtain ⟨-, -, -, e⟩ := agree m c hf b h l
  exact e

end Cert.Proof.Result

end
-- ==== Proof.lean ====
/- The claims: the three programs run and leave their arguments as they were, the idealized kernel is the kernel's text read over the
   extended reals, and its two results are the reference's: all of both under the condition `sortable`, and under the weaker condition
   `bounded` all pooled sums and the permutation where the mask `settled` is set. -/
module

public import proofs.«01_k».proof.Defs
public import proofs.«01_k».proof.Proof.Result
public import proofs.«01_k».proof.Proof.Gen.Kernel
public import proofs.«01_k».proof.Proof.Gen.Kernel.Frame
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The reference runs, leaves its arguments as they were, and has no semaphore. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2, sem_eq_zero_of_no_sems rfl r.2⟩) (Cert.ReferenceIdeal.Value.run m g)

/-- The two programs' results are equal. -/
theorem equal : Cert.algebraic_KernelIdeal_ReferenceIdeal_pre_sortable (hPre_sortable := Cert.Pre_sortable.facts) := by
  intro m g m' g' hpre harg
  refine ⟨fun c => (Cert.KernelIdeal.Gen.dats m 0 c).arrAt 3 Cert.KernelIdeal.cfg0.N, fun c => (Cert.KernelIdeal.Gen.dats m 0 c).arrAt 4 Cert.KernelIdeal.cfg0.N,
    Cert.KernelIdeal.Value.run_blocks m g, (θ_run _ _ _).mono (fun r h c => ?_) (Cert.ReferenceIdeal.Value.run m' g')⟩
  obtain ⟨h0, h1, h2⟩ := h c
  obtain ⟨a0, a1, a2⟩ := harg c
  refine ⟨h0.trans ?_, h1.trans ?_, h2⟩
  · refine (Cert.ReferenceIdeal.Read.res_eq m' c).trans ?_
    rw [a0, a1, a2]
    exact (Result.first_eq m c (Result.Fit.toBounded (hpre c))).symm
  · refine Eq.trans ?_ (Result.second_eq m c (hpre c)).symm
    rw [a0, a2]
    rfl

/-- Under the weaker condition the two programs' results are equal where the mask is set. -/
theorem equal_settled : Cert.algebraic_KernelIdeal_ReferenceIdeal_on_settled_pre_bounded (hPre_bounded := Cert.Pre_bounded.facts) (hOn_settled := Cert.On_settled.facts) := by
  intro m g m' g' hpre harg
  refine ⟨fun c => (Cert.KernelIdeal.Gen.dats m 0 c).arrAt 3 Cert.KernelIdeal.cfg0.N, fun c => (Cert.KernelIdeal.Gen.dats m 0 c).arrAt 4 Cert.KernelIdeal.cfg0.N,
    (θ_run _ _ _).mono (fun r h c => ?_) (Cert.KernelIdeal.Value.run_blocks m g), (θ_run _ _ _).mono (fun r h c => ?_) (Cert.ReferenceIdeal.Value.run m' g')⟩
  · obtain ⟨h0, h1, h2⟩ := h c
    exact ⟨fun i _ => congrFun h0 i, fun i _ => congrFun h1 i, h2⟩
  · obtain ⟨h0, h1, h2⟩ := h c
    obtain ⟨a0, a1, a2⟩ := harg c
    refine ⟨fun i _ => congrFun (h0.trans ?_) i, fun i hi => (congrFun (h1.trans ?_) i).trans (Result.second_settled m c (hpre c) i hi).symm, h2⟩
    · refine (Cert.ReferenceIdeal.Read.res_eq m' c).trans ?_
      rw [a0, a1, a2]
      exact (Result.first_eq m c (hpre c)).symm
    · rw [a0, a2]
      rfl

/-- Everything that is claimed. -/
theorem claim : Cert.Claim :=
  ⟨Cert.Kernel.Gen.facts, Cert.KernelIdeal.Gen.facts, Cert.ReferenceIdeal.Gen.facts, Cert.Pre_sortable.facts, Cert.Pre_bounded.facts, Cert.On_settled.facts,
    fun m g _ => Cert.Kernel.Gen.frame m g, fun m g _ => Cert.KernelIdeal.Gen.frame m g, fun m g _ => Cert.KernelIdeal.Gen.frame m g, fun m g _ => Cert.KernelIdeal.Gen.frame m g,
    fun m g _ => reference_frame m g, fun m g _ => reference_frame m g, fun m g _ => reference_frame m g, trivial, equal, equal_settled⟩

end Cert.Proof

end
